-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x1024 : Shape := ⟨2, ![1024, 1024]⟩
abbrev S7x256x1024 : Shape := ⟨3, ![7, 256, 1024]⟩
abbrev S3x7 : Shape := ⟨2, ![3, 7]⟩
abbrev S_ : Shape := ⟨0, ![]⟩
abbrev S1x1 : Shape := ⟨2, ![1, 1]⟩
abbrev S1x96x1024 : Shape := ⟨3, ![1, 96, 1024]⟩
abbrev S96x1024 : Shape := ⟨2, ![96, 1024]⟩
abbrev S1x80x1024 : Shape := ⟨3, ![1, 80, 1024]⟩
abbrev S80x1024 : Shape := ⟨2, ![80, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .local _ .vmem, ⟨0, _⟩ => ⟨S2048x1024, .f32⟩
  | .local _ .vmem, ⟨1, _⟩ => ⟨S2048x1024, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .bf16⟩
  | .local _ .vmem, ⟨5, _⟩ => ⟨S7x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v7 : BitVec 32 := Scalar.xori v5 c1_i32_2
  let c1_i32_3 : BitVec 32 := 1#32
  let v8 : BitVec 32 := Scalar.shrsi v7 c1_i32_3
  let c1_i32_4 : BitVec 32 := 1#32
  let v9 : BitVec 32 := Scalar.andi v8 c1_i32_4
  let v10 : BitVec 32 := Scalar.xori v7 v9
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v13 : BitVec 32 := Scalar.xori v5 c2_i32
  let c1_i32_7 : BitVec 32 := 1#32
  let v14 : BitVec 32 := Scalar.shrsi v13 c1_i32_7
  let c1_i32_8 : BitVec 32 := 1#32
  let v15 : BitVec 32 := Scalar.andi v14 c1_i32_8
  let v16 : BitVec 32 := Scalar.xori v13 v15
  let c1_i32_10 : BitVec 32 := 1#32
  let v17 : BitVec 32 := Scalar.muli v16 c1_i32_10
  let v18 : BitVec 32 := Scalar.addi c0_i32_11 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_15 : BitVec 32 := 1#32
  let v23 : BitVec 32 := Scalar.muli v22 c1_i32_15
  let v24 : BitVec 32 := Scalar.addi c0_i32_16 v23
  v24.toNat
def k0_off1 (d0 : Dev nD) (c1_i32_20 : BitVec 32) (c2_i32_21 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v31 : BitVec 32 := Scalar.xori v5 c1_i32_20
  let v32 : BitVec 32 := Scalar.xori v31 c2_i32_21
  let c256_i32 : BitVec 32 := 256#32
  let v33 : BitVec 32 := Scalar.muli v32 c256_i32
  let c0_i32_22 : BitVec 32 := 0#32
  let v34 : BitVec 32 := Scalar.addi v33 c0_i32_22
  let c0_i32_35 : BitVec 32 := 0#32
  ![v34.toNat, 0]
def k0_off1_at (r : Fin 7) : BitVec 32 × BitVec 32 :=
  if r.val < 3 then
    if r.val < 1 then
      (1#32, 2#32)
    else
      if r.val < 2 then
        (1#32, 6#32)
      else
        (1#32, 4#32)
  else
    if r.val < 5 then
      if r.val < 4 then
        (1#32, 0#32)
      else
        (2#32, 4#32)
    else
      if r.val < 6 then
        (2#32, 0#32)
      else
        (4#32, 0#32)
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_23 : BitVec 32 := 1#32
  let v35 : BitVec 32 := Scalar.xori v5 c1_i32_23
  let c1_i32_24 : BitVec 32 := 1#32
  let v36 : BitVec 32 := Scalar.shrsi v35 c1_i32_24
  let c1_i32_25 : BitVec 32 := 1#32
  let v37 : BitVec 32 := Scalar.andi v36 c1_i32_25
  let v38 : BitVec 32 := Scalar.xori v35 v37
  let c1_i32_31 : BitVec 32 := 1#32
  let v39 : BitVec 32 := Scalar.muli v38 c1_i32_31
  let v40 : BitVec 32 := Scalar.addi c0_i32_32 v39
  v40.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_39 : BitVec 32 := 1#32
  let v52 : BitVec 32 := Scalar.xori v5 c1_i32_39
  let c1_i32_40 : BitVec 32 := 1#32
  let v53 : BitVec 32 := Scalar.shrsi v52 c1_i32_40
  let c1_i32_41 : BitVec 32 := 1#32
  let v54 : BitVec 32 := Scalar.andi v53 c1_i32_41
  let v55 : BitVec 32 := Scalar.xori v52 v54
  let c1_i32_47 : BitVec 32 := 1#32
  let v56 : BitVec 32 := Scalar.muli v55 c1_i32_47
  let v57 : BitVec 32 := Scalar.addi c0_i32_48 v56
  v57.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_56 : BitVec 32 := 1#32
  let v69 : BitVec 32 := Scalar.xori v5 c1_i32_56
  let c1_i32_57 : BitVec 32 := 1#32
  let v70 : BitVec 32 := Scalar.shrsi v69 c1_i32_57
  let c1_i32_58 : BitVec 32 := 1#32
  let v71 : BitVec 32 := Scalar.andi v70 c1_i32_58
  let v72 : BitVec 32 := Scalar.xori v69 v71
  let c1_i32_64 : BitVec 32 := 1#32
  let v73 : BitVec 32 := Scalar.muli v72 c1_i32_64
  let v74 : BitVec 32 := Scalar.addi c0_i32_65 v73
  v74.toNat
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_73 : BitVec 32 := 1#32
  let v86 : BitVec 32 := Scalar.xori v5 c1_i32_73
  let c1_i32_74 : BitVec 32 := 1#32
  let v87 : BitVec 32 := Scalar.shrsi v86 c1_i32_74
  let c1_i32_75 : BitVec 32 := 1#32
  let v88 : BitVec 32 := Scalar.andi v87 c1_i32_75
  let v89 : BitVec 32 := Scalar.xori v86 v88
  let c1_i32_81 : BitVec 32 := 1#32
  let v90 : BitVec 32 := Scalar.muli v89 c1_i32_81
  let v91 : BitVec 32 := Scalar.addi c0_i32_82 v90
  v91.toNat
def k0_off2 (d0 : Dev nD) (c2_i32_86 : BitVec 32) (c4_i32_87 : BitVec 32) (c96_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v99 : BitVec 32 := Scalar.xori v5 c2_i32_86
  let v100 : BitVec 32 := Scalar.xori v99 c4_i32_87
  let c256_i32_88 : BitVec 32 := 256#32
  let v101 : BitVec 32 := Scalar.muli v100 c256_i32_88
  let v102 : BitVec 32 := Scalar.addi v101 c96_i32
  let c0_i32_101 : BitVec 32 := 0#32
  ![v102.toNat, 0]
def k0_off2_at (r : Fin 14) : BitVec 32 × BitVec 32 × BitVec 32 :=
  if r.val < 7 then
    if r.val < 3 then
      if r.val < 1 then
        (2#32, 4#32, 96#32)
      else
        if r.val < 2 then
          (2#32, 5#32, 96#32)
        else
          (2#32, 1#32, 96#32)
    else
      if r.val < 5 then
        if r.val < 4 then
          (2#32, 0#32, 96#32)
        else
          (4#32, 1#32, 176#32)
      else
        if r.val < 6 then
          (4#32, 3#32, 176#32)
        else
          (4#32, 2#32, 176#32)
  else
    if r.val < 10 then
      if r.val < 8 then
        (4#32, 0#32, 176#32)
      else
        if r.val < 9 then
          (4#32, 1#32, 96#32)
        else
          (4#32, 0#32, 96#32)
    else
      if r.val < 12 then
        if r.val < 11 then
          (1#32, 2#32, 176#32)
        else
          (1#32, 0#32, 176#32)
      else
        if r.val < 13 then
          (1#32, 0#32, 96#32)
        else
          (2#32, 0#32, 176#32)
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_89 : BitVec 32 := 2#32
  let v103 : BitVec 32 := Scalar.xori v5 c2_i32_89
  let c1_i32_90 : BitVec 32 := 1#32
  let v104 : BitVec 32 := Scalar.shrsi v103 c1_i32_90
  let c1_i32_91 : BitVec 32 := 1#32
  let v105 : BitVec 32 := Scalar.andi v104 c1_i32_91
  let v106 : BitVec 32 := Scalar.xori v103 v105
  let c1_i32_97 : BitVec 32 := 1#32
  let v107 : BitVec 32 := Scalar.muli v106 c1_i32_97
  let v108 : BitVec 32 := Scalar.addi c0_i32_98 v107
  v108.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_105 : BitVec 32 := 2#32
  let v120 : BitVec 32 := Scalar.xori v5 c2_i32_105
  let c1_i32_106 : BitVec 32 := 1#32
  let v121 : BitVec 32 := Scalar.shrsi v120 c1_i32_106
  let c1_i32_107 : BitVec 32 := 1#32
  let v122 : BitVec 32 := Scalar.andi v121 c1_i32_107
  let v123 : BitVec 32 := Scalar.xori v120 v122
  let c1_i32_113 : BitVec 32 := 1#32
  let v124 : BitVec 32 := Scalar.muli v123 c1_i32_113
  let v125 : BitVec 32 := Scalar.addi c0_i32_114 v124
  v125.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_122 : BitVec 32 := 2#32
  let v137 : BitVec 32 := Scalar.xori v5 c2_i32_122
  let c1_i32_123 : BitVec 32 := 1#32
  let v138 : BitVec 32 := Scalar.shrsi v137 c1_i32_123
  let c1_i32_124 : BitVec 32 := 1#32
  let v139 : BitVec 32 := Scalar.andi v138 c1_i32_124
  let v140 : BitVec 32 := Scalar.xori v137 v139
  let c1_i32_130 : BitVec 32 := 1#32
  let v141 : BitVec 32 := Scalar.muli v140 c1_i32_130
  let v142 : BitVec 32 := Scalar.addi c0_i32_131 v141
  v142.toNat
def k0_dev11 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_139 : BitVec 32 := 2#32
  let v154 : BitVec 32 := Scalar.xori v5 c2_i32_139
  let c1_i32_140 : BitVec 32 := 1#32
  let v155 : BitVec 32 := Scalar.shrsi v154 c1_i32_140
  let c1_i32_141 : BitVec 32 := 1#32
  let v156 : BitVec 32 := Scalar.andi v155 c1_i32_141
  let v157 : BitVec 32 := Scalar.xori v154 v156
  let c1_i32_147 : BitVec 32 := 1#32
  let v158 : BitVec 32 := Scalar.muli v157 c1_i32_147
  let v159 : BitVec 32 := Scalar.addi c0_i32_148 v158
  v159.toNat
def k0_dev12 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_155 : BitVec 32 := 4#32
  let v171 : BitVec 32 := Scalar.xori v5 c4_i32_155
  let c1_i32_156 : BitVec 32 := 1#32
  let v172 : BitVec 32 := Scalar.shrsi v171 c1_i32_156
  let c1_i32_157 : BitVec 32 := 1#32
  let v173 : BitVec 32 := Scalar.andi v172 c1_i32_157
  let v174 : BitVec 32 := Scalar.xori v171 v173
  let c1_i32_163 : BitVec 32 := 1#32
  let v175 : BitVec 32 := Scalar.muli v174 c1_i32_163
  let v176 : BitVec 32 := Scalar.addi c0_i32_164 v175
  v176.toNat
def k0_dev13 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_172 : BitVec 32 := 4#32
  let v188 : BitVec 32 := Scalar.xori v5 c4_i32_172
  let c1_i32_173 : BitVec 32 := 1#32
  let v189 : BitVec 32 := Scalar.shrsi v188 c1_i32_173
  let c1_i32_174 : BitVec 32 := 1#32
  let v190 : BitVec 32 := Scalar.andi v189 c1_i32_174
  let v191 : BitVec 32 := Scalar.xori v188 v190
  let c1_i32_180 : BitVec 32 := 1#32
  let v192 : BitVec 32 := Scalar.muli v191 c1_i32_180
  let v193 : BitVec 32 := Scalar.addi c0_i32_181 v192
  v193.toNat
def k0_dev14 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_189 : BitVec 32 := 4#32
  let v205 : BitVec 32 := Scalar.xori v5 c4_i32_189
  let c1_i32_190 : BitVec 32 := 1#32
  let v206 : BitVec 32 := Scalar.shrsi v205 c1_i32_190
  let c1_i32_191 : BitVec 32 := 1#32
  let v207 : BitVec 32 := Scalar.andi v206 c1_i32_191
  let v208 : BitVec 32 := Scalar.xori v205 v207
  let c1_i32_197 : BitVec 32 := 1#32
  let v209 : BitVec 32 := Scalar.muli v208 c1_i32_197
  let v210 : BitVec 32 := Scalar.addi c0_i32_198 v209
  v210.toNat
def k0_dev15 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_206 : BitVec 32 := 4#32
  let v222 : BitVec 32 := Scalar.xori v5 c4_i32_206
  let c1_i32_207 : BitVec 32 := 1#32
  let v223 : BitVec 32 := Scalar.shrsi v222 c1_i32_207
  let c1_i32_208 : BitVec 32 := 1#32
  let v224 : BitVec 32 := Scalar.andi v223 c1_i32_208
  let v225 : BitVec 32 := Scalar.xori v222 v224
  let c1_i32_214 : BitVec 32 := 1#32
  let v226 : BitVec 32 := Scalar.muli v225 c1_i32_214
  let v227 : BitVec 32 := Scalar.addi c0_i32_215 v226
  v227.toNat
def k0_off3 (d0 : Dev nD) (c2_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v235 : BitVec 32 := Scalar.xori v5 c2_i32_219
  let c256_i32_220 : BitVec 32 := 256#32
  let v236 : BitVec 32 := Scalar.muli v235 c256_i32_220
  let c0_i32_221 : BitVec 32 := 0#32
  let v237 : BitVec 32 := Scalar.addi v236 c0_i32_221
  let v238 : Index := Scalar.indexCast v237
  let c0_222 : Index := 0#32
  ![v238.toNat, 0]
def k0_dev16 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_295 : BitVec 32 := 2#32
  let v315 : BitVec 32 := Scalar.xori v5 c2_i32_295
  let c1_i32_296 : BitVec 32 := 1#32
  let v316 : BitVec 32 := Scalar.shrsi v315 c1_i32_296
  let c1_i32_297 : BitVec 32 := 1#32
  let v317 : BitVec 32 := Scalar.andi v316 c1_i32_297
  let v318 : BitVec 32 := Scalar.xori v315 v317
  let c1_i32_303 : BitVec 32 := 1#32
  let v319 : BitVec 32 := Scalar.muli v318 c1_i32_303
  let v320 : BitVec 32 := Scalar.addi c0_i32_304 v319
  v320.toNat
def k0_dev17 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_312 : BitVec 32 := 2#32
  let v332 : BitVec 32 := Scalar.xori v5 c2_i32_312
  let c1_i32_313 : BitVec 32 := 1#32
  let v333 : BitVec 32 := Scalar.shrsi v332 c1_i32_313
  let c1_i32_314 : BitVec 32 := 1#32
  let v334 : BitVec 32 := Scalar.andi v333 c1_i32_314
  let v335 : BitVec 32 := Scalar.xori v332 v334
  let c1_i32_320 : BitVec 32 := 1#32
  let v336 : BitVec 32 := Scalar.muli v335 c1_i32_320
  let v337 : BitVec 32 := Scalar.addi c0_i32_321 v336
  v337.toNat
def k0_off4 (d0 : Dev nD) (c4_i32_325 : BitVec 32) (c96_i32_327 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v345 : BitVec 32 := Scalar.xori v5 c4_i32_325
  let c256_i32_326 : BitVec 32 := 256#32
  let v346 : BitVec 32 := Scalar.muli v345 c256_i32_326
  let v347 : BitVec 32 := Scalar.addi v346 c96_i32_327
  let v348 : Index := Scalar.indexCast v347
  let c0_328 : Index := 0#32
  ![v348.toNat, 0]
def k0_off4_at (r : Fin 6) : BitVec 32 × BitVec 32 :=
  if r.val < 3 then
    if r.val < 1 then
      (4#32, 96#32)
    else
      if r.val < 2 then
        (5#32, 96#32)
      else
        (1#32, 176#32)
  else
    if r.val < 4 then
      (3#32, 176#32)
    else
      if r.val < 5 then
        (1#32, 96#32)
      else
        (2#32, 176#32)
def k0_dev18 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_402 : BitVec 32 := 4#32
  let v425 : BitVec 32 := Scalar.xori v5 c4_i32_402
  let c1_i32_403 : BitVec 32 := 1#32
  let v426 : BitVec 32 := Scalar.shrsi v425 c1_i32_403
  let c1_i32_404 : BitVec 32 := 1#32
  let v427 : BitVec 32 := Scalar.andi v426 c1_i32_404
  let v428 : BitVec 32 := Scalar.xori v425 v427
  let c1_i32_410 : BitVec 32 := 1#32
  let v429 : BitVec 32 := Scalar.muli v428 c1_i32_410
  let v430 : BitVec 32 := Scalar.addi c0_i32_411 v429
  v430.toNat
def k0_dev19 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_419 : BitVec 32 := 4#32
  let v442 : BitVec 32 := Scalar.xori v5 c4_i32_419
  let c1_i32_420 : BitVec 32 := 1#32
  let v443 : BitVec 32 := Scalar.shrsi v442 c1_i32_420
  let c1_i32_421 : BitVec 32 := 1#32
  let v444 : BitVec 32 := Scalar.andi v443 c1_i32_421
  let v445 : BitVec 32 := Scalar.xori v442 v444
  let c1_i32_427 : BitVec 32 := 1#32
  let v446 : BitVec 32 := Scalar.muli v445 c1_i32_427
  let v447 : BitVec 32 := Scalar.addi c0_i32_428 v446
  v447.toNat
def k0_dev20 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_509 : BitVec 32 := 1#32
  let v535 : BitVec 32 := Scalar.xori v5 c1_i32_509
  let c1_i32_510 : BitVec 32 := 1#32
  let v536 : BitVec 32 := Scalar.shrsi v535 c1_i32_510
  let c1_i32_511 : BitVec 32 := 1#32
  let v537 : BitVec 32 := Scalar.andi v536 c1_i32_511
  let v538 : BitVec 32 := Scalar.xori v535 v537
  let c1_i32_517 : BitVec 32 := 1#32
  let v539 : BitVec 32 := Scalar.muli v538 c1_i32_517
  let v540 : BitVec 32 := Scalar.addi c0_i32_518 v539
  v540.toNat
def k0_dev21 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_526 : BitVec 32 := 1#32
  let v552 : BitVec 32 := Scalar.xori v5 c1_i32_526
  let c1_i32_527 : BitVec 32 := 1#32
  let v553 : BitVec 32 := Scalar.shrsi v552 c1_i32_527
  let c1_i32_528 : BitVec 32 := 1#32
  let v554 : BitVec 32 := Scalar.andi v553 c1_i32_528
  let v555 : BitVec 32 := Scalar.xori v552 v554
  let c1_i32_534 : BitVec 32 := 1#32
  let v556 : BitVec 32 := Scalar.muli v555 c1_i32_534
  let v557 : BitVec 32 := Scalar.addi c0_i32_535 v556
  v557.toNat
def k0_dev22 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_607 : BitVec 32 := 4#32
  let v631 : BitVec 32 := Scalar.xori v5 c4_i32_607
  let c1_i32_608 : BitVec 32 := 1#32
  let v632 : BitVec 32 := Scalar.shrsi v631 c1_i32_608
  let c1_i32_609 : BitVec 32 := 1#32
  let v633 : BitVec 32 := Scalar.andi v632 c1_i32_609
  let v634 : BitVec 32 := Scalar.xori v631 v633
  let c1_i32_615 : BitVec 32 := 1#32
  let v635 : BitVec 32 := Scalar.muli v634 c1_i32_615
  let v636 : BitVec 32 := Scalar.addi c0_i32_616 v635
  v636.toNat
def k0_dev23 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_690 : BitVec 32 := 1#32
  let v710 : BitVec 32 := Scalar.xori v5 c1_i32_690
  let c1_i32_691 : BitVec 32 := 1#32
  let v711 : BitVec 32 := Scalar.shrsi v710 c1_i32_691
  let c1_i32_692 : BitVec 32 := 1#32
  let v712 : BitVec 32 := Scalar.andi v711 c1_i32_692
  let v713 : BitVec 32 := Scalar.xori v710 v712
  let c1_i32_698 : BitVec 32 := 1#32
  let v714 : BitVec 32 := Scalar.muli v713 c1_i32_698
  let v715 : BitVec 32 := Scalar.addi c0_i32_699 v714
  v715.toNat
def k0_dev24 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_773 : BitVec 32 := 2#32
  let v789 : BitVec 32 := Scalar.xori v5 c2_i32_773
  let c1_i32_774 : BitVec 32 := 1#32
  let v790 : BitVec 32 := Scalar.shrsi v789 c1_i32_774
  let c1_i32_775 : BitVec 32 := 1#32
  let v791 : BitVec 32 := Scalar.andi v790 c1_i32_775
  let v792 : BitVec 32 := Scalar.xori v789 v791
  let c1_i32_781 : BitVec 32 := 1#32
  let v793 : BitVec 32 := Scalar.muli v792 c1_i32_781
  let v794 : BitVec 32 := Scalar.addi c0_i32_782 v793
  v794.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c256_i32_790 : BitVec 32 := 256#32
  let v807 : BitVec 32 := Scalar.muli v5 c256_i32_790
  let c0_i32_791 : BitVec 32 := 0#32
  let v808 : BitVec 32 := Scalar.addi v807 c0_i32_791
  let v809 : Index := Scalar.indexCast v808
  let c0_792 : Index := 0#32
  ![v809.toNat, 0]
def k0_off6 (d0 : Dev nD) (c0_i32_883 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v892 : BitVec 32 := Scalar.xori v5 c0_i32_883
  let c256_i32_884 : BitVec 32 := 256#32
  let v893 : BitVec 32 := Scalar.muli v892 c256_i32_884
  let c0_i32_885 : BitVec 32 := 0#32
  let v894 : BitVec 32 := Scalar.addi v893 c0_i32_885
  let c0_i32_895 : BitVec 32 := 0#32
  ![v894.toNat, 0]
def k0_dev25 (d0 : Dev nD) : Nat :=
  let c0_i32_894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_886 : BitVec 32 := 4#32
  let v895 : BitVec 32 := Scalar.xori v5 c4_i32_886
  let c1_i32_887 : BitVec 32 := 1#32
  let v896 : BitVec 32 := Scalar.shrsi v895 c1_i32_887
  let c1_i32_888 : BitVec 32 := 1#32
  let v897 : BitVec 32 := Scalar.andi v896 c1_i32_888
  let v898 : BitVec 32 := Scalar.xori v895 v897
  let c1_i32_893 : BitVec 32 := 1#32
  let v899 : BitVec 32 := Scalar.muli v898 c1_i32_893
  let v900 : BitVec 32 := Scalar.addi c0_i32_894 v899
  v900.toNat
def k0_dev26 (d0 : Dev nD) : Nat :=
  let c0_i32_908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_900 : BitVec 32 := 2#32
  let v910 : BitVec 32 := Scalar.xori v5 c2_i32_900
  let c1_i32_901 : BitVec 32 := 1#32
  let v911 : BitVec 32 := Scalar.shrsi v910 c1_i32_901
  let c1_i32_902 : BitVec 32 := 1#32
  let v912 : BitVec 32 := Scalar.andi v911 c1_i32_902
  let v913 : BitVec 32 := Scalar.xori v910 v912
  let c1_i32_907 : BitVec 32 := 1#32
  let v914 : BitVec 32 := Scalar.muli v913 c1_i32_907
  let v915 : BitVec 32 := Scalar.addi c0_i32_908 v914
  v915.toNat
def k0_dev27 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_914 : BitVec 32 := 1#32
  let v925 : BitVec 32 := Scalar.xori v5 c1_i32_914
  let c1_i32_915 : BitVec 32 := 1#32
  let v926 : BitVec 32 := Scalar.shrsi v925 c1_i32_915
  let c1_i32_916 : BitVec 32 := 1#32
  let v927 : BitVec 32 := Scalar.andi v926 c1_i32_916
  let v928 : BitVec 32 := Scalar.xori v925 v927
  let c1_i32_921 : BitVec 32 := 1#32
  let v929 : BitVec 32 := Scalar.muli v928 c1_i32_921
  let v930 : BitVec 32 := Scalar.addi c0_i32_922 v929
  v930.toNat
def k0_off7 (d0 : Dev nD) (c96_i32_926 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c256_i32_925 : BitVec 32 := 256#32
  let v937 : BitVec 32 := Scalar.muli v5 c256_i32_925
  let v938 : BitVec 32 := Scalar.addi v937 c96_i32_926
  let v939 : Index := Scalar.indexCast v938
  let c0_927 : Index := 0#32
  ![v939.toNat, 0]
def k0_off8 (d0 : Dev nD) (c0_i32_1021 : BitVec 32) (c96_i32_1023 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v1022 : BitVec 32 := Scalar.xori v5 c0_i32_1021
  let c256_i32_1022 : BitVec 32 := 256#32
  let v1023 : BitVec 32 := Scalar.muli v1022 c256_i32_1022
  let v1024 : BitVec 32 := Scalar.addi v1023 c96_i32_1023
  let c0_i32_1033 : BitVec 32 := 0#32
  ![v1024.toNat, 0]
def k0_off8_at (r : Fin 8) : BitVec 32 × BitVec 32 :=
  if r.val < 4 then
    if r.val < 2 then
      if r.val < 1 then
        (0#32, 96#32)
      else
        (0#32, 176#32)
    else
      if r.val < 3 then
        (1#32, 96#32)
      else
        (2#32, 176#32)
  else
    if r.val < 6 then
      if r.val < 5 then
        (4#32, 96#32)
      else
        (5#32, 96#32)
    else
      if r.val < 7 then
        (1#32, 176#32)
      else
        (3#32, 176#32)
def k0_dev28 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1024 : BitVec 32 := 1#32
  let v1025 : BitVec 32 := Scalar.xori v5 c1_i32_1024
  let c1_i32_1025 : BitVec 32 := 1#32
  let v1026 : BitVec 32 := Scalar.shrsi v1025 c1_i32_1025
  let c1_i32_1026 : BitVec 32 := 1#32
  let v1027 : BitVec 32 := Scalar.andi v1026 c1_i32_1026
  let v1028 : BitVec 32 := Scalar.xori v1025 v1027
  let c1_i32_1031 : BitVec 32 := 1#32
  let v1029 : BitVec 32 := Scalar.muli v1028 c1_i32_1031
  let v1030 : BitVec 32 := Scalar.addi c0_i32_1032 v1029
  v1030.toNat
def k0_dev29 (d0 : Dev nD) : Nat :=
  let c0_i32_1046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1038 : BitVec 32 := 4#32
  let v1040 : BitVec 32 := Scalar.xori v5 c4_i32_1038
  let c1_i32_1039 : BitVec 32 := 1#32
  let v1041 : BitVec 32 := Scalar.shrsi v1040 c1_i32_1039
  let c1_i32_1040 : BitVec 32 := 1#32
  let v1042 : BitVec 32 := Scalar.andi v1041 c1_i32_1040
  let v1043 : BitVec 32 := Scalar.xori v1040 v1042
  let c1_i32_1045 : BitVec 32 := 1#32
  let v1044 : BitVec 32 := Scalar.muli v1043 c1_i32_1045
  let v1045 : BitVec 32 := Scalar.addi c0_i32_1046 v1044
  v1045.toNat
def k0_dev30 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1052 : BitVec 32 := 2#32
  let v1055 : BitVec 32 := Scalar.xori v5 c2_i32_1052
  let c1_i32_1053 : BitVec 32 := 1#32
  let v1056 : BitVec 32 := Scalar.shrsi v1055 c1_i32_1053
  let c1_i32_1054 : BitVec 32 := 1#32
  let v1057 : BitVec 32 := Scalar.andi v1056 c1_i32_1054
  let v1058 : BitVec 32 := Scalar.xori v1055 v1057
  let c1_i32_1059 : BitVec 32 := 1#32
  let v1059 : BitVec 32 := Scalar.muli v1058 c1_i32_1059
  let v1060 : BitVec 32 := Scalar.addi c0_i32_1060 v1059
  v1060.toNat
def k0_dev31 (d0 : Dev nD) : Nat :=
  let c0_i32_1170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1162 : BitVec 32 := 2#32
  let v1155 : BitVec 32 := Scalar.xori v5 c2_i32_1162
  let c1_i32_1163 : BitVec 32 := 1#32
  let v1156 : BitVec 32 := Scalar.shrsi v1155 c1_i32_1163
  let c1_i32_1164 : BitVec 32 := 1#32
  let v1157 : BitVec 32 := Scalar.andi v1156 c1_i32_1164
  let v1158 : BitVec 32 := Scalar.xori v1155 v1157
  let c1_i32_1169 : BitVec 32 := 1#32
  let v1159 : BitVec 32 := Scalar.muli v1158 c1_i32_1169
  let v1160 : BitVec 32 := Scalar.addi c0_i32_1170 v1159
  v1160.toNat
def k0_dev32 (d0 : Dev nD) : Nat :=
  let c0_i32_1184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1176 : BitVec 32 := 1#32
  let v1170 : BitVec 32 := Scalar.xori v5 c1_i32_1176
  let c1_i32_1177 : BitVec 32 := 1#32
  let v1171 : BitVec 32 := Scalar.shrsi v1170 c1_i32_1177
  let c1_i32_1178 : BitVec 32 := 1#32
  let v1172 : BitVec 32 := Scalar.andi v1171 c1_i32_1178
  let v1173 : BitVec 32 := Scalar.xori v1170 v1172
  let c1_i32_1183 : BitVec 32 := 1#32
  let v1174 : BitVec 32 := Scalar.muli v1173 c1_i32_1183
  let v1175 : BitVec 32 := Scalar.addi c0_i32_1184 v1174
  v1175.toNat
def k0_dev33 (d0 : Dev nD) : Nat :=
  let c0_i32_1198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1190 : BitVec 32 := 4#32
  let v1185 : BitVec 32 := Scalar.xori v5 c4_i32_1190
  let c1_i32_1191 : BitVec 32 := 1#32
  let v1186 : BitVec 32 := Scalar.shrsi v1185 c1_i32_1191
  let c1_i32_1192 : BitVec 32 := 1#32
  let v1187 : BitVec 32 := Scalar.andi v1186 c1_i32_1192
  let v1188 : BitVec 32 := Scalar.xori v1185 v1187
  let c1_i32_1197 : BitVec 32 := 1#32
  let v1189 : BitVec 32 := Scalar.muli v1188 c1_i32_1197
  let v1190 : BitVec 32 := Scalar.addi c0_i32_1198 v1189
  v1190.toNat
def k0_dev34 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1226 : BitVec 32 := 2#32
  let v1218 : BitVec 32 := Scalar.xori v5 c2_i32_1226
  let c1_i32_1227 : BitVec 32 := 1#32
  let v1219 : BitVec 32 := Scalar.shrsi v1218 c1_i32_1227
  let c1_i32_1228 : BitVec 32 := 1#32
  let v1220 : BitVec 32 := Scalar.andi v1219 c1_i32_1228
  let v1221 : BitVec 32 := Scalar.xori v1218 v1220
  let c1_i32_1233 : BitVec 32 := 1#32
  let v1222 : BitVec 32 := Scalar.muli v1221 c1_i32_1233
  let v1223 : BitVec 32 := Scalar.addi c0_i32_1234 v1222
  v1223.toNat
def k0_dev35 (d0 : Dev nD) : Nat :=
  let c0_i32_1248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1240 : BitVec 32 := 1#32
  let v1233 : BitVec 32 := Scalar.xori v5 c1_i32_1240
  let c1_i32_1241 : BitVec 32 := 1#32
  let v1234 : BitVec 32 := Scalar.shrsi v1233 c1_i32_1241
  let c1_i32_1242 : BitVec 32 := 1#32
  let v1235 : BitVec 32 := Scalar.andi v1234 c1_i32_1242
  let v1236 : BitVec 32 := Scalar.xori v1233 v1235
  let c1_i32_1247 : BitVec 32 := 1#32
  let v1237 : BitVec 32 := Scalar.muli v1236 c1_i32_1247
  let v1238 : BitVec 32 := Scalar.addi c0_i32_1248 v1237
  v1238.toNat
def k0_dev36 (d0 : Dev nD) : Nat :=
  let c0_i32_1284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1276 : BitVec 32 := 4#32
  let v1266 : BitVec 32 := Scalar.xori v5 c4_i32_1276
  let c1_i32_1277 : BitVec 32 := 1#32
  let v1267 : BitVec 32 := Scalar.shrsi v1266 c1_i32_1277
  let c1_i32_1278 : BitVec 32 := 1#32
  let v1268 : BitVec 32 := Scalar.andi v1267 c1_i32_1278
  let v1269 : BitVec 32 := Scalar.xori v1266 v1268
  let c1_i32_1283 : BitVec 32 := 1#32
  let v1270 : BitVec 32 := Scalar.muli v1269 c1_i32_1283
  let v1271 : BitVec 32 := Scalar.addi c0_i32_1284 v1270
  v1271.toNat
def k0_dev37 (d0 : Dev nD) : Nat :=
  let c0_i32_1298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1290 : BitVec 32 := 2#32
  let v1281 : BitVec 32 := Scalar.xori v5 c2_i32_1290
  let c1_i32_1291 : BitVec 32 := 1#32
  let v1282 : BitVec 32 := Scalar.shrsi v1281 c1_i32_1291
  let c1_i32_1292 : BitVec 32 := 1#32
  let v1283 : BitVec 32 := Scalar.andi v1282 c1_i32_1292
  let v1284 : BitVec 32 := Scalar.xori v1281 v1283
  let c1_i32_1297 : BitVec 32 := 1#32
  let v1285 : BitVec 32 := Scalar.muli v1284 c1_i32_1297
  let v1286 : BitVec 32 := Scalar.addi c0_i32_1298 v1285
  v1286.toNat
def k0_dev38 (d0 : Dev nD) : Nat :=
  let c0_i32_1334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1326 : BitVec 32 := 1#32
  let v1314 : BitVec 32 := Scalar.xori v5 c1_i32_1326
  let c1_i32_1327 : BitVec 32 := 1#32
  let v1315 : BitVec 32 := Scalar.shrsi v1314 c1_i32_1327
  let c1_i32_1328 : BitVec 32 := 1#32
  let v1316 : BitVec 32 := Scalar.andi v1315 c1_i32_1328
  let v1317 : BitVec 32 := Scalar.xori v1314 v1316
  let c1_i32_1333 : BitVec 32 := 1#32
  let v1318 : BitVec 32 := Scalar.muli v1317 c1_i32_1333
  let v1319 : BitVec 32 := Scalar.addi c0_i32_1334 v1318
  v1319.toNat
def k0_dev39 (d0 : Dev nD) : Nat :=
  let c0_i32_1348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1340 : BitVec 32 := 4#32
  let v1329 : BitVec 32 := Scalar.xori v5 c4_i32_1340
  let c1_i32_1341 : BitVec 32 := 1#32
  let v1330 : BitVec 32 := Scalar.shrsi v1329 c1_i32_1341
  let c1_i32_1342 : BitVec 32 := 1#32
  let v1331 : BitVec 32 := Scalar.andi v1330 c1_i32_1342
  let v1332 : BitVec 32 := Scalar.xori v1329 v1331
  let c1_i32_1347 : BitVec 32 := 1#32
  let v1333 : BitVec 32 := Scalar.muli v1332 c1_i32_1347
  let v1334 : BitVec 32 := Scalar.addi c0_i32_1348 v1333
  v1334.toNat
def k0_dev40 (d0 : Dev nD) : Nat :=
  let c0_i32_1384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1376 : BitVec 32 := 1#32
  let v1362 : BitVec 32 := Scalar.xori v5 c1_i32_1376
  let c1_i32_1377 : BitVec 32 := 1#32
  let v1363 : BitVec 32 := Scalar.shrsi v1362 c1_i32_1377
  let c1_i32_1378 : BitVec 32 := 1#32
  let v1364 : BitVec 32 := Scalar.andi v1363 c1_i32_1378
  let v1365 : BitVec 32 := Scalar.xori v1362 v1364
  let c1_i32_1383 : BitVec 32 := 1#32
  let v1366 : BitVec 32 := Scalar.muli v1365 c1_i32_1383
  let v1367 : BitVec 32 := Scalar.addi c0_i32_1384 v1366
  v1367.toNat
def k0_dev41 (d0 : Dev nD) : Nat :=
  let c0_i32_1420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1412 : BitVec 32 := 1#32
  let v1395 : BitVec 32 := Scalar.xori v5 c1_i32_1412
  let c1_i32_1413 : BitVec 32 := 1#32
  let v1396 : BitVec 32 := Scalar.shrsi v1395 c1_i32_1413
  let c1_i32_1414 : BitVec 32 := 1#32
  let v1397 : BitVec 32 := Scalar.andi v1396 c1_i32_1414
  let v1398 : BitVec 32 := Scalar.xori v1395 v1397
  let c1_i32_1419 : BitVec 32 := 1#32
  let v1399 : BitVec 32 := Scalar.muli v1398 c1_i32_1419
  let v1400 : BitVec 32 := Scalar.addi c0_i32_1420 v1399
  v1400.toNat
def k0_dev42 (d0 : Dev nD) : Nat :=
  let c0_i32_1456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1448 : BitVec 32 := 2#32
  let v1428 : BitVec 32 := Scalar.xori v5 c2_i32_1448
  let c1_i32_1449 : BitVec 32 := 1#32
  let v1429 : BitVec 32 := Scalar.shrsi v1428 c1_i32_1449
  let c1_i32_1450 : BitVec 32 := 1#32
  let v1430 : BitVec 32 := Scalar.andi v1429 c1_i32_1450
  let v1431 : BitVec 32 := Scalar.xori v1428 v1430
  let c1_i32_1455 : BitVec 32 := 1#32
  let v1432 : BitVec 32 := Scalar.muli v1431 c1_i32_1455
  let v1433 : BitVec 32 := Scalar.addi c0_i32_1456 v1432
  v1433.toNat
def k0_dev43 (d0 : Dev nD) : Nat :=
  let c0_i32_1492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1484 : BitVec 32 := 2#32
  let v1461 : BitVec 32 := Scalar.xori v5 c2_i32_1484
  let c1_i32_1485 : BitVec 32 := 1#32
  let v1462 : BitVec 32 := Scalar.shrsi v1461 c1_i32_1485
  let c1_i32_1486 : BitVec 32 := 1#32
  let v1463 : BitVec 32 := Scalar.andi v1462 c1_i32_1486
  let v1464 : BitVec 32 := Scalar.xori v1461 v1463
  let c1_i32_1491 : BitVec 32 := 1#32
  let v1465 : BitVec 32 := Scalar.muli v1464 c1_i32_1491
  let v1466 : BitVec 32 := Scalar.addi c0_i32_1492 v1465
  v1466.toNat
def k0_dev44 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1520 : BitVec 32 := 4#32
  let v1494 : BitVec 32 := Scalar.xori v5 c4_i32_1520
  let c1_i32_1521 : BitVec 32 := 1#32
  let v1495 : BitVec 32 := Scalar.shrsi v1494 c1_i32_1521
  let c1_i32_1522 : BitVec 32 := 1#32
  let v1496 : BitVec 32 := Scalar.andi v1495 c1_i32_1522
  let v1497 : BitVec 32 := Scalar.xori v1494 v1496
  let c1_i32_1527 : BitVec 32 := 1#32
  let v1498 : BitVec 32 := Scalar.muli v1497 c1_i32_1527
  let v1499 : BitVec 32 := Scalar.addi c0_i32_1528 v1498
  v1499.toNat
def k0_dev45 (d0 : Dev nD) : Nat :=
  let c0_i32_1564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1556 : BitVec 32 := 4#32
  let v1527 : BitVec 32 := Scalar.xori v5 c4_i32_1556
  let c1_i32_1557 : BitVec 32 := 1#32
  let v1528 : BitVec 32 := Scalar.shrsi v1527 c1_i32_1557
  let c1_i32_1558 : BitVec 32 := 1#32
  let v1529 : BitVec 32 := Scalar.andi v1528 c1_i32_1558
  let v1530 : BitVec 32 := Scalar.xori v1527 v1529
  let c1_i32_1563 : BitVec 32 := 1#32
  let v1531 : BitVec 32 := Scalar.muli v1530 c1_i32_1563
  let v1532 : BitVec 32 := Scalar.addi c0_i32_1564 v1531
  v1532.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S1024x1024 : Shape := ⟨2, ![1024, 1024]⟩
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S8x2048x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Proto.lean ====
/-
# The protocol's tables

The kernel is an all-reduce over the eight devices of a hypercube, split into three pipelines by rows. Each
pipeline runs three exchange stages that scatter partial sums (`RS`) and three that gather the results (`AG`).
Every exchange is a transfer; there are 42 of them on a device, numbered here `21 * kind + 7 * pipeline + slot`.
This module fixes that numbering, the device and chunk arithmetic, and the closed forms of every device number
and row offset the kernel computes.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cube

open Cert.KernelIdeal Cert.KernelIdeal.Gen
open Idealize.ShloMosaic Idealize.ShloMosaic.TcCoe

/-! ## Devices and chunks -/

/-- The Gray-code numbering of the devices: `i xor (i >> 1 & 1)`, its own inverse. -/
def lg : Fin 8 → Fin 8 := ![0, 1, 3, 2, 4, 5, 7, 6]
/-- The chunk at distance `k` from device `c`'s own. -/
def ch (c : Dev nD) (k : Fin 8) : Fin 8 := lg c ^^^ k
/-- The device across the cube's edge of mask `k`. -/
def pt (k : Fin 8) (c : Dev nD) : Dev nD := lg (lg c ^^^ k)

theorem lg_lg : ∀ i, lg (lg i) = i := by decide
theorem pt_pt : ∀ k c, pt k (pt k c) = c := by decide
theorem ch_pt : ∀ k c e, ch (pt k c) e = ch c (k ^^^ e) := by decide
theorem lg_ch_zero : ∀ c, lg (ch c 0) = c := by decide
theorem ch_inj : ∀ c k k', ch c k = ch c k' → k = k' := by decide
theorem ch_ch : ∀ c k, ch c (ch c k) = k := by decide

/-! ## The three pipelines -/

/-- A pipeline's first row within a chunk, and its number of rows. -/
def roff : Fin 3 → ℕ := ![0, 96, 176]
def hgt : Fin 3 → ℕ := ![96, 80, 80]
/-- The masks of the three scatter stages of a pipeline. -/
def ms : Fin 3 → Fin 3 → Fin 8 := ![![1, 2, 4], ![2, 4, 1], ![4, 1, 2]]
/-- The first row of pipeline `p`'s band in the chunk at distance `k`. -/
def row (p : Fin 3) (k : Fin 8) (c : Dev nD) : ℕ := (ch c k).val * 256 + roff p

theorem hgt_pos : ∀ p, 0 < hgt p := by decide
theorem row_le : ∀ p k c, row p k c + hgt p ≤ 2048 := by decide

/-! ## The 42 transfers -/

abbrev X := Fin 42

/-- Its pipeline and slot. -/
def pp (x : X) : Fin 3 := ⟨x.val / 7 % 3, Nat.mod_lt _ (by decide)⟩
def sl (x : X) : Fin 7 := ⟨x.val % 7, Nat.mod_lt _ (by decide)⟩
/-- The mask of the edge it crosses. -/
def mk : X → Fin 8 := ![1, 1, 1, 1, 2, 2, 4, 2, 2, 2, 2, 4, 4, 1, 4, 4, 4, 4, 1, 1, 2, 4, 2, 2, 1, 1, 1, 1, 1, 4, 4, 2, 2, 2, 2, 2, 1, 1, 4, 4, 4, 4]
/-- The distance of the chunk it sends, from the sender's own; -/
def sk : X → Fin 8 := ![1, 3, 5, 7, 2, 6, 4, 2, 6, 3, 7, 4, 5, 1, 4, 5, 6, 7, 1, 3, 2, 0, 0, 4, 0, 4, 2, 6, 0, 0, 1, 0, 1, 4, 5, 0, 0, 2, 0, 2, 1, 3]
/-- and of the chunk where it lands, from the receiver's own. -/
def rk : X → Fin 8 := ![0, 2, 4, 6, 0, 4, 0, 0, 4, 1, 5, 0, 1, 0, 0, 1, 2, 3, 0, 2, 0, 4, 2, 6, 1, 5, 3, 7, 1, 4, 5, 2, 3, 6, 7, 2, 1, 3, 4, 6, 5, 7]
/-- Its exchange stage. -/
def st : X → Fin 3 := ![0, 0, 0, 0, 1, 1, 2, 0, 0, 0, 0, 1, 1, 2, 0, 0, 0, 0, 1, 1, 2, 0, 1, 1, 2, 2, 2, 2, 0, 1, 1, 2, 2, 2, 2, 0, 1, 1, 2, 2, 2, 2]
/-- The device it goes to (and, the edge being its own inverse, comes from). -/
def dv (x : X) (c : Dev nD) : Dev nD := pt (mk x) c

theorem dv_dv (x : X) (c : Dev nD) : dv x (dv x c) = c := pt_pt _ _
theorem row_dv : ∀ x c, row (pp x) (rk x) (dv x c) = row (pp x) (sk x) c := by decide

/-- The order in which the kernel starts the transfers. -/
def sendL : List X := [1, 3, 2, 0, 8, 10, 9, 7, 15, 17, 16, 14, 5, 4, 12, 11, 19, 18, 6, 13, 20, 21, 22, 24, 28, 29, 31, 35, 36, 38, 23, 25, 30, 32, 37, 39, 26, 27, 33, 34, 40, 41]
/-- The order in which it waits for them, each first for its departure and then for its arrival. -/
def waitL : List (X × Bool) := [(1, false), (1, true), (3, false), (3, true), (8, false), (8, true), (10, false), (10, true), (15, false), (15, true), (17, false), (17, true), (2, false), (2, true), (5, false), (5, true), (9, false), (9, true), (12, false), (12, true), (16, false), (16, true), (19, false), (19, true), (0, false), (0, true), (4, false), (4, true), (6, false), (6, true), (7, false), (7, true), (11, false), (11, true), (13, false), (13, true), (14, false), (14, true), (18, false), (18, true), (20, false), (20, true), (21, false), (21, true), (28, false), (28, true), (35, false), (35, true), (22, false), (22, true), (23, false), (23, true), (29, false), (29, true), (30, false), (30, true), (36, false), (36, true), (37, false), (37, true), (24, false), (24, true), (25, false), (25, true), (26, false), (26, true), (27, false), (27, true), (31, false), (31, true), (32, false), (32, true), (33, false), (33, true), (34, false), (34, true), (38, false), (38, true), (39, false), (39, true), (40, false), (40, true), (41, false), (41, true)]

/-! ## The semaphores of the transfers -/

/-- The departure semaphore of a transfer and its arrival semaphore. -/
def depS (x : X) : DmaSem sig := if h : x.val < 21 then ⟨x.val + 2, by have := x.isLt; show _ < 87; omega⟩ else ⟨x.val + 23, by have := x.isLt; show _ < 87; omega⟩
def arrS (x : X) : DmaSem sig := if h : x.val < 21 then ⟨x.val + 23, by have := x.isLt; show _ < 87; omega⟩ else ⟨x.val + 44, by have := x.isLt; show _ < 87; omega⟩
/-- The semaphore of the weights' local copy. -/
def wS : DmaSem sig := ⟨86, by show _ < 87; decide⟩

/-- What a semaphore of the kernel's serves. -/
inductive Role | no | w | dep (x : X) | arr (x : X)
  deriving DecidableEq

def role (q : DmaSem sig) : Role :=
  if h : q.val < 2 then .no else if h : q.val < 23 then .dep ⟨q.val - 2, by omega⟩
  else if h : q.val < 44 then .arr ⟨q.val - 23, by omega⟩ else if h : q.val < 65 then .dep ⟨q.val - 23, by omega⟩
  else if h : q.val < 86 then .arr ⟨q.val - 44, by omega⟩ else .w

theorem role_dep : ∀ x, role (depS x) = .dep x := by decide
theorem role_arr : ∀ x, role (arrS x) = .arr x := by decide
theorem role_w : role wS = .w := by decide

/-! ## The device numbers the kernel computes -/

theorem dev1 (c : Dev nD) : (⟨k0_dev1 c, k0_dev1_lt c⟩ : Dev nD) = pt 1 c := by revert c; decide
theorem dev2 (c : Dev nD) : (⟨k0_dev2 c, k0_dev2_lt c⟩ : Dev nD) = pt 2 c := by revert c; decide
theorem dev3 (c : Dev nD) : (⟨k0_dev3 c, k0_dev3_lt c⟩ : Dev nD) = pt 4 c := by revert c; decide
theorem devX0 (c : Dev nD) : (⟨k0_dev7 c, k0_dev7_lt c⟩ : Dev nD) = dv 0 c := by revert c; decide
theorem devX1 (c : Dev nD) : (⟨k0_dev4 c, k0_dev4_lt c⟩ : Dev nD) = dv 1 c := by revert c; decide
theorem devX2 (c : Dev nD) : (⟨k0_dev6 c, k0_dev6_lt c⟩ : Dev nD) = dv 2 c := by revert c; decide
theorem devX3 (c : Dev nD) : (⟨k0_dev5 c, k0_dev5_lt c⟩ : Dev nD) = dv 3 c := by revert c; decide
theorem devX4 (c : Dev nD) : (⟨k0_dev17 c, k0_dev17_lt c⟩ : Dev nD) = dv 4 c := by revert c; decide
theorem devX5 (c : Dev nD) : (⟨k0_dev16 c, k0_dev16_lt c⟩ : Dev nD) = dv 5 c := by revert c; decide
theorem devX6 (c : Dev nD) : (⟨k0_dev22 c, k0_dev22_lt c⟩ : Dev nD) = dv 6 c := by revert c; decide
theorem devX7 (c : Dev nD) : (⟨k0_dev11 c, k0_dev11_lt c⟩ : Dev nD) = dv 7 c := by revert c; decide
theorem devX8 (c : Dev nD) : (⟨k0_dev8 c, k0_dev8_lt c⟩ : Dev nD) = dv 8 c := by revert c; decide
theorem devX9 (c : Dev nD) : (⟨k0_dev10 c, k0_dev10_lt c⟩ : Dev nD) = dv 9 c := by revert c; decide
theorem devX10 (c : Dev nD) : (⟨k0_dev9 c, k0_dev9_lt c⟩ : Dev nD) = dv 10 c := by revert c; decide
theorem devX11 (c : Dev nD) : (⟨k0_dev19 c, k0_dev19_lt c⟩ : Dev nD) = dv 11 c := by revert c; decide
theorem devX12 (c : Dev nD) : (⟨k0_dev18 c, k0_dev18_lt c⟩ : Dev nD) = dv 12 c := by revert c; decide
theorem devX13 (c : Dev nD) : (⟨k0_dev23 c, k0_dev23_lt c⟩ : Dev nD) = dv 13 c := by revert c; decide
theorem devX14 (c : Dev nD) : (⟨k0_dev15 c, k0_dev15_lt c⟩ : Dev nD) = dv 14 c := by revert c; decide
theorem devX15 (c : Dev nD) : (⟨k0_dev12 c, k0_dev12_lt c⟩ : Dev nD) = dv 15 c := by revert c; decide
theorem devX16 (c : Dev nD) : (⟨k0_dev14 c, k0_dev14_lt c⟩ : Dev nD) = dv 16 c := by revert c; decide
theorem devX17 (c : Dev nD) : (⟨k0_dev13 c, k0_dev13_lt c⟩ : Dev nD) = dv 17 c := by revert c; decide
theorem devX18 (c : Dev nD) : (⟨k0_dev21 c, k0_dev21_lt c⟩ : Dev nD) = dv 18 c := by revert c; decide
theorem devX19 (c : Dev nD) : (⟨k0_dev20 c, k0_dev20_lt c⟩ : Dev nD) = dv 19 c := by revert c; decide
theorem devX20 (c : Dev nD) : (⟨k0_dev24 c, k0_dev24_lt c⟩ : Dev nD) = dv 20 c := by revert c; decide
theorem devX21 (c : Dev nD) : (⟨k0_dev25 c, k0_dev25_lt c⟩ : Dev nD) = dv 21 c := by revert c; decide
theorem devX22 (c : Dev nD) : (⟨k0_dev26 c, k0_dev26_lt c⟩ : Dev nD) = dv 22 c := by revert c; decide
theorem devX23 (c : Dev nD) : (⟨k0_dev34 c, k0_dev34_lt c⟩ : Dev nD) = dv 23 c := by revert c; decide
theorem devX24 (c : Dev nD) : (⟨k0_dev27 c, k0_dev27_lt c⟩ : Dev nD) = dv 24 c := by revert c; decide
theorem devX25 (c : Dev nD) : (⟨k0_dev35 c, k0_dev35_lt c⟩ : Dev nD) = dv 25 c := by revert c; decide
theorem devX26 (c : Dev nD) : (⟨k0_dev40 c, k0_dev40_lt c⟩ : Dev nD) = dv 26 c := by revert c; decide
theorem devX27 (c : Dev nD) : (⟨k0_dev41 c, k0_dev41_lt c⟩ : Dev nD) = dv 27 c := by revert c; decide
theorem devX28 (c : Dev nD) : (⟨k0_dev28 c, k0_dev28_lt c⟩ : Dev nD) = dv 28 c := by revert c; decide
theorem devX29 (c : Dev nD) : (⟨k0_dev29 c, k0_dev29_lt c⟩ : Dev nD) = dv 29 c := by revert c; decide
theorem devX30 (c : Dev nD) : (⟨k0_dev36 c, k0_dev36_lt c⟩ : Dev nD) = dv 30 c := by revert c; decide
theorem devX31 (c : Dev nD) : (⟨k0_dev30 c, k0_dev30_lt c⟩ : Dev nD) = dv 31 c := by revert c; decide
theorem devX32 (c : Dev nD) : (⟨k0_dev37 c, k0_dev37_lt c⟩ : Dev nD) = dv 32 c := by revert c; decide
theorem devX33 (c : Dev nD) : (⟨k0_dev42 c, k0_dev42_lt c⟩ : Dev nD) = dv 33 c := by revert c; decide
theorem devX34 (c : Dev nD) : (⟨k0_dev43 c, k0_dev43_lt c⟩ : Dev nD) = dv 34 c := by revert c; decide
theorem devX35 (c : Dev nD) : (⟨k0_dev31 c, k0_dev31_lt c⟩ : Dev nD) = dv 35 c := by revert c; decide
theorem devX36 (c : Dev nD) : (⟨k0_dev32 c, k0_dev32_lt c⟩ : Dev nD) = dv 36 c := by revert c; decide
theorem devX37 (c : Dev nD) : (⟨k0_dev38 c, k0_dev38_lt c⟩ : Dev nD) = dv 37 c := by revert c; decide
theorem devX38 (c : Dev nD) : (⟨k0_dev33 c, k0_dev33_lt c⟩ : Dev nD) = dv 38 c := by revert c; decide
theorem devX39 (c : Dev nD) : (⟨k0_dev39 c, k0_dev39_lt c⟩ : Dev nD) = dv 39 c := by revert c; decide
theorem devX40 (c : Dev nD) : (⟨k0_dev44 c, k0_dev44_lt c⟩ : Dev nD) = dv 40 c := by revert c; decide
theorem devX41 (c : Dev nD) : (⟨k0_dev45 c, k0_dev45_lt c⟩ : Dev nD) = dv 41 c := by revert c; decide

/-! ## The row offsets the kernel computes -/

theorem o1_1_0 (d0 : Dev nD) : k0_off1 d0 1#32 0#32 = ![row 0 1 d0, 0] := by revert d0; decide
theorem o1_1_2 (d0 : Dev nD) : k0_off1 d0 1#32 2#32 = ![row 0 3 d0, 0] := by revert d0; decide
theorem o1_1_4 (d0 : Dev nD) : k0_off1 d0 1#32 4#32 = ![row 0 5 d0, 0] := by revert d0; decide
theorem o1_1_6 (d0 : Dev nD) : k0_off1 d0 1#32 6#32 = ![row 0 7 d0, 0] := by revert d0; decide
theorem o1_2_0 (d0 : Dev nD) : k0_off1 d0 2#32 0#32 = ![row 0 2 d0, 0] := by revert d0; decide
theorem o1_2_4 (d0 : Dev nD) : k0_off1 d0 2#32 4#32 = ![row 0 6 d0, 0] := by revert d0; decide
theorem o1_4_0 (d0 : Dev nD) : k0_off1 d0 4#32 0#32 = ![row 0 4 d0, 0] := by revert d0; decide
theorem o2_1_0_176 (d0 : Dev nD) : k0_off2 d0 1#32 0#32 176#32 = ![row 2 1 d0, 0] := by revert d0; decide
theorem o2_1_0_96 (d0 : Dev nD) : k0_off2 d0 1#32 0#32 96#32 = ![row 1 1 d0, 0] := by revert d0; decide
theorem o2_1_2_176 (d0 : Dev nD) : k0_off2 d0 1#32 2#32 176#32 = ![row 2 3 d0, 0] := by revert d0; decide
theorem o2_2_0_176 (d0 : Dev nD) : k0_off2 d0 2#32 0#32 176#32 = ![row 2 2 d0, 0] := by revert d0; decide
theorem o2_2_0_96 (d0 : Dev nD) : k0_off2 d0 2#32 0#32 96#32 = ![row 1 2 d0, 0] := by revert d0; decide
theorem o2_2_1_96 (d0 : Dev nD) : k0_off2 d0 2#32 1#32 96#32 = ![row 1 3 d0, 0] := by revert d0; decide
theorem o2_2_4_96 (d0 : Dev nD) : k0_off2 d0 2#32 4#32 96#32 = ![row 1 6 d0, 0] := by revert d0; decide
theorem o2_2_5_96 (d0 : Dev nD) : k0_off2 d0 2#32 5#32 96#32 = ![row 1 7 d0, 0] := by revert d0; decide
theorem o2_4_0_176 (d0 : Dev nD) : k0_off2 d0 4#32 0#32 176#32 = ![row 2 4 d0, 0] := by revert d0; decide
theorem o2_4_0_96 (d0 : Dev nD) : k0_off2 d0 4#32 0#32 96#32 = ![row 1 4 d0, 0] := by revert d0; decide
theorem o2_4_1_176 (d0 : Dev nD) : k0_off2 d0 4#32 1#32 176#32 = ![row 2 5 d0, 0] := by revert d0; decide
theorem o2_4_1_96 (d0 : Dev nD) : k0_off2 d0 4#32 1#32 96#32 = ![row 1 5 d0, 0] := by revert d0; decide
theorem o2_4_2_176 (d0 : Dev nD) : k0_off2 d0 4#32 2#32 176#32 = ![row 2 6 d0, 0] := by revert d0; decide
theorem o2_4_3_176 (d0 : Dev nD) : k0_off2 d0 4#32 3#32 176#32 = ![row 2 7 d0, 0] := by revert d0; decide
theorem o3_2 (d0 : Dev nD) : k0_off3 d0 2#32 = ![row 0 2 d0, 0] := by revert d0; decide
theorem o3_4 (d0 : Dev nD) : k0_off3 d0 4#32 = ![row 0 4 d0, 0] := by revert d0; decide
theorem o3_6 (d0 : Dev nD) : k0_off3 d0 6#32 = ![row 0 6 d0, 0] := by revert d0; decide
theorem o4_1_176 (d0 : Dev nD) : k0_off4 d0 1#32 176#32 = ![row 2 1 d0, 0] := by revert d0; decide
theorem o4_1_96 (d0 : Dev nD) : k0_off4 d0 1#32 96#32 = ![row 1 1 d0, 0] := by revert d0; decide
theorem o4_2_176 (d0 : Dev nD) : k0_off4 d0 2#32 176#32 = ![row 2 2 d0, 0] := by revert d0; decide
theorem o4_3_176 (d0 : Dev nD) : k0_off4 d0 3#32 176#32 = ![row 2 3 d0, 0] := by revert d0; decide
theorem o4_4_96 (d0 : Dev nD) : k0_off4 d0 4#32 96#32 = ![row 1 4 d0, 0] := by revert d0; decide
theorem o4_5_96 (d0 : Dev nD) : k0_off4 d0 5#32 96#32 = ![row 1 5 d0, 0] := by revert d0; decide
theorem o5 (d0 : Dev nD) : k0_off5 d0 = ![row 0 0 d0, 0] := by revert d0; decide
theorem o6_0 (d0 : Dev nD) : k0_off6 d0 0#32 = ![row 0 0 d0, 0] := by revert d0; decide
theorem o6_2 (d0 : Dev nD) : k0_off6 d0 2#32 = ![row 0 2 d0, 0] := by revert d0; decide
theorem o6_4 (d0 : Dev nD) : k0_off6 d0 4#32 = ![row 0 4 d0, 0] := by revert d0; decide
theorem o6_6 (d0 : Dev nD) : k0_off6 d0 6#32 = ![row 0 6 d0, 0] := by revert d0; decide
theorem o7_176 (d0 : Dev nD) : k0_off7 d0 176#32 = ![row 2 0 d0, 0] := by revert d0; decide
theorem o7_96 (d0 : Dev nD) : k0_off7 d0 96#32 = ![row 1 0 d0, 0] := by revert d0; decide
theorem o8_0_176 (d0 : Dev nD) : k0_off8 d0 0#32 176#32 = ![row 2 0 d0, 0] := by revert d0; decide
theorem o8_0_96 (d0 : Dev nD) : k0_off8 d0 0#32 96#32 = ![row 1 0 d0, 0] := by revert d0; decide
theorem o8_1_176 (d0 : Dev nD) : k0_off8 d0 1#32 176#32 = ![row 2 1 d0, 0] := by revert d0; decide
theorem o8_1_96 (d0 : Dev nD) : k0_off8 d0 1#32 96#32 = ![row 1 1 d0, 0] := by revert d0; decide
theorem o8_2_176 (d0 : Dev nD) : k0_off8 d0 2#32 176#32 = ![row 2 2 d0, 0] := by revert d0; decide
theorem o8_3_176 (d0 : Dev nD) : k0_off8 d0 3#32 176#32 = ![row 2 3 d0, 0] := by revert d0; decide
theorem o8_4_96 (d0 : Dev nD) : k0_off8 d0 4#32 96#32 = ![row 1 4 d0, 0] := by revert d0; decide
theorem o8_5_96 (d0 : Dev nD) : k0_off8 d0 5#32 96#32 = ![row 1 5 d0, 0] := by revert d0; decide

end Cube

end
-- ==== Proof.Views.lean ====
/-
# Bands of rows, and what the kernel's views read and write of them

A band is a set of consecutive rows of a `[2048, 1024]` buffer, or of one slot of the `[7, 256, 1024]` landing
buffer. Contents are functions on the whole buffer; a band owns its rows at such a function.
-/
module

public import proofs.«01_k».proof.Proof.Proto
public import Idealize.ShloMosaic.Lib.ValueLayout

@[expose] public section

noncomputable section

namespace Cube

open Cert.KernelIdeal Cert.KernelIdeal.Gen
open Idealize.ShloMosaic Idealize.ShloMosaic.TcCoe Idealize.ShloMosaic.ValueIdx

variable {F : FTy → Type} [FloatOps F]

/-- The rows `r … r + h - 1`. -/
def rows (r h : ℕ) : Finset S2048x1024.Idx := Finset.univ.filter fun i => r ≤ (i 0).val ∧ (i 0).val < r + h
/-- The rows `r … r + h - 1` of slot `s` of the landing buffer. -/
def srows (s r h : ℕ) : Finset S7x256x1024.Idx :=
  Finset.univ.filter fun i => (i 0).val = s ∧ r ≤ (i 1).val ∧ (i 1).val < r + h

theorem mem_rows {r h : ℕ} {i : S2048x1024.Idx} : i ∈ rows r h ↔ r ≤ (i 0).val ∧ (i 0).val < r + h := by
  unfold rows; rw [Finset.mem_filter]; exact and_iff_right (Finset.mem_univ _)
theorem mem_srows {s r h : ℕ} {i : S7x256x1024.Idx} :
    i ∈ srows s r h ↔ (i 0).val = s ∧ r ≤ (i 1).val ∧ (i 1).val < r + h := by
  unfold srows; rw [Finset.mem_filter]; exact and_iff_right (Finset.mem_univ _)

/-- The element of row `a` (taken around the buffer) and column `b`. -/
def at2 (a : ℕ) (b : Fin 1024) : S2048x1024.Idx := ix2 (⟨a % 2048, Nat.mod_lt _ (by decide)⟩ : Fin 2048) b

theorem at2_self (i : S2048x1024.Idx) : at2 (i 0).val (i 1) = i := by
  have h : (i 0).val < 2048 := (i 0).isLt
  funext a; fin_cases a
  · exact Fin.ext (Nat.mod_eq_of_lt h)
  · rfl

/-- The `h` rows from row `r` of a whole-buffer function, as a block; -/
def blk {α : Type} (h : ℕ) (f : S2048x1024.Idx → α) (r : ℕ) : (⟨2, ![h, 1024]⟩ : Shape).Idx → α :=
  fun j => f (at2 (r + (j 0).val) (j 1))
/-- and as a block under a unit axis. -/
def blk3 {α : Type} (h : ℕ) (f : S2048x1024.Idx → α) (r : ℕ) : (⟨3, ![1, h, 1024]⟩ : Shape).Idx → α :=
  fun j => f (at2 (r + (j 1).val) (j 2))

/-! ## A band of a `[2048, 1024]` buffer through a slice of it -/

section Band
variable (M : Memref sig .tc .vmem S2048x1024 .bf16)

/-- The index of a buffer's slice, in the buffer. -/
theorem emb_band (h r : ℕ) (inb : ∀ a, (![r, 0] : Fin 2 → ℕ) a + (![h, 1024] : Fin 2 → ℕ) a ≤ S2048x1024.size a)
    (j : (⟨2, ![h, 1024]⟩ : Shape).Idx) : (Rect.unit (s := S2048x1024) ![r, 0] ![h, 1024] inb).emb j = at2 (r + (j 0).val) (j 1) := by
  have h0 : r + h ≤ 2048 := inb 0
  have hj : (j 0).val < h := (j 0).isLt
  funext a; fin_cases a
  · apply Fin.ext
    show r + 1 * (j 0).val = (r + (j 0).val) % 2048
    rw [Nat.mod_eq_of_lt (by omega), Nat.one_mul]
  · apply Fin.ext
    show 0 + 1 * (j 1).val = (j 1).val
    omega

theorem set_band (h r : ℕ) (inb : ∀ a, (![r, 0] : Fin 2 → ℕ) a + (![h, 1024] : Fin 2 → ℕ) a ≤ S2048x1024.size a) :
    (Rect.unit (s := S2048x1024) ![r, 0] ![h, 1024] inb).set = rows r h := by
  ext i
  rw [Rect.mem_set_unit, mem_rows]
  constructor
  · intro H; exact H 0
  · intro H a
    fin_cases a
    · exact H
    · exact ⟨Nat.zero_le _, by have := (i 1).isLt; show (i 1).val < 0 + 1024; rw [Nat.zero_add]; exact this⟩

end Band

end Cube

end
-- ==== Proof.Sched.lean ====
/-
# The contents in flight and the schedule of the semaphores

First the values: what the partial sums hold after each scatter stage, and the one result every device ends with.
Then, for every semaphore of a device, who pays it, how much, and what the payment hands over:

* the barrier: three payers, the neighbours across the masks 1, 2, 4, one unit each; a neighbour hands over the
  buffers on its side that the transfers across that edge will land in;
* a transfer's departure semaphore: the transfer itself, its source band handed back;
* a transfer's arrival semaphore: the transfer from across the edge, the landed band with its contents;
* the weights' copy: itself, both buffers.
-/
module

public import proofs.«01_k».proof.Proof.Views

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit tileCredit_pos)

variable {F : FTy → Type} [FloatOps F]

/-! ## Contents -/

/-- Every device's operands. -/
structure In (F : FTy → Type) where
  T : Dev nD → Vec F S2048x1024 .f32
  W : Dev nD → Vec F S1024x1024 .f32

variable (I : In F)

/-- Widening and rounding of a whole buffer. -/
def wid (v : FVec F S2048x1024 .bf16) : FVec F S2048x1024 .f32 := extf .f32 v bitsLt_bf16_f32
def rnd (v : FVec F S2048x1024 .f32) : FVec F S2048x1024 .bf16 := truncf .bf16 v bitsLt_bf16_f32

/-- The device's own summand; -/
def V0 (c : Dev nD) : FVec F S2048x1024 .bf16 := rnd (I.T c)
/-- the sum after the first scatter stage, before and after rounding; -/
def U1 (p : Fin 3) (c : Dev nD) : FVec F S2048x1024 .f32 := addf (wid (V0 I c)) (wid (V0 I (pt (ms p 0) c)))
def V1 (p : Fin 3) (c : Dev nD) : FVec F S2048x1024 .bf16 := rnd (U1 I p c)
/-- after the second; -/
def U2 (p : Fin 3) (c : Dev nD) : FVec F S2048x1024 .f32 := addf (U1 I p c) (wid (V1 I p (pt (ms p 1) c)))
def V2 (p : Fin 3) (c : Dev nD) : FVec F S2048x1024 .bf16 := rnd (U2 I p c)
/-- after the third: on a device's own chunk, the sum over all eight devices. -/
def U3 (p : Fin 3) (c : Dev nD) : FVec F S2048x1024 .f32 := addf (U2 I p c) (wid (V2 I p (pt (ms p 2) c)))
def V3 (p : Fin 3) (c : Dev nD) : FVec F S2048x1024 .bf16 := rnd (U3 I p c)

/-- The weights, rounded. -/
def wb (c : Dev nD) : FVec F S1024x1024 .bf16 := truncf .bf16 (I.W c) bitsLt_bf16_f32

/-- A device's part of the result in each pipeline: its band of the sum times the weights. -/
def O0 (c : Dev nD) : FVec F S96x1024 .bf16 :=
  truncf .bf16 (matmul dot_S96x1024_S1024x1024_S96x1024_1_0_0_1_n_n none (blk 96 (V3 I 0 c) (row 0 0 c) : FVec F S96x1024 .bf16) (wb I c)
    (constant S96x1024 .f32 0x00000000#32)) bitsLt_bf16_f32
def O12 (p : Fin 3) (c : Dev nD) : FVec F S80x1024 .bf16 :=
  truncf .bf16 (matmul dot_S80x1024_S1024x1024_S80x1024_1_0_0_1_n_n none (blk 80 (V3 I p c) (row p 0 c) : FVec F S80x1024 .bf16) (wb I c)
    (constant S80x1024 .f32 0x00000000#32)) bitsLt_bf16_f32

/-- The result, the same on every device: a row belongs to a chunk and, by its place in it, to a pipeline; the chunk's
    owner computed it. -/
def OUT : FVec F S2048x1024 .bf16 := fun i =>
  let k : Fin 8 := ⟨(i 0).val / 256, by have : (i 0).val < 2048 := (i 0).isLt; omega⟩
  let w := (i 0).val % 256
  if h : w < 96 then O0 I (lg k) (ValueIdx.ix2 (⟨w, h⟩ : Fin 96) (i 1))
  else if h' : w < 176 then O12 I 1 (lg k) (ValueIdx.ix2 (⟨w - 96, by omega⟩ : Fin 80) (i 1))
  else O12 I 2 (lg k) (ValueIdx.ix2 (⟨w - 176, by have := Nat.mod_lt (i 0).val (show 0 < 256 by decide); omega⟩ : Fin 80) (i 1))

/-- What a scatter transfer carries away from device `c`. -/
def SV (x : X) (c : Dev nD) : FVec F S2048x1024 .bf16 :=
  match st x with | 0 => V0 I c | 1 => V1 I (pp x) c | 2 => V2 I (pp x) c
/-- What it leaves in its slot of the landing buffer on device `c`. -/
def RB (x : X) (c : Dev nD) : FVec F S7x256x1024 .bf16 :=
  fun i => SV I x (dv x c) (at2 ((ch c (rk x)).val * 256 + (i 1).val) (i 2))

/-! ## The resource algebra -/

abbrev DD : Type := Fin 3
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Bands -/

/-- A band of the accumulator, -/
def accB (p : Fin 3) (k : Fin 8) (c : Dev nD) (f : Vec F S2048x1024 .bf16) : sProp 𝕄 :=
  (c : Thread nD τ).loc cc0_scratch0 ↦[rows (row p k c) (hgt p)]{fullShare} f
/-- of the result's staging buffer, at a share, -/
def outB (p : Fin 3) (k : Fin 8) (c : Dev nD) (q : PosShare TreeShare) (f : Vec F S2048x1024 .bf16) : sProp 𝕄 :=
  (c : Thread nD τ).loc cc0_stg1_0 ↦[rows (row p k c) (hgt p)]{q} f
/-- of the landing buffer: transfer `x`'s slot. -/
def rcvB (x : X) (c : Dev nD) (f : Vec F S7x256x1024 .bf16) : sProp 𝕄 :=
  (c : Thread nD τ).loc cc0_scratch3 ↦[srows (sl x).val (roff (pp x)) (hgt (pp x))]{fullShare} f
/-- The weights' two buffers. -/
def wHbm (c : Dev nD) (f : Vec F S1024x1024 .f32) : sProp 𝕄 := (c : Thread nD τ).loc main_arg1 ↦{fullShare} f
def wVm (c : Dev nD) (f : Vec F S1024x1024 .f32) : sProp 𝕄 := (c : Thread nD τ).loc cc0_scratch1 ↦{fullShare} f

omit [FloatOps F] in
instance accB_storable (p k c f) : BI.Storable (upEmb : UEmb _ 𝕄) (accB (F := F) p k c f) := by unfold accB; infer_instance
omit [FloatOps F] in
instance outB_storable (p k c q f) : BI.Storable (upEmb : UEmb _ 𝕄) (outB (F := F) p k c q f) := by unfold outB; infer_instance
omit [FloatOps F] in
instance rcvB_storable (x c f) : BI.Storable (upEmb : UEmb _ 𝕄) (rcvB (F := F) x c f) := by unfold rcvB; infer_instance
omit [FloatOps F] in
instance wHbm_storable (c f) : BI.Storable (upEmb : UEmb _ 𝕄) (wHbm (F := F) c f) := by unfold wHbm; infer_instance
omit [FloatOps F] in
instance wVm_storable (c f) : BI.Storable (upEmb : UEmb _ 𝕄) (wVm (F := F) c f) := by unfold wVm; infer_instance

/-- The share of its source band a gather transfer takes: a band that goes out three times, twice or once. -/
def qx (x : X) : PosShare TreeShare :=
  match sl x with
  | 0 => fullShare.left | 1 => fullShare.right.left | 3 => fullShare.right.right
  | 2 => fullShare.left | 4 => fullShare.right | _ => fullShare

/-- A transfer's source band on device `c`, with what it carries; -/
def srcB (x : X) (c : Dev nD) : sProp 𝕄 :=
  if x.val < 21 then accB (pp x) (sk x) c (SV I x c) else outB (pp x) (sk x) c (qx x) (OUT I)
/-- what it has left on the device `c` it went to; -/
def dstB (x : X) (c : Dev nD) : sProp 𝕄 :=
  if x.val < 21 then rcvB x c (RB I x c) else outB (pp x) (rk x) c fullShare (OUT I)
/-- the place on device `c` it will land in. -/
def lndB (x : X) (c : Dev nD) : sProp 𝕄 :=
  if x.val < 21 then iprop(∃ f, rcvB (F := F) x c f) else iprop(∃ f, outB (F := F) (pp x) (rk x) c fullShare f)

instance srcB_storable (x c) : BI.Storable (upEmb : UEmb _ 𝕄) (srcB (F := F) I x c) := by unfold srcB; split <;> infer_instance
instance dstB_storable (x c) : BI.Storable (upEmb : UEmb _ 𝕄) (dstB (F := F) I x c) := by unfold dstB; split <;> infer_instance
omit [FloatOps F] in
instance lndB_storable (x c) : BI.Storable (upEmb : UEmb _ 𝕄) (lndB (F := F) x c) := by unfold lndB; split <;> infer_instance

/-! ## Cells -/

abbrev barS : Sem sig := (SemArray.scalar (sig.barrier 0 rfl) : Sems sig S_).sem
abbrev barCell (c : Dev nD) : GSem nD τ sig := ((c : Thread nD τ), .reg barS)
abbrev dCell (q : DmaSem sig) (c : Dev nD) : GSem nD τ sig := ((c : Thread nD τ), .dma q)
abbrev depCell (x : X) (c : Dev nD) : GSem nD τ sig := dCell (depS x) c
abbrev arrCell (x : X) (c : Dev nD) : GSem nD τ sig := dCell (arrS x) c
abbrev wCell (c : Dev nD) : GSem nD τ sig := dCell wS c

/-- The mask of a barrier duty. -/
def km : Fin 3 → Fin 8 := ![1, 2, 4]

/-- The credit of a block of `h` rows, of a transfer, and of the weights. -/
def NB (h : ℕ) : ℕ := tileCredit ⟨2, ![h, 1024]⟩ .bf16
def NX (x : X) : ℕ := NB (hgt (pp x))
def NW : ℕ := tileCredit S1024x1024 .f32

theorem NB_pos (h : ℕ) (hh : 0 < h) : 0 < NB h := tileCredit_pos _ _ (by
  show 0 < ∏ a : Fin 2, (![h, 1024] : Fin 2 → ℕ) a
  rw [Fin.prod_univ_two]; exact Nat.mul_pos hh (show 0 < 1024 by decide))
theorem NX_pos (x : X) : 0 < NX x := NB_pos _ (hgt_pos _)
theorem NW_pos : 0 < NW := tileCredit_pos _ _ (by decide)

/-- What device `pt (km d) c` hands `c` with its unit. -/
def barPay (c : Dev nD) (d : Fin 3) : sProp 𝕄 :=
  bigSep Finset.univ fun x : X => if mk x = km d then lndB (F := F) x (pt (km d) c) else iprop(emp)

omit [FloatOps F] in
instance barPay_storable (c d) : BI.Storable (upEmb : UEmb _ 𝕄) (barPay (F := F) c d) := by
  unfold barPay
  have : ∀ x : X, BI.Storable (upEmb : UEmb _ 𝕄) (if mk x = km d then lndB (F := F) x (pt (km d) c) else iprop(emp)) := fun x => by
    split <;> infer_instance
  infer_instance

def dmaPay (c : Dev nD) (q : DmaSem sig) : sProp 𝕄 :=
  match role q with
  | .no => iprop(emp)
  | .w => iprop(wVm c (I.W c) ∗ wHbm c (I.W c))
  | .dep x => srcB I x c
  | .arr x => dstB I x c

instance dmaPay_storable (c q) : BI.Storable (upEmb : UEmb _ 𝕄) (dmaPay (F := F) I c q) := by
  unfold dmaPay; split <;> infer_instance

def dmaAmt (q : DmaSem sig) : ℕ := match role q with | .no => 1 | .w => NW | .dep x => NX x | .arr x => NX x
theorem dmaAmt_pos (q : DmaSem sig) : 0 < dmaAmt q := by
  unfold dmaAmt; split <;> first | exact Nat.one_pos | exact NW_pos | exact NX_pos _

/-- One round: the barrier has its three duties, every other semaphore of the kernel one. -/
def Rd : Rounds.Schedule (GSem nD τ sig) DD 𝕄 where
  duties g r := if r = 0 ∧ g.1.2 = .tc then (match g.2 with | .reg _ => Finset.univ | .dma q => if role q = .no then ∅ else {0}) else ∅
  unitless _ := False
  amount g _ _ := match g.2 with | .reg _ => 1 | .dma q => dmaAmt q
  payload g _ d := match g.2 with | .reg _ => barPay g.1.1 d | .dma q => dmaPay I g.1.1 q
  amount_pos g _ _ _ := by split <;> [exact Nat.one_pos; exact dmaAmt_pos _]

instance Rd_payload_storable (g : GSem nD τ sig) (r : ℕ) (d : DD) :
    BI.Storable (upEmb : UEmb _ 𝕄) ((Rd (F := F) I).payload g r d) := by
  show BI.Storable upEmb (match g.2 with | .reg _ => barPay g.1.1 d | .dma q => dmaPay I g.1.1 q)
  split <;> infer_instance

section Facts
variable (c : Dev nD)

theorem duties_bar : (Rd (F := F) I).duties (barCell c) 0 = Finset.univ := by
  dsimp only [Rd]; exact if_pos ⟨rfl, rfl⟩
theorem duties_dma (q : DmaSem sig) (hq : role q ≠ .no) : (Rd (F := F) I).duties (dCell q c) 0 = {0} := by
  dsimp only [Rd]; exact (if_pos ⟨rfl, rfl⟩).trans (if_neg hq)
theorem duties_later (g : GSem nD τ sig) : ∀ r, 0 + 1 ≤ r → (Rd (F := F) I).duties g r = ∅ :=
  fun r hr => by dsimp only [Rd]; exact if_neg fun h => by omega
theorem expect_bar : (Rd (F := F) I).expect (barCell c) 0 = 3 := by
  unfold Schedule.expect Schedule.amountOf
  rw [duties_bar]; rfl
theorem expect_dma (q : DmaSem sig) (hq : role q ≠ .no) : (Rd (F := F) I).expect (dCell q c) 0 = dmaAmt q := by
  unfold Schedule.expect Schedule.amountOf
  rw [duties_dma I c q hq, Finset.sum_singleton]; rfl
theorem rest_bar : bigSep ((Rd (F := F) I).duties (barCell c) 0 \ ∅) (fun d => (Rd (F := F) I).payload (barCell c) 0 d)
    = iprop(barPay c 0 ∗ barPay c 1 ∗ barPay c 2) := by
  rw [Finset.sdiff_empty, duties_bar, bigSep_univ_eq_bigSepL [0, 1, 2] (by decide) (by decide)]; rfl
theorem rest_dma (q : DmaSem sig) (hq : role q ≠ .no) :
    bigSep ((Rd (F := F) I).duties (dCell q c) 0 \ ∅) (fun d => (Rd (F := F) I).payload (dCell q c) 0 d) = dmaPay I c q := by
  rw [Finset.sdiff_empty, duties_dma I c q hq, bigSep_singleton]; rfl

theorem dep_ne (x : X) : role (depS x) ≠ .no := by rw [role_dep]; exact fun h => by cases h
theorem arr_ne (x : X) : role (arrS x) ≠ .no := by rw [role_arr]; exact fun h => by cases h
theorem w_ne : role wS ≠ .no := by rw [role_w]; exact fun h => by cases h
theorem amt_dep (x : X) : dmaAmt (depS x) = NX x := by unfold dmaAmt; rw [role_dep]
theorem amt_arr (x : X) : dmaAmt (arrS x) = NX x := by unfold dmaAmt; rw [role_arr]
theorem amt_w : dmaAmt wS = NW := by unfold dmaAmt; rw [role_w]
theorem pay_dep (x : X) : dmaPay I c (depS x) = srcB I x c := by unfold dmaPay; rw [role_dep]
theorem pay_arr (x : X) : dmaPay I c (arrS x) = dstB I x c := by unfold dmaPay; rw [role_arr]
theorem pay_w : dmaPay I c wS = iprop(wVm c (I.W c) ∗ wHbm c (I.W c)) := by unfold dmaPay; rw [role_w]

end Facts

end Cube

end
-- ==== Proof.Slices.lean ====
/-
# What the kernel's views read and write of a band

A slice of the accumulator or of the result's staging buffer is a band of rows; a slot of the landing buffer, with
or without its unit axis, is a band of that slot. Reading one gives the band as a block; writing a block into it
gives, on the band, the function the block was taken from.
-/
module

public import proofs.«01_k».proof.Proof.Sched

@[expose] public section

noncomputable section

namespace Cube

open Cert.KernelIdeal Cert.KernelIdeal.Gen
open Idealize.ShloMosaic Idealize.ShloMosaic.TcCoe Idealize.ShloMosaic.ValueIdx

variable {F : FTy → Type} [FloatOps F]

/-! ## Values of blocks -/

theorem wid_blk (h : ℕ) (f : FVec F S2048x1024 .bf16) (r : ℕ) :
    extf .f32 (blk h f r : FVec F ⟨2, ![h, 1024]⟩ .bf16) bitsLt_bf16_f32 = (blk h (wid f) r : FVec F ⟨2, ![h, 1024]⟩ .f32) := rfl
theorem rnd_blk (h : ℕ) (f : FVec F S2048x1024 .f32) (r : ℕ) :
    truncf .bf16 (blk h f r : FVec F ⟨2, ![h, 1024]⟩ .f32) bitsLt_bf16_f32 = (blk h (rnd f) r : FVec F ⟨2, ![h, 1024]⟩ .bf16) := rfl
theorem add_blk (h : ℕ) (f g : FVec F S2048x1024 .f32) (r : ℕ) :
    addf (blk h f r : FVec F ⟨2, ![h, 1024]⟩ .f32) (blk h g r) = (blk h (addf f g) r : FVec F ⟨2, ![h, 1024]⟩ .f32) := rfl
theorem cast_blk3 {α : Type} (h : ℕ) (f : S2048x1024.Idx → α) (r : ℕ)
    (hc : (⟨3, ![1, h, 1024]⟩ : Shape).ShapeCasts ⟨2, ![h, 1024]⟩) :
    shapeCast ⟨2, ![h, 1024]⟩ (blk3 h f r : (⟨3, ![1, h, 1024]⟩ : Shape).Idx → α) hc = (blk h f r : (⟨2, ![h, 1024]⟩ : Shape).Idx → α) := by
  funext j
  obtain ⟨a, b, rfl⟩ : ∃ (a : Fin h) (b : Fin 1024), j = ix2 a b := ⟨j 0, j 1, by funext t; fin_cases t <;> rfl⟩
  exact congrArg (blk3 h f r) (ValueIdx.reshapeEquiv_ix2_1ab hc a b)
theorem cast_blk {α : Type} (h : ℕ) (f : (⟨2, ![h, 1024]⟩ : Shape).Idx → α)
    (hc : (⟨2, ![h, 1024]⟩ : Shape).ShapeCasts ⟨2, ![h, 1024]⟩) : shapeCast ⟨2, ![h, 1024]⟩ f hc = f := by
  funext j
  show f (Shape.reshapeEquiv _ j) = f j
  rw [Shape.reshapeEquiv_self]

/-! ## Bands of a `[2048, 1024]` buffer -/

abbrev bR (h r : ℕ) (inb : ∀ a, (![r, 0] : Fin 2 → ℕ) a + (![h, 1024] : Fin 2 → ℕ) a ≤ S2048x1024.size a) : Rect S2048x1024 :=
  Rect.unit (s := S2048x1024) ![r, 0] ![h, 1024] inb

section Two
variable (h r : ℕ) (inb : ∀ a, (![r, 0] : Fin 2 → ℕ) a + (![h, 1024] : Fin 2 → ℕ) a ≤ S2048x1024.size a)

theorem acc_set : ((Memref.whole cc0_scratch0 : Memref sig .tc .vmem S2048x1024 .bf16).view.slice (bR h r inb)).set = rows r h := by
  exact (View.set_slice_whole _ _).trans (set_band h r inb)
theorem acc_read (f : Vec F S2048x1024 .bf16) :
    ((Memref.whole cc0_scratch0 : Memref sig .tc .vmem S2048x1024 .bf16).view.slice (bR h r inb)).read (Elt F) f = blk h f r := by
  funext j; exact congrArg f (emb_band h r inb j)
theorem acc_write (f g : Vec F S2048x1024 .bf16) :
    ∀ i ∈ rows r h, ((Memref.whole cc0_scratch0 : Memref sig .tc .vmem S2048x1024 .bf16).view.slice (bR h r inb)).write (Elt F) f
      (blk h g r : Vec F ⟨2, ![h, 1024]⟩ .bf16) Finset.univ i = g i := by
  intro i hi
  rw [← acc_set h r inb] at hi
  obtain ⟨j, -, rfl⟩ := Finset.mem_map.mp hi
  exact (View.write_emb_of_mem _ _ (Finset.mem_univ j)).trans (congrArg g (emb_band h r inb j)).symm
theorem out_set : ((Memref.whole cc0_stg1_0 : Memref sig .tc .vmem S2048x1024 .bf16).view.slice (bR h r inb)).set = rows r h := by
  exact (View.set_slice_whole _ _).trans (set_band h r inb)
theorem out_read (f : Vec F S2048x1024 .bf16) :
    ((Memref.whole cc0_stg1_0 : Memref sig .tc .vmem S2048x1024 .bf16).view.slice (bR h r inb)).read (Elt F) f = blk h f r := by
  funext j; exact congrArg f (emb_band h r inb j)
theorem out_write (f g : Vec F S2048x1024 .bf16) :
    ∀ i ∈ rows r h, ((Memref.whole cc0_stg1_0 : Memref sig .tc .vmem S2048x1024 .bf16).view.slice (bR h r inb)).write (Elt F) f
      (blk h g r : Vec F ⟨2, ![h, 1024]⟩ .bf16) Finset.univ i = g i := by
  intro i hi
  rw [← out_set h r inb] at hi
  obtain ⟨j, -, rfl⟩ := Finset.mem_map.mp hi
  exact (View.write_emb_of_mem _ _ (Finset.mem_univ j)).trans (congrArg g (emb_band h r inb j)).symm

end Two

/-! ## Slots of the landing buffer -/

abbrev bR3 (s h r : ℕ) (inb : ∀ a, (![s, r, 0] : Fin 3 → ℕ) a + (![1, h, 1024] : Fin 3 → ℕ) a ≤ S7x256x1024.size a) : Rect S7x256x1024 :=
  Rect.unit (s := S7x256x1024) ![s, r, 0] ![1, h, 1024] inb

section Three
variable (s h r : ℕ) (inb : ∀ a, (![s, r, 0] : Fin 3 → ℕ) a + (![1, h, 1024] : Fin 3 → ℕ) a ≤ S7x256x1024.size a)
  (hq : (⟨2, ![h, 1024]⟩ : Shape).numel = (⟨3, ![1, h, 1024]⟩ : Shape).numel)

theorem rcv_set : ((Memref.whole cc0_scratch3 : Memref sig .tc .vmem S7x256x1024 .bf16).view.slice (bR3 s h r inb)).set = srows s r h := by
  refine (View.set_slice_whole _ _).trans ?_
  ext i
  rw [Rect.mem_set_unit, mem_srows]
  constructor
  · intro H
    have h0 := H 0; have h1 := H 1
    change s ≤ (i 0).val ∧ (i 0).val < s + 1 at h0
    exact ⟨by omega, h1⟩
  · rintro ⟨H0, H1⟩ a
    fin_cases a
    · show s ≤ (i 0).val ∧ (i 0).val < s + 1
      omega
    · exact H1
    · exact ⟨Nat.zero_le _, by have := (i 2).isLt; show (i 2).val < 0 + 1024; rw [Nat.zero_add]; exact this⟩

theorem rcv_emb (j : (⟨3, ![1, h, 1024]⟩ : Shape).Idx) :
    ((bR3 s h r inb).emb j 1).val = r + (j 1).val ∧ (bR3 s h r inb).emb j 2 = j 2 := by
  constructor
  · show r + 1 * (j 1).val = _
    omega
  · apply Fin.ext
    show 0 + 1 * (j 2).val = _
    omega

/-- A function of the slot's rows that is a band of `g` from row `q`, read through the slot. -/
theorem rcv_read (f : Vec F S7x256x1024 .bf16) (g : Vec F S2048x1024 .bf16) (b q : ℕ) (hb : b + r = q)
    (hf : ∀ i : S7x256x1024.Idx, f i = g (at2 (b + (i 1).val) (i 2))) :
    ((Memref.whole cc0_scratch3 : Memref sig .tc .vmem S7x256x1024 .bf16).view.slice (bR3 s h r inb)).read (Elt F) f = blk3 h g q := by
  funext j
  have e := rcv_emb s h r inb j
  show f ((bR3 s h r inb).emb j) = g (at2 (q + (j 1).val) (j 2))
  rw [hf, e.1, e.2, ← hb, Nat.add_assoc]

/-- The slot without its unit axis: the same elements; -/
theorem rcv_set' : (((Memref.whole cc0_scratch3 : Memref sig .tc .vmem S7x256x1024 .bf16).view.slice (bR3 s h r inb)).reshape ⟨2, ![h, 1024]⟩ hq).set
    = srows s r h := (View.set_reshape _ _).trans (rcv_set s h r inb)
/-- written with a block of `g`, it holds `g`'s rows. -/
theorem rcv_write (f : Vec F S7x256x1024 .bf16) (g : Vec F S2048x1024 .bf16) (b q : ℕ) (hb : b + r = q) :
    ∀ i ∈ srows s r h, (((Memref.whole cc0_scratch3 : Memref sig .tc .vmem S7x256x1024 .bf16).view.slice (bR3 s h r inb)).reshape ⟨2, ![h, 1024]⟩ hq).write (Elt F) f
      (blk h g q : Vec F ⟨2, ![h, 1024]⟩ .bf16) Finset.univ i = g (at2 (b + (i 1).val) (i 2)) := by
  intro i hi
  rw [← rcv_set' s h r inb hq] at hi
  obtain ⟨j, -, rfl⟩ := Finset.mem_map.mp hi
  refine (View.write_emb_of_mem _ _ (Finset.mem_univ j)).trans ?_
  obtain ⟨a, b', rfl⟩ : ∃ (a : Fin h) (b' : Fin 1024), j = ix2 a b' := ⟨j 0, j 1, by funext t; fin_cases t <;> rfl⟩
  have e : (((Memref.whole cc0_scratch3 : Memref sig .tc .vmem S7x256x1024 .bf16).view.slice (bR3 s h r inb)).reshape ⟨2, ![h, 1024]⟩ hq).emb (ix2 a b')
      = (bR3 s h r inb).emb (ix3 (0 : Fin 1) a b') := congrArg (fun x => (bR3 s h r inb).emb x) (ValueIdx.reshapeEquiv_ix2_1ab hq a b')
  have e' := rcv_emb s h r inb (ix3 (0 : Fin 1) a b')
  refine Eq.trans ?_ (congrArg (fun i : S7x256x1024.Idx => g (at2 (b + (i 1).val) (i 2))) e).symm
  show g (at2 (q + a.val) b') = g (at2 (b + ((bR3 s h r inb).emb (ix3 (0 : Fin 1) a b') 1).val) ((bR3 s h r inb).emb (ix3 (0 : Fin 1) a b') 2))
  rw [e'.1, e'.2, ← hb, Nat.add_assoc]
  rfl

end Three

end Cube

end
-- ==== Proof.State.lean ====
/-
# What a device holds while the body runs, and the rules of its waits and transfers

`Ctx`: every semaphore's invariant and that its round is open, and the levels; persistent. `St c n m`: where the
device stands after its first `n` transfers and its first `m` half-waits: what it still owes, what its further transfers
need (the places on its neighbours they will land in among it), what its further waits need, and what the past waits
brought and the body will not touch again but to read.
-/
module

public import proofs.«01_k».proof.Proof.Slices
public import Idealize.ShloMosaic.Lib.Pipeline.BigSepL

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Levels -/

/-- The level of a transfer's arrival: one per exchange stage. -/
def lvx (x : X) : ℕ := 2 + (st x).val + 3 * (x.val / 21)
def L (g : GSem nD τ sig) : Finset Unit := if g.1.2 = .tc then {()} else ∅
def lv (g : GSem nD τ sig) : Unit → ℕ := fun _ => match g.2 with
  | .reg _ => 1 | .dma q => match role q with | .arr x => lvx x | _ => 0

theorem L_tc (c : Dev nD) (s : SemLoc sig) : L ((c : Thread nD τ), s) = {()} := if_pos rfl
theorem L_of_ne : ∀ g : GSem nD τ sig, g.1.2 ≠ .tc → L g = ∅ := fun g h => if_neg h
theorem lv_arr (x : X) (c : Dev nD) (u : Unit) : lv (arrCell x c) u = lvx x := by
  dsimp only [lv]; rw [role_arr]
theorem lv_dep (x : X) (c : Dev nD) (u : Unit) : lv (depCell x c) u = 0 := by
  dsimp only [lv]; rw [role_dep]
theorem lv_w (c : Dev nD) (u : Unit) : lv (wCell c) u = 0 := by
  dsimp only [lv]; rw [role_w]
theorem lv_bar (c : Dev nD) (u : Unit) : lv (barCell c) u = 1 := rfl

/-- The arrivals a device owes for a list of transfers. -/
def owe (c : Dev nD) : List X → CellTallies nD τ sig Unit
  | [] => 0
  | x :: l => owe c l + tallyAt (arrCell x (dv x c)) () (NX x)

theorem owe_pos {c : Dev nD} {l : List X} {g : GSem nD τ sig} {u : Unit} (h : 0 < owe c l g u) :
    ∃ x ∈ l, g = arrCell x (dv x c) := by
  induction l with
  | nil => exact absurd h (Nat.lt_irrefl 0)
  | cons x l ih =>
    by_cases hg : g = arrCell x (dv x c) ∧ u = ()
    · exact ⟨x, List.mem_cons_self, hg.1⟩
    · have e : owe c (x :: l) g u = owe c l g u + tallyAt (arrCell x (dv x c)) () (NX x) g u := rfl
      rw [e, tallyAt_apply, if_neg hg, Nat.add_zero] at h
      obtain ⟨y, hy, e⟩ := ih h
      exact ⟨y, List.mem_cons_of_mem _ hy, e⟩

/-- A device waits at a level below everything it owes. -/
theorem mayWait (c : Dev nD) (s : SemLoc sig) (l : List X) (b : ℕ) (hs : lv ((c : Thread nD τ), s) () ≤ b) (hl : ∀ x ∈ l, b < lvx x) :
    (levAts L lv : sProp 𝕄) ⊢ MayWait (c : Thread nD τ) s () (owe c l) :=
  MayOwe.of_cut (L := L) (lev := lv) b (fun p hp => by rw [Finset.mem_singleton.mp hp, L_tc]; exact Finset.mem_singleton_self _)
    (fun g u hg => by obtain ⟨x, -, rfl⟩ := owe_pos hg; rw [L_tc]; exact Finset.mem_singleton_self _)
    (fun p hp => by rw [Finset.mem_singleton.mp hp]; exact hs)
    (fun g u hg => by obtain ⟨x, hx, rfl⟩ := owe_pos hg; rw [lv_arr]; exact hl x hx)

/-! ## The cells and their invariants -/

/-- The kernel's semaphores: the barrier's and its 85 of transfers. -/
def csem (k : Fin 86) : SemLoc sig := if k.val = 0 then .reg barS else .dma ⟨k.val + 1, by have := k.isLt; show _ < 87; omega⟩
def kcell (ck : Dev nD × Fin 86) : GSem nD τ sig := ((ck.1 : Thread nD τ), csem ck.2)

/-- The number of a semaphore among them. -/
def kq (q : DmaSem sig) : Fin 86 := ⟨q.val - 1, by have : q.val < 87 := q.isLt; omega⟩
theorem csem_kq (q : DmaSem sig) (h : 2 ≤ q.val) : csem (kq q) = .dma q := by
  unfold csem kq
  rw [if_neg (by show q.val - 1 ≠ 0; omega)]
  exact congrArg SemLoc.dma (Fin.ext (by show q.val - 1 + 1 = q.val; omega))
theorem two_le (q : DmaSem sig) (h : role q ≠ .no) : 2 ≤ q.val := by
  by_contra hlt; exact h (by unfold role; rw [dif_pos (by omega)])

variable (I : In F) (K : Dev nD × Fin 86 → ℕ)

def records : sProp 𝕄 := bigSep Finset.univ fun ck : Dev nD × Fin 86 => iprop(cellInv ER (Rd I) (K ck) (kcell ck) ∗ reached ER (kcell ck) 0)
def Ctx : sProp 𝕄 := iprop(records I K ∗ levAts L lv)

instance records_persistent : BI.Persistent (records I K) := by unfold records; infer_instance
instance Ctx_persistent : BI.Persistent (Ctx I K) := by unfold Ctx; infer_instance

theorem ctx_cell (ck : Dev nD × Fin 86) (g : GSem nD τ sig) (h : kcell ck = g) :
    Ctx I K ⊢ iprop(cellInv ER (Rd I) (K ck) g ∗ reached ER g 0) := by
  subst h
  have e : (records I K : sProp 𝕄) ⊢ iprop(cellInv ER (Rd I) (K ck) (kcell ck) ∗ reached ER (kcell ck) 0) := bigSep_elim (Finset.mem_univ ck)
  unfold Ctx
  iintro ⟨H, -⟩
  iapply e $$ H
theorem ctx_dma (q : DmaSem sig) (hq : role q ≠ .no) (c : Dev nD) :
    Ctx I K ⊢ iprop(cellInv ER (Rd I) (K (c, kq q)) (dCell q c) ∗ reached ER (dCell q c) 0) :=
  ctx_cell I K (c, kq q) _ (by unfold kcell; rw [csem_kq q (two_le q hq)])
theorem ctx_bar (c : Dev nD) : Ctx I K ⊢ iprop(cellInv ER (Rd I) (K (c, 0)) (barCell c) ∗ reached ER (barCell c) 0) :=
  ctx_cell I K (c, 0) _ rfl
theorem ctx_lev : Ctx I K ⊢ (levAts L lv : sProp 𝕄) := by
  unfold Ctx; iintro ⟨-, H⟩; iexact H

/-! ## The ledger -/

/-- What a transfer needs besides its source: the tokens of its two duties, and the place it lands in. -/
def sndX (c : Dev nD) (x : X) : sProp 𝕄 :=
  iprop(dutyTok ER (depCell x c) 0 (0 : DD) ∗ dutyTok ER (arrCell x (dv x c)) 0 (0 : DD) ∗ lndB (F := F) x (dv x c))

/-- An arrival whose band is sent on: the first three of a pipeline's gather. -/
def keep (x : X) : Bool := decide (21 ≤ x.val) && decide ((sl x).val ≤ 2)

/-- The cell of a half of a wait; what the device holds of it before, when it has started `n` transfers; and after. -/
def hcell (c : Dev nD) (y : X × Bool) : GSem nD τ sig := if y.2 then arrCell y.1 c else depCell y.1 c
def todo (c : Dev nD) (n : ℕ) (y : X × Bool) : sProp 𝕄 :=
  iprop(atPos ER (hcell c y) 0 (∅ : Finset DD) 0
    ∗ if y.2 then cred (tallyAt (arrCell y.1 c) () (NX y.1)) else if y.1 ∈ sendL.take n then cred (tallyAt (depCell y.1 c) () (NX y.1)) else iprop(emp))
def done (c : Dev nD) (y : X × Bool) : sProp 𝕄 :=
  iprop(semVal (hcell c y) 0 ∗ if y.2 then (if keep y.1 then iprop(emp) else dstB I y.1 c) else srcB I y.1 c)

theorem todo_dep (c : Dev nD) (n : ℕ) (x : X) (h : x ∈ sendL.take n) :
    todo (F := F) c n (x, false) = iprop(atPos ER (depCell x c) 0 (∅ : Finset DD) 0 ∗ cred (tallyAt (depCell x c) () (NX x))) := by
  unfold todo hcell
  simp only [Bool.false_eq_true, if_false, if_pos h]
theorem todo_dep_not (c : Dev nD) (n : ℕ) (x : X) (h : x ∉ sendL.take n) :
    todo (F := F) c n (x, false) = iprop(atPos ER (depCell x c) 0 (∅ : Finset DD) 0 ∗ emp) := by
  unfold todo hcell
  simp only [Bool.false_eq_true, if_false, if_neg h]
theorem todo_arr (c : Dev nD) (n : ℕ) (x : X) :
    todo (F := F) c n (x, true) = iprop(atPos ER (arrCell x c) 0 (∅ : Finset DD) 0 ∗ cred (tallyAt (arrCell x c) () (NX x))) := rfl
theorem done_dep (c : Dev nD) (x : X) : done I c (x, false) = iprop(semVal (depCell x c) 0 ∗ srcB I x c) := rfl
theorem done_arr (c : Dev nD) (x : X) (h : keep x = false) : done I c (x, true) = iprop(semVal (arrCell x c) 0 ∗ dstB I x c) := by
  unfold done hcell
  simp only [if_true, h, Bool.false_eq_true, if_false]
theorem done_arr_keep (c : Dev nD) (x : X) (h : keep x = true) : done I c (x, true) = iprop(semVal (arrCell x c) 0 ∗ emp) := by
  unfold done hcell
  simp only [if_true, h]

def St (c : Dev nD) (n m : ℕ) : sProp 𝕄 :=
  iprop((∃ W, owes (c : Thread nD τ) (owe c (sendL.drop n)) W) ∗ bigSepL (sendL.drop n) (sndX (F := F) c)
    ∗ bigSepL (waitL.drop m) (todo (F := F) c n) ∗ bigSepL (waitL.take m) (done I c))

theorem take_of_drop {α : Type} {l : List α} {m : ℕ} {y : α} {r : List α} (h : l.drop m = y :: r) : l.take (m + 1) = l.take m ++ [y] := by
  rw [List.take_succ, ← List.head?_drop, h]; rfl

omit [FloatOps F] in
/-- One member of a list changed. -/
theorem bigSepL_change {A : Type} (l : List A) (hl : l.Nodup) (y : A) (hy : y ∈ l) (Φ Ψ : A → sProp 𝕄) (R : sProp 𝕄)
    (h : ∀ z, z ≠ y → Φ z = Ψ z) (hR : iprop(Φ y ∗ R) ⊢ Ψ y) : iprop(bigSepL l Φ ∗ R) ⊢ bigSepL l Ψ := by
  induction l with
  | nil => cases hy
  | cons a l ih =>
    rw [bigSepL_cons', bigSepL_cons']
    by_cases ha : a = y
    · subst ha
      have hn : a ∉ l := (List.nodup_cons.mp hl).1
      have e : bigSepL l Φ ⊢ bigSepL l Ψ := bigSepL_mono fun z hz => BIBase.Entails.of_eq (h z fun e => hn (e ▸ hz))
      iintro ⟨⟨H1, H2⟩, HR⟩
      isplitl [H1 HR]
      · iapply hR
        isplitl [H1] <;> iassumption
      · iapply e $$ H2
    · have hy' : y ∈ l := by
        rcases List.mem_cons.mp hy with e | e
        · exact absurd e.symm ha
        · exact e
      iintro ⟨⟨H1, H2⟩, HR⟩
      isplitl [H1]
      · iapply (BIBase.Entails.of_eq (h a ha)) $$ H1
      · iapply (ih (List.nodup_cons.mp hl).2 hy')
        isplitl [H2] <;> iassumption

omit [FloatOps F] in
/-- One member of a list, lent. -/
theorem bigSepL_borrow {A : Type} (l : List A) (y : A) (hy : y ∈ l) (Φ : A → sProp 𝕄) :
    bigSepL l Φ ⊢ iprop(Φ y ∗ (Φ y -∗ bigSepL l Φ)) := by
  induction l with
  | nil => cases hy
  | cons a l ih =>
    rw [bigSepL_cons']
    rcases List.mem_cons.mp hy with e | e
    · subst e
      iintro ⟨H1, H2⟩
      isplitl [H1]; · iexact H1
      iintro H1
      isplitl [H1] <;> iassumption
    · iintro ⟨H1, H2⟩
      ihave H := (ih e) $$ H2
      icases H with ⟨Hy, Hr⟩
      isplitl [Hy]; · iexact Hy
      iintro Hy
      isplitl [H1]; · iexact H1
      iapply Hr $$ Hy

abbrev 𝒱₀ : Variants := Variants.none
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem WP_ret {α : Type} (c : Dev nD) (a : α) (Q : α → sProp 𝕄) : Q a ⊢ WP (F := F) c (.ret a) Q := by
  show Q a ⊢ wp frame (wpE (defs₀ (F := F)) 𝒱₀ (c : Thread nD τ) none) Set.univ (.ret a) Q
  rw [wp_ret]
  iintro H
  imodintro
  iexact H
theorem WP_bind {α β : Type} (c : Dev nD) (p : Prog (TpuEff nD τ sig (Elt F) Λ₀ .tc) α) (k : α → Prog (TpuEff nD τ sig (Elt F) Λ₀ .tc) β) (Q : β → sProp 𝕄) :
    WP (F := F) c p (fun a => WP c (k a) Q) ⊢ WP c (p >>= k) Q :=
  Entails.of_eq (wp_bind _ _ _ p k Q).symm

/-! ## Waits -/

section Waits
variable (c : Dev nD) {α : Type} {Q : α → sProp (MT nD τ sig Unit (Elt F) ℕ UU ℕ)} {k : PUnit → Prog (TpuEff nD τ sig (Elt F) Λ₀ .tc) α}

/-- A wait for a transfer's departure. -/
theorem wait_dep (n m : ℕ) (x : X) (h : ℕ) (hh : hgt (pp x) = h) (hm : waitL.drop m = (x, false) :: waitL.drop (m + 1)) (hn : x ∈ sendL.take n)
    (hl : ∀ y ∈ sendL.drop n, 0 < lvx y)
    {q : DmaSem sig} (hq : q = depS x)
    {sp sp' : Space} {s : Shape} {e : EltTy} {src : Memref sig .tc sp s e} {dst : Memref sig .tc sp' ⟨2, ![h, 1024]⟩ .bf16}
    {hsrc : src.view.WordExact} {hdst : dst.view.WordExact} (hc : dst.view.dmaCredit = NB h) :
    iprop(Ctx I K ∗ St I c n m)
      ⊢ iprop((St I c n (m + 1) -∗ WP (F := F) c (k PUnit.unit) Q) -∗ WP (F := F) c (.op (.waitDma2 q src dst hsrc hdst) k) Q) := by
  subst hq
  subst hh
  unfold St
  rw [take_of_drop hm, hm, bigSepL_cons', bigSepL_append, bigSepL_singleton, todo_dep c n x hn, done_dep]
  iintro ⟨#HC, ⟨%W, HO⟩, HS, ⟨⟨Hat, Hcr⟩, Hw⟩, Hd⟩ Hk
  icases (ctx_dma I K (depS x) (dep_ne x) c) $$ HC with ⟨#Hinv, -⟩
  have hk : 0 + dst.view.dmaCredit = (Rd (F := F) I).expect (depCell x c) 0 := by
    rw [Nat.zero_add, hc, expect_dma I c _ (dep_ne x), amt_dep]; rfl
  iapply (Rounds.wp_wait_rest_token 𝒱₀ ER (Rd I) (c : Thread nD τ) none (κ := K (c, kq (depS x)))
      (wpE_waitDma2_eq 𝒱₀ (c : Thread nD τ) none Set.univ) (Set.mem_univ _) () (O := owe c (sendL.drop n)) (W := W) (R := 0) (m := 0) (T := ∅)
      hk) $$ [Hcr HO Hat]
  · isplitr; · iexact Hinv
    isplitl [Hcr]; · rw [hc]; iexact Hcr
    isplitl [HO]; · iexact HO
    isplitr; · iapply ((ctx_lev I K).trans (mayWait c (.dma (depS x)) (sendL.drop n) 0 (le_of_eq (lv_dep x c ())) hl)); iexact HC
    iexact Hat
  iintro ⟨HO, Hat, -, Hpay⟩
  ihave Hp := (Entails.of_eq ((rest_dma I c (depS x) (dep_ne x)).trans (pay_dep I c x))) $$ Hpay
  imod (Rounds.cell_close ER (Rd I) (Set.mem_univ (K (c, kq (depS x)))) (fun h => h) (R := 0 + 1) (duties_later I (depCell x c))) $$ [Hat] with Hz
  · isplitr; · iexact Hinv
    iexact Hat
  iapply Hk
  isplitl [HO]; · iexists (insert (SemLoc.dma (depS x), ()) W); iexact HO
  isplitl [HS]; · iexact HS
  isplitl [Hw]; · iexact Hw
  isplitl [Hd]; · iexact Hd
  isplitl [Hz]; · iexact Hz
  iexact Hp

/-- A wait for a transfer's arrival: what has landed. -/
theorem wait_arr' (n m : ℕ) (x : X) (h : ℕ) (hh : hgt (pp x) = h) (hm : waitL.drop m = (x, true) :: waitL.drop (m + 1))
    (hl : ∀ y ∈ sendL.drop n, lvx x < lvx y)
    {q : DmaSem sig} (hq : q = arrS x)
    {sp sp' : Space} {s : Shape} {e : EltTy} {src : Memref sig .tc sp s e} {dst : Memref sig .tc sp' ⟨2, ![h, 1024]⟩ .bf16}
    {hsrc : src.view.WordExact} {hdst : dst.view.WordExact} (hc : dst.view.dmaCredit = NB h)
    (R : sProp (MT nD τ sig Unit (Elt F) ℕ UU ℕ)) (hR : iprop(semVal (arrCell x c) 0 ∗ dstB I x c) ⊢ iprop(done I c (x, true) ∗ R)) :
    iprop(Ctx I K ∗ St I c n m)
      ⊢ iprop(((St I c n (m + 1) ∗ R) -∗ WP (F := F) c (k PUnit.unit) Q) -∗ WP (F := F) c (.op (.waitDma2 q src dst hsrc hdst) k) Q) := by
  subst hq
  subst hh
  unfold St
  rw [take_of_drop hm, hm, bigSepL_cons', bigSepL_append, bigSepL_singleton, todo_arr]
  iintro ⟨#HC, ⟨%W, HO⟩, HS, ⟨⟨Hat, Hcr⟩, Hw⟩, Hd⟩ Hk
  icases (ctx_dma I K (arrS x) (arr_ne x) c) $$ HC with ⟨#Hinv, -⟩
  have hk : 0 + dst.view.dmaCredit = (Rd (F := F) I).expect (arrCell x c) 0 := by
    rw [Nat.zero_add, hc, expect_dma I c _ (arr_ne x), amt_arr]; rfl
  iapply (Rounds.wp_wait_rest_token 𝒱₀ ER (Rd I) (c : Thread nD τ) none (κ := K (c, kq (arrS x)))
      (wpE_waitDma2_eq 𝒱₀ (c : Thread nD τ) none Set.univ) (Set.mem_univ _) () (O := owe c (sendL.drop n)) (W := W) (R := 0) (m := 0) (T := ∅)
      hk) $$ [Hcr HO Hat]
  · isplitr; · iexact Hinv
    isplitl [Hcr]; · rw [hc]; iexact Hcr
    isplitl [HO]; · iexact HO
    isplitr; · iapply ((ctx_lev I K).trans (mayWait c (.dma (arrS x)) (sendL.drop n) (lvx x) (le_of_eq (lv_arr x c ())) hl)); iexact HC
    iexact Hat
  iintro ⟨HO, Hat, -, Hpay⟩
  ihave Hp := (Entails.of_eq ((rest_dma I c (arrS x) (arr_ne x)).trans (pay_arr I c x))) $$ Hpay
  imod (Rounds.cell_close ER (Rd I) (Set.mem_univ (K (c, kq (arrS x)))) (fun h => h) (R := 0 + 1) (duties_later I (arrCell x c))) $$ [Hat] with Hz
  · isplitr; · iexact Hinv
    iexact Hat
  ihave HR := hR $$ [Hz Hp]
  · isplitl [Hz] <;> iassumption
  icases HR with ⟨Hz, HR⟩
  iapply Hk
  isplitr [HR]
  · isplitl [HO]; · iexists (insert (SemLoc.dma (arrS x), ()) W); iexact HO
    isplitl [HS]; · iexact HS
    isplitl [Hw]; · iexact Hw
    isplitl [Hd]; · iexact Hd
    iexact Hz
  iexact HR

/-- An arrival the body only reads; -/
theorem wait_arr (n m : ℕ) (x : X) (h : ℕ) (hh : hgt (pp x) = h) (hm : waitL.drop m = (x, true) :: waitL.drop (m + 1))
    (hl : ∀ y ∈ sendL.drop n, lvx x < lvx y) (hx : keep x = false)
    {q : DmaSem sig} (hq : q = arrS x)
    {sp sp' : Space} {s : Shape} {e : EltTy} {src : Memref sig .tc sp s e} {dst : Memref sig .tc sp' ⟨2, ![h, 1024]⟩ .bf16}
    {hsrc : src.view.WordExact} {hdst : dst.view.WordExact} (hc : dst.view.dmaCredit = NB h) :
    iprop(Ctx I K ∗ St I c n m)
      ⊢ iprop((St I c n (m + 1) -∗ WP (F := F) c (k PUnit.unit) Q) -∗ WP (F := F) c (.op (.waitDma2 q src dst hsrc hdst) k) Q) := by
  have H := wait_arr' I K c (Q := Q) (k := k) n m x h hh hm hl hq (src := src) (hsrc := hsrc) (hdst := hdst) hc iprop(emp) (by
    rw [done_arr I c x hx]
    iintro ⟨H1, H2⟩
    isplitl [H1 H2]
    · isplitl [H1] <;> iassumption
    · iempintro)
  iintro HS Hk
  iapply H $$ HS
  iintro ⟨HS, -⟩
  iapply Hk $$ HS
/-- an arrival that is sent on. -/
theorem wait_arr_keep (n m : ℕ) (x : X) (h : ℕ) (hh : hgt (pp x) = h) (hm : waitL.drop m = (x, true) :: waitL.drop (m + 1))
    (hl : ∀ y ∈ sendL.drop n, lvx x < lvx y) (hx : keep x = true)
    {q : DmaSem sig} (hq : q = arrS x)
    {sp sp' : Space} {s : Shape} {e : EltTy} {src : Memref sig .tc sp s e} {dst : Memref sig .tc sp' ⟨2, ![h, 1024]⟩ .bf16}
    {hsrc : src.view.WordExact} {hdst : dst.view.WordExact} (hc : dst.view.dmaCredit = NB h) :
    iprop(Ctx I K ∗ St I c n m)
      ⊢ iprop(((St I c n (m + 1) ∗ outB (pp x) (rk x) c fullShare (OUT I)) -∗ WP (F := F) c (k PUnit.unit) Q)
        -∗ WP (F := F) c (.op (.waitDma2 q src dst hsrc hdst) k) Q) :=
  wait_arr' I K c n m x h hh hm hl hq hc _ (by
    have h21 : ¬ x.val < 21 := by
      unfold keep at hx
      have := (Bool.and_eq_true _ _ ▸ hx).1
      exact Nat.not_lt.mpr (of_decide_eq_true this)
    rw [done_arr_keep I c x hx]
    unfold dstB; rw [if_neg h21]
    iintro ⟨H1, H2⟩
    isplitl [H1]
    · isplitl [H1]; · iexact H1
      iempintro
    · iexact H2)

end Waits

end Cube

end
-- ==== Proof.Steps.lean ====
/-
# The rules of the transfers, loads and stores

Each rule is about one effect as the kernel writes it, at offsets, device numbers and semaphores that are equal to the
tables' ones; the equations are its hypotheses.
-/
module

public import proofs.«01_k».proof.Proof.State

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev accM : Memref sig .tc .vmem S2048x1024 .bf16 := Memref.whole cc0_scratch0
abbrev outM : Memref sig .tc .vmem S2048x1024 .bf16 := Memref.whole cc0_stg1_0
abbrev rcvM : Memref sig .tc .vmem S7x256x1024 .bf16 := Memref.whole cc0_scratch3

variable (I : In F) (K : Dev nD × Fin 86 → ℕ)

theorem rs_chunk : ∀ x c, ch (dv x c) (rk x) = ch c (sk x) := by decide

/-- What a scatter transfer leaves: on the receiver, the sender's rows. -/
theorem RB_dv (x : X) (c : Dev nD) (i : S7x256x1024.Idx) :
    RB I x (dv x c) i = SV I x c (at2 ((ch c (sk x)).val * 256 + (i 1).val) (i 2)) := by
  unfold RB; rw [dv_dv, rs_chunk]

theorem waitL_nodup : waitL.Nodup := by decide +kernel

/-- A transfer started: the wait for its departure has its credit. -/
theorem todo_send (c : Dev nD) (n m : ℕ) (x : X) (hl : sendL.drop n = x :: sendL.drop (n + 1)) (hy : (x, false) ∈ waitL.drop m) (hn : x ∉ sendL.take n) :
    iprop(bigSepL (waitL.drop m) (todo (F := F) c n) ∗ cred (tallyAt (depCell x c) () (NX x))) ⊢ bigSepL (waitL.drop m) (todo (F := F) c (n + 1)) := by
  have ht := take_of_drop hl
  refine bigSepL_change _ (waitL_nodup.sublist (List.drop_sublist _ _)) (x, false) hy _ _ _ (fun z hz => ?_) ?_
  · obtain ⟨a, b⟩ := z
    cases b with
    | true => rfl
    | false =>
      have hax : a ≠ x := fun e => hz (by rw [e])
      by_cases ha : a ∈ sendL.take n
      · rw [todo_dep (F := F) c n a ha, todo_dep (F := F) c (n + 1) a (by rw [ht]; exact List.mem_append_left _ ha)]
      · rw [todo_dep_not (F := F) c n a ha, todo_dep_not (F := F) c (n + 1) a (by
          rw [ht]; intro h
          rcases List.mem_append.mp h with h | h
          · exact ha h
          · exact hax (List.mem_singleton.mp h))]
  · rw [todo_dep_not (F := F) c n x hn, todo_dep (F := F) c (n + 1) x (by rw [ht]; exact List.mem_append_right _ (List.mem_singleton_self _))]
    iintro ⟨⟨H1, -⟩, H2⟩
    isplitl [H1] <;> iassumption

section Sends
variable (c : Dev nD) {α : Type} {Q : α → sProp (MT nD τ sig Unit (Elt F) ℕ UU ℕ)} {k : PUnit → Prog (TpuEff nD τ sig (Elt F) Λ₀ .tc) α}

/-- A scatter transfer, from a band of the accumulator into the neighbour's slot. -/
theorem send_rs (x : X) (n m h : ℕ) (hx : x.val < 21) (hh : hgt (pp x) = h) (hl : sendL.drop n = x :: sendL.drop (n + 1))
    {p : Fin 3} {e : Fin 8} (g : Vec F S2048x1024 .bf16) (hp : pp x = p) (he : sk x = e) (hg : SV I x c = g)
    (hy : (x, false) ∈ waitL.drop m) (hn : x ∉ sendL.take n)
    {off : Fin 2 → ℕ} (hoff : off = ![row p e c, 0]) {d : Dev nD} (hd : d = dv x c)
    {offs : Fin 3 → ℕ} (hoffs : offs = ![(sl x).val, roff p, 0])
    {qs qr : DmaSem sig} (hqs : qs = depS x) (hqr : qr = arrS x)
    {inb : ∀ a, off a + (![h, 1024] : Fin 2 → ℕ) a ≤ S2048x1024.size a} {hst}
    {inb' : ∀ a, offs a + (![1, h, 1024] : Fin 3 → ℕ) a ≤ S7x256x1024.size a} {hst'}
    {hsq : (⟨3, ![1, h, 1024]⟩ : Shape).Squeezes ⟨2, ![h, 1024]⟩}
    {hsc : ((rcvM.slice (Rect.unit (s := S7x256x1024) offs ![1, h, 1024] inb') hst').squeeze ⟨2, ![h, 1024]⟩ hsq :
      Memref sig (Dev.tc d : Thread nD τ).2.kind .vmem ⟨2, ![h, 1024]⟩ .bf16).view.ref.isScScratch = false}
    {hsrc : (accM.slice (Rect.unit (s := S2048x1024) off ![h, 1024] inb) hst).view.WordExact}
    {hdst : ((rcvM.slice (Rect.unit (s := S7x256x1024) offs ![1, h, 1024] inb') hst').squeeze ⟨2, ![h, 1024]⟩ hsq).view.WordExact}
    {hsem : DmaTarget.Typed .vmem (.dma qr) (.remote (Dev.tc d : Thread nD τ)
      ((rcvM.slice (Rect.unit (s := S7x256x1024) offs ![1, h, 1024] inb') hst').squeeze ⟨2, ![h, 1024]⟩ hsq) (.dma qs) hsc)} :
    iprop(Ctx I K ∗ St I c n m ∗ accB p e c g)
      ⊢ iprop((St I c (n + 1) m -∗ WP (F := F) c (k PUnit.unit) Q)
          -∗ WP (F := F) c (.op (.enqueueDma (accM.slice (Rect.unit (s := S2048x1024) off ![h, 1024] inb) hst)
            (.remote (Dev.tc d : Thread nD τ) ((rcvM.slice (Rect.unit (s := S7x256x1024) offs ![1, h, 1024] inb') hst').squeeze ⟨2, ![h, 1024]⟩ hsq) (.dma qs) hsc)
            (.dma qr) hsrc hdst hsem) k) Q) := by
  subst hp he hg hoff hd hoffs hqs hqr hh
  have htodo := todo_send (F := F) c n m x hl hy hn
  unfold St
  rw [hl, bigSepL_cons']
  unfold sndX lndB
  rw [if_pos hx]
  iintro ⟨#HC, ⟨⟨%W, HO⟩, ⟨⟨HtS, HtR, ⟨%fd, Hl⟩⟩, HS⟩, HT, HD⟩, Ha⟩ Hk
  icases (ctx_dma I K (depS x) (dep_ne x) c) $$ HC with ⟨#HiS, #HrS⟩
  icases (ctx_dma I K (arrS x) (arr_ne x) (dv x c)) $$ HC with ⟨#HiR, #HrR⟩
  unfold accB rcvB
  iapply (Rounds.wp_send_pointsTo 𝒱₀ ER (Rd I) (c : Thread nD τ) none (κ₁ := K (c, kq (depS x))) (κ₂ := K (dv x c, kq (arrS x)))
    (c' := (dv x c : Thread nD τ))
    (sS := .dma (depS x)) (sem := .dma (arrS x))
    (src := accM.slice (Rect.unit (s := S2048x1024) _ ![hgt (pp x), 1024] inb) hst)
    (dst := (rcvM.slice (Rect.unit (s := S7x256x1024) _ ![1, hgt (pp x), 1024] inb') hst').squeeze ⟨2, ![hgt (pp x), 1024]⟩ hsq)
    (q := fullShare) (fs := SV I x c) (fd := fd)
    (r₁ := 0) (r₂ := 0) (d₁ := (0 : DD)) (d₂ := (0 : DD))
    (by rw [duties_dma I c _ (dep_ne x)]; exact Finset.mem_singleton_self _) (by rw [duties_dma I _ _ (arr_ne x)]; exact Finset.mem_singleton_self _)
    () () (NX x) rfl (amt_dep x) (amt_arr x) (owe c (sendL.drop (n + 1))) rfl (W := W)
    (by
      refine BIBase.Entails.trans ?_ (Entails.of_eq (pay_dep I c x).symm)
      unfold srcB accB; rw [if_pos hx]
      exact Entails.of_eq (congrArg (fun S => (((c : Thread nD τ).loc cc0_scratch0 ↦[S]{fullShare} (SV I x c)) : sProp 𝕄)) (acc_set _ _ inb)))
    (by
      refine BIBase.Entails.trans ?_ (Entails.of_eq (pay_arr I (dv x c) x).symm)
      unfold dstB rcvB; rw [if_pos hx]
      refine (Entails.of_eq (congrArg (fun S => (((dv x c : Thread nD τ).loc cc0_scratch3 ↦[S]{fullShare} _) : sProp 𝕄)) (rcv_set' _ _ _ inb' hsq.numel_eq))).trans
        (Entails.of_eq (pointsTo_congr fun i hi => ?_))
      rw [RB_dv]
      exact (congrArg (fun w => (((rcvM.slice (Rect.unit (s := S7x256x1024) _ ![1, hgt (pp x), 1024] inb') hst').squeeze ⟨2, ![hgt (pp x), 1024]⟩ hsq).view.write (Elt F) fd w Finset.univ i))
        (acc_read _ _ inb (SV I x c))).trans (rcv_write _ _ _ inb' hsq.numel_eq fd (SV I x c) _ _ rfl i hi)))
    $$ [HO HtS HtR Hl Ha]
  · isplitr; · iexact HiS
    isplitr; · iexact HiR
    isplitl [Ha]
    · iapply (Entails.of_eq (congrArg (fun S => (((c : Thread nD τ).loc cc0_scratch0 ↦[S]{fullShare} (SV I x c)) : sProp 𝕄)) (acc_set _ _ inb).symm)) $$ Ha
    isplitl [Hl]
    · iapply (Entails.of_eq (congrArg (fun S => (((dv x c : Thread nD τ).loc cc0_scratch3 ↦[S]{fullShare} fd) : sProp 𝕄)) (rcv_set' _ _ _ inb' hsq.numel_eq).symm)) $$ Hl
    isplitl [HO]; · iexact HO
    isplitl [HtS]; · iexact HtS
    isplitr; · iexact HrS
    isplitl [HtR]; · iexact HtR
    iexact HrR
  iintro ⟨Hc, HO⟩
  ihave HT := htodo $$ [HT Hc]
  · isplitl [HT] <;> iassumption
  iapply Hk
  isplitl [HO]; · iexists W; iexact HO
  isplitl [HS]; · iexact HS
  isplitl [HT]; · iexact HT
  iexact HD

/-- A gather transfer, from a band of the result's staging buffer into the neighbour's. -/
theorem send_ag (x : X) (n m h : ℕ) (hx : 21 ≤ x.val) (hh : hgt (pp x) = h) (hl : sendL.drop n = x :: sendL.drop (n + 1))
    {p : Fin 3} {e : Fin 8} {q : PosShare TreeShare} (hp : pp x = p) (he : sk x = e) (hq : qx x = q)
    (hy : (x, false) ∈ waitL.drop m) (hn : x ∉ sendL.take n)
    {off : Fin 2 → ℕ} (hoff : off = ![row p e c, 0]) {d : Dev nD} (hd : d = dv x c)
    {qs qr : DmaSem sig} (hqs : qs = depS x) (hqr : qr = arrS x)
    {inb : ∀ a, off a + (![h, 1024] : Fin 2 → ℕ) a ≤ S2048x1024.size a} {hst}
    {inb' : ∀ a, off a + (![h, 1024] : Fin 2 → ℕ) a ≤ S2048x1024.size a} {hst'}
    {hsc : (outM.slice (Rect.unit (s := S2048x1024) off ![h, 1024] inb') hst' :
      Memref sig (Dev.tc d : Thread nD τ).2.kind .vmem ⟨2, ![h, 1024]⟩ .bf16).view.ref.isScScratch = false}
    {hsrc : (outM.slice (Rect.unit (s := S2048x1024) off ![h, 1024] inb) hst).view.WordExact}
    {hdst : (outM.slice (Rect.unit (s := S2048x1024) off ![h, 1024] inb') hst').view.WordExact}
    {hsem : DmaTarget.Typed .vmem (.dma qr) (.remote (Dev.tc d : Thread nD τ)
      (outM.slice (Rect.unit (s := S2048x1024) off ![h, 1024] inb') hst') (.dma qs) hsc)} :
    iprop(Ctx I K ∗ St I c n m ∗ outB p e c q (OUT I))
      ⊢ iprop((St I c (n + 1) m -∗ WP (F := F) c (k PUnit.unit) Q)
          -∗ WP (F := F) c (.op (.enqueueDma (outM.slice (Rect.unit (s := S2048x1024) off ![h, 1024] inb) hst)
            (.remote (Dev.tc d : Thread nD τ) (outM.slice (Rect.unit (s := S2048x1024) off ![h, 1024] inb') hst') (.dma qs) hsc)
            (.dma qr) hsrc hdst hsem) k) Q) := by
  subst hp he hq hoff hd hqs hqr hh
  have htodo := todo_send (F := F) c n m x hl hy hn
  unfold St
  rw [hl, bigSepL_cons']
  unfold sndX lndB
  rw [if_neg (Nat.not_lt.mpr hx)]
  iintro ⟨#HC, ⟨⟨%W, HO⟩, ⟨⟨HtS, HtR, ⟨%fd, Hl⟩⟩, HS⟩, HT, HD⟩, Ha⟩ Hk
  icases (ctx_dma I K (depS x) (dep_ne x) c) $$ HC with ⟨#HiS, #HrS⟩
  icases (ctx_dma I K (arrS x) (arr_ne x) (dv x c)) $$ HC with ⟨#HiR, #HrR⟩
  unfold outB
  iapply (Rounds.wp_send_pointsTo 𝒱₀ ER (Rd I) (c : Thread nD τ) none (κ₁ := K (c, kq (depS x))) (κ₂ := K (dv x c, kq (arrS x)))
    (c' := (dv x c : Thread nD τ))
    (sS := .dma (depS x)) (sem := .dma (arrS x))
    (src := outM.slice (Rect.unit (s := S2048x1024) _ ![hgt (pp x), 1024] inb) hst)
    (dst := outM.slice (Rect.unit (s := S2048x1024) _ ![hgt (pp x), 1024] inb') hst')
    (q := qx x) (fs := OUT I) (fd := fd)
    (r₁ := 0) (r₂ := 0) (d₁ := (0 : DD)) (d₂ := (0 : DD))
    (by rw [duties_dma I c _ (dep_ne x)]; exact Finset.mem_singleton_self _) (by rw [duties_dma I _ _ (arr_ne x)]; exact Finset.mem_singleton_self _)
    () () (NX x) rfl (amt_dep x) (amt_arr x) (owe c (sendL.drop (n + 1))) rfl (W := W)
    (by
      refine BIBase.Entails.trans ?_ (Entails.of_eq (pay_dep I c x).symm)
      unfold srcB outB; rw [if_neg (Nat.not_lt.mpr hx)]
      exact Entails.of_eq (congrArg (fun S => (((c : Thread nD τ).loc cc0_stg1_0 ↦[S]{qx x} (OUT I)) : sProp 𝕄)) (out_set _ _ inb)))
    (by
      refine BIBase.Entails.trans ?_ (Entails.of_eq (pay_arr I (dv x c) x).symm)
      unfold dstB outB; rw [if_neg (Nat.not_lt.mpr hx), row_dv]
      refine (Entails.of_eq (congrArg (fun S => (((dv x c : Thread nD τ).loc cc0_stg1_0 ↦[S]{fullShare} _) : sProp 𝕄)) (out_set _ _ inb'))).trans
        (Entails.of_eq (pointsTo_congr fun i hi => ?_))
      exact (congrArg (fun w => (outM.slice (Rect.unit (s := S2048x1024) _ ![hgt (pp x), 1024] inb') hst').view.write (Elt F) fd w Finset.univ i)
        (out_read _ _ inb (OUT I))).trans (out_write _ _ inb' fd (OUT I) i hi)))
    $$ [HO HtS HtR Hl Ha]
  · isplitr; · iexact HiS
    isplitr; · iexact HiR
    isplitl [Ha]
    · iapply (Entails.of_eq (congrArg (fun S => (((c : Thread nD τ).loc cc0_stg1_0 ↦[S]{qx x} (OUT I)) : sProp 𝕄)) (out_set _ _ inb).symm)) $$ Ha
    isplitl [Hl]
    · iapply (Entails.of_eq (congrArg (fun S => (((dv x c : Thread nD τ).loc cc0_stg1_0 ↦[S]{fullShare} fd) : sProp 𝕄)) ((congrArg (fun r => rows r (hgt (pp x))) (row_dv x c)).trans (out_set _ _ inb').symm))) $$ Hl
    isplitl [HO]; · iexact HO
    isplitl [HtS]; · iexact HtS
    isplitr; · iexact HrS
    isplitl [HtR]; · iexact HtR
    iexact HrR
  iintro ⟨Hc, HO⟩
  ihave HT := htodo $$ [HT Hc]
  · isplitl [HT] <;> iassumption
  iapply Hk
  isplitl [HO]; · iexists W; iexact HO
  isplitl [HS]; · iexact HS
  isplitl [HT]; · iexact HT
  iexact HD

end Sends

/-! ## Loads and stores -/

section Mem
variable (c : Dev nD) {α : Type} {Q : α → sProp (MT nD τ sig Unit (Elt F) ℕ UU ℕ)}

variable {h : ℕ} {k : Vec F ⟨2, ![h, 1024]⟩ .bf16 → Prog (TpuEff nD τ sig (Elt F) Λ₀ .tc) α} {ku : PUnit → Prog (TpuEff nD τ sig (Elt F) Λ₀ .tc) α}
  {k3 : Vec F ⟨3, ![1, h, 1024]⟩ .bf16 → Prog (TpuEff nD τ sig (Elt F) Λ₀ .tc) α}

/-- A band of the accumulator, read; -/
theorem load_acc (p : Fin 3) (e : Fin 8) (f : Vec F S2048x1024 .bf16) (hh : hgt p = h)
    {off : Fin 2 → ℕ} (hoff : off = ![row p e c, 0]) {inb : ∀ a, off a + (![h, 1024] : Fin 2 → ℕ) a ≤ S2048x1024.size a}
    {hl : accM.view.LoadsAt (Rect.unit (s := S2048x1024) off ![h, 1024] inb).toLoadRect} :
    accB p e c f ⊢ iprop((accB p e c f -∗ WP (F := F) c (k (blk h f (row p e c))) Q)
      -∗ WP (F := F) c (.op (.load accM (Rect.unit (s := S2048x1024) off ![h, 1024] inb).toLoadRect hl) k) Q) := by
  subst hoff hh
  unfold accB
  iintro Ha Hk
  iapply (wp_load_rect 𝒱₀ (c : Thread nD τ) none Set.univ (m := accM) (r := Rect.unit (s := S2048x1024) _ ![hgt p, 1024] inb)
    (le_of_eq (acc_set _ _ inb))) $$ [Ha]
  · iexact Ha
  iintro Ha
  rw [show (accM.access (Rect.unit (s := S2048x1024) ![row p e c, 0] ![hgt p, 1024] inb)).read (Elt F) f = blk (hgt p) f (row p e c) from acc_read _ _ inb f]
  iapply Hk $$ Ha

/-- written with a block of `g`. -/
theorem store_acc (p : Fin 3) (e : Fin 8) (f g : Vec F S2048x1024 .bf16) (hh : hgt p = h)
    {off : Fin 2 → ℕ} (hoff : off = ![row p e c, 0]) {inb : ∀ a, off a + (![h, 1024] : Fin 2 → ℕ) a ≤ S2048x1024.size a}
    {w : Vec F ⟨2, ![h, 1024]⟩ .bf16} (hw : w = blk h g (row p e c))
    {hx : (accM.access (Rect.unit (s := S2048x1024) off ![h, 1024] inb)).Stores Finset.univ}
    {hm : (Finset.univ : Finset (Rect.unit (s := S2048x1024) off ![h, 1024] inb).shape.Idx) = Finset.univ ∨ ∀ a, (Rect.unit (s := S2048x1024) off ![h, 1024] inb).stride a = 1} :
    accB p e c f ⊢ iprop((accB p e c g -∗ WP (F := F) c (ku PUnit.unit) Q)
      -∗ WP (F := F) c (.op (.store accM (Rect.unit (s := S2048x1024) off ![h, 1024] inb) w Finset.univ hx hm) ku) Q) := by
  subst hoff hh hw
  unfold accB
  iintro Ha Hk
  iapply (wp_store 𝒱₀ (c : Thread nD τ) none Set.univ (m := accM) (r := Rect.unit (s := S2048x1024) _ ![hgt p, 1024] inb) (hx := hx) (hm := hm)
    (le_of_eq ((View.setOn_univ _).trans (acc_set _ _ inb)))) $$ [Ha]
  · iexact Ha
  iintro Ha
  iapply Hk
  iapply (Entails.of_eq (pointsTo_congr (acc_write _ _ inb f g))) $$ Ha

/-- A band of the result's staging buffer, read (the kernel makes no use of it); -/
theorem load_out (p : Fin 3) (e : Fin 8) (f : Vec F S2048x1024 .bf16) (hh : hgt p = h)
    {off : Fin 2 → ℕ} (hoff : off = ![row p e c, 0]) {inb : ∀ a, off a + (![h, 1024] : Fin 2 → ℕ) a ≤ S2048x1024.size a}
    {hl : outM.view.LoadsAt (Rect.unit (s := S2048x1024) off ![h, 1024] inb).toLoadRect} :
    outB p e c fullShare f ⊢ iprop((outB p e c fullShare f -∗ WP (F := F) c (k (blk h f (row p e c))) Q)
      -∗ WP (F := F) c (.op (.load outM (Rect.unit (s := S2048x1024) off ![h, 1024] inb).toLoadRect hl) k) Q) := by
  subst hoff hh
  unfold outB
  iintro Ha Hk
  iapply (wp_load_rect 𝒱₀ (c : Thread nD τ) none Set.univ (m := outM) (r := Rect.unit (s := S2048x1024) _ ![hgt p, 1024] inb)
    (le_of_eq (out_set _ _ inb))) $$ [Ha]
  · iexact Ha
  iintro Ha
  rw [show (outM.access (Rect.unit (s := S2048x1024) ![row p e c, 0] ![hgt p, 1024] inb)).read (Elt F) f = blk (hgt p) f (row p e c) from out_read _ _ inb f]
  iapply Hk $$ Ha

/-- written with a block of `g`. -/
theorem store_out (p : Fin 3) (e : Fin 8) (f g : Vec F S2048x1024 .bf16) (hh : hgt p = h)
    {off : Fin 2 → ℕ} (hoff : off = ![row p e c, 0]) {inb : ∀ a, off a + (![h, 1024] : Fin 2 → ℕ) a ≤ S2048x1024.size a}
    {w : Vec F ⟨2, ![h, 1024]⟩ .bf16} (hw : w = blk h g (row p e c))
    {hx : (outM.access (Rect.unit (s := S2048x1024) off ![h, 1024] inb)).Stores Finset.univ}
    {hm : (Finset.univ : Finset (Rect.unit (s := S2048x1024) off ![h, 1024] inb).shape.Idx) = Finset.univ ∨ ∀ a, (Rect.unit (s := S2048x1024) off ![h, 1024] inb).stride a = 1} :
    outB p e c fullShare f ⊢ iprop((outB p e c fullShare g -∗ WP (F := F) c (ku PUnit.unit) Q)
      -∗ WP (F := F) c (.op (.store outM (Rect.unit (s := S2048x1024) off ![h, 1024] inb) w Finset.univ hx hm) ku) Q) := by
  subst hoff hh hw
  unfold outB
  iintro Ha Hk
  iapply (wp_store 𝒱₀ (c : Thread nD τ) none Set.univ (m := outM) (r := Rect.unit (s := S2048x1024) _ ![hgt p, 1024] inb) (hx := hx) (hm := hm)
    (le_of_eq ((View.setOn_univ _).trans (out_set _ _ inb)))) $$ [Ha]
  · iexact Ha
  iintro Ha
  iapply Hk
  iapply (Entails.of_eq (pointsTo_congr (out_write _ _ inb f g))) $$ Ha

/-- What a scatter transfer has brought, read out of its slot: a block of what its sender sent. -/
theorem load_rcv (n m : ℕ) (x : X) (p : Fin 3) (e : Fin 8) (g : Vec F S2048x1024 .bf16) (hx : x.val < 21) (hm : (x, true) ∈ waitL.take m) (hp : pp x = p) (he : rk x = e)
    (hg : SV I x (dv x c) = g) (hh : hgt p = h)
    {offs : Fin 3 → ℕ} (hoffs : offs = ![(sl x).val, roff p, 0]) {inb : ∀ a, offs a + (![1, h, 1024] : Fin 3 → ℕ) a ≤ S7x256x1024.size a}
    {hl : rcvM.view.LoadsAt (Rect.unit (s := S7x256x1024) offs ![1, h, 1024] inb).toLoadRect} :
    St I c n m ⊢ iprop((St I c n m -∗ WP (F := F) c (k3 (blk3 h g (row p e c))) Q)
      -∗ WP (F := F) c (.op (.load rcvM (Rect.unit (s := S7x256x1024) offs ![1, h, 1024] inb).toLoadRect hl) k3) Q) := by
  subst hoffs hp he hg hh
  have hkeep : keep x = false := by unfold keep; rw [decide_eq_false (Nat.not_le.mpr hx)]; rfl
  have hb := bigSepL_borrow (waitL.take m) (x, true) hm (done I c)
  rw [done_arr I c x hkeep] at hb
  unfold dstB at hb; rw [if_pos hx] at hb
  unfold St
  iintro ⟨HO, HS, HT, HD⟩ Hk
  ihave HD := hb $$ HD
  icases HD with ⟨⟨Hv, Hr⟩, HD⟩
  unfold rcvB
  iapply (wp_load_rect 𝒱₀ (c : Thread nD τ) none Set.univ (m := rcvM) (r := Rect.unit (s := S7x256x1024) _ ![1, hgt (pp x), 1024] inb)
    (le_of_eq (rcv_set _ _ _ inb))) $$ [Hr]
  · iexact Hr
  iintro Hr
  rw [show (rcvM.access (Rect.unit (s := S7x256x1024) ![(sl x).val, roff (pp x), 0] ![1, hgt (pp x), 1024] inb)).read (Elt F) (RB I x c)
    = blk3 (hgt (pp x)) (SV I x (dv x c)) (row (pp x) (rk x) c) from rcv_read _ _ _ inb (RB I x c) (SV I x (dv x c)) ((ch c (rk x)).val * 256) _ rfl (fun i => rfl)]
  iapply Hk
  isplitl [HO]; · iexact HO
  isplitl [HS]; · iexact HS
  isplitl [HT]; · iexact HT
  iapply HD
  isplitl [Hv] <;> iassumption

end Mem

end Cube

end
-- ==== Proof.Sync.lean ====
/-
# The barrier, the weights' copy, and the buffers read and written whole
-/
module

public import proofs.«01_k».proof.Proof.Steps

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev tM : Memref sig .tc .vmem S2048x1024 .f32 := Memref.whole cc0_stg0_0
abbrev wHM : Memref sig .tc .hbm S1024x1024 .f32 := Memref.whole main_arg1
abbrev wVM : Memref sig .tc .vmem S1024x1024 .f32 := Memref.whole cc0_scratch1
abbrev wbM : Memref sig .tc .vmem S1024x1024 .bf16 := Memref.whole cc0_scratch2

def tW (c : Dev nD) (f : Vec F S2048x1024 .f32) : sProp 𝕄 := (c : Thread nD τ).loc cc0_stg0_0 ↦{fullShare} f
def accW (c : Dev nD) (f : Vec F S2048x1024 .bf16) : sProp 𝕄 := (c : Thread nD τ).loc cc0_scratch0 ↦{fullShare} f
def outW (c : Dev nD) (f : Vec F S2048x1024 .bf16) : sProp 𝕄 := (c : Thread nD τ).loc cc0_stg1_0 ↦{fullShare} f
def rcvW (c : Dev nD) (f : Vec F S7x256x1024 .bf16) : sProp 𝕄 := (c : Thread nD τ).loc cc0_scratch3 ↦{fullShare} f
def wbW (c : Dev nD) (f : Vec F S1024x1024 .bf16) : sProp 𝕄 := (c : Thread nD τ).loc cc0_scratch2 ↦{fullShare} f

theorem hz : (![0, 0] : Fin 2 → ℕ) = fun _ => 0 := by funext a; fin_cases a <;> rfl

variable (I : In F) (K : Dev nD × Fin 86 → ℕ)

section Whole
variable (c : Dev nD) {α : Type} {Q : α → sProp (MT nD τ sig Unit (Elt F) ℕ UU ℕ)}

theorem load_t (f : Vec F S2048x1024 .f32) {k : Vec F S2048x1024 .f32 → Prog (TpuEff nD τ sig (Elt F) Λ₀ .tc) α}
    {inb : ∀ a, (![0, 0] : Fin 2 → ℕ) a + S2048x1024.size a ≤ S2048x1024.size a}
    {hl : tM.view.LoadsAt (Rect.unit (s := S2048x1024) ![0, 0] S2048x1024.size inb).toLoadRect} :
    tW c f ⊢ iprop((tW c f -∗ WP (F := F) c (k f) Q) -∗ WP (F := F) c (.op (.load tM (Rect.unit (s := S2048x1024) ![0, 0] S2048x1024.size inb).toLoadRect hl) k) Q) := by
  unfold tW
  iintro H Hk
  iapply (wp_load 𝒱₀ (c : Thread nD τ) none Set.univ (m := tM) (r := (Rect.unit (s := S2048x1024) ![0, 0] S2048x1024.size inb).toLoadRect) (Finset.subset_univ _)) $$ [H]
  · iexact H
  iintro H
  rw [show tM.view.readAt (Elt F) (Rect.unit (s := S2048x1024) ![0, 0] S2048x1024.size inb).toLoadRect f = f from Memref.readAt_unit_zero (Elt F) cc0_stg0_0 hz _ f]
  iapply Hk $$ H

theorem load_accW (f : Vec F S2048x1024 .bf16) {k : Vec F S2048x1024 .bf16 → Prog (TpuEff nD τ sig (Elt F) Λ₀ .tc) α}
    {inb : ∀ a, (![0, 0] : Fin 2 → ℕ) a + S2048x1024.size a ≤ S2048x1024.size a}
    {hl : accM.view.LoadsAt (Rect.unit (s := S2048x1024) ![0, 0] S2048x1024.size inb).toLoadRect} :
    accW c f ⊢ iprop((accW c f -∗ WP (F := F) c (k f) Q) -∗ WP (F := F) c (.op (.load accM (Rect.unit (s := S2048x1024) ![0, 0] S2048x1024.size inb).toLoadRect hl) k) Q) := by
  unfold accW
  iintro H Hk
  iapply (wp_load 𝒱₀ (c : Thread nD τ) none Set.univ (m := accM) (r := (Rect.unit (s := S2048x1024) ![0, 0] S2048x1024.size inb).toLoadRect) (Finset.subset_univ _)) $$ [H]
  · iexact H
  iintro H
  rw [show accM.view.readAt (Elt F) (Rect.unit (s := S2048x1024) ![0, 0] S2048x1024.size inb).toLoadRect f = f from Memref.readAt_unit_zero (Elt F) cc0_scratch0 hz _ f]
  iapply Hk $$ H

theorem store_accW (f w : Vec F S2048x1024 .bf16) {k : PUnit → Prog (TpuEff nD τ sig (Elt F) Λ₀ .tc) α}
    {inb : ∀ a, (![0, 0] : Fin 2 → ℕ) a + S2048x1024.size a ≤ S2048x1024.size a}
    {hx : (accM.access (Rect.unit (s := S2048x1024) ![0, 0] S2048x1024.size inb)).Stores Finset.univ}
    {hm : (Finset.univ : Finset (Rect.unit (s := S2048x1024) ![0, 0] S2048x1024.size inb).shape.Idx) = Finset.univ ∨ ∀ a, (Rect.unit (s := S2048x1024) ![0, 0] S2048x1024.size inb).stride a = 1} :
    accW c f ⊢ iprop((accW c w -∗ WP (F := F) c (k PUnit.unit) Q)
      -∗ WP (F := F) c (.op (.store accM (Rect.unit (s := S2048x1024) ![0, 0] S2048x1024.size inb) w Finset.univ hx hm) k) Q) := by
  unfold accW
  iintro H Hk
  iapply (wp_store 𝒱₀ (c : Thread nD τ) none Set.univ (m := accM) (r := Rect.unit (s := S2048x1024) ![0, 0] S2048x1024.size inb) (hx := hx) (hm := hm) (Finset.subset_univ _)) $$ [H]
  · iexact H
  iintro H
  iapply Hk
  rw [show (accM.access (Rect.unit (s := S2048x1024) ![0, 0] S2048x1024.size inb)).write (Elt F) f w Finset.univ = w from Memref.write_access_unit_zero_univ (Elt F) cc0_scratch0 hz _ f w]
  iexact H

theorem load_w (f : Vec F S1024x1024 .f32) {k : Vec F S1024x1024 .f32 → Prog (TpuEff nD τ sig (Elt F) Λ₀ .tc) α}
    {inb : ∀ a, (![0, 0] : Fin 2 → ℕ) a + S1024x1024.size a ≤ S1024x1024.size a}
    {hl : wVM.view.LoadsAt (Rect.unit (s := S1024x1024) ![0, 0] S1024x1024.size inb).toLoadRect} :
    wVm c f ⊢ iprop((wVm c f -∗ WP (F := F) c (k f) Q) -∗ WP (F := F) c (.op (.load wVM (Rect.unit (s := S1024x1024) ![0, 0] S1024x1024.size inb).toLoadRect hl) k) Q) := by
  unfold wVm
  iintro H Hk
  iapply (wp_load 𝒱₀ (c : Thread nD τ) none Set.univ (m := wVM) (r := (Rect.unit (s := S1024x1024) ![0, 0] S1024x1024.size inb).toLoadRect) (Finset.subset_univ _)) $$ [H]
  · iexact H
  iintro H
  rw [show wVM.view.readAt (Elt F) (Rect.unit (s := S1024x1024) ![0, 0] S1024x1024.size inb).toLoadRect f = f from Memref.readAt_unit_zero (Elt F) cc0_scratch1 hz _ f]
  iapply Hk $$ H

theorem load_wb (f : Vec F S1024x1024 .bf16) {k : Vec F S1024x1024 .bf16 → Prog (TpuEff nD τ sig (Elt F) Λ₀ .tc) α}
    {inb : ∀ a, (![0, 0] : Fin 2 → ℕ) a + S1024x1024.size a ≤ S1024x1024.size a}
    {hl : wbM.view.LoadsAt (Rect.unit (s := S1024x1024) ![0, 0] S1024x1024.size inb).toLoadRect} :
    wbW c f ⊢ iprop((wbW c f -∗ WP (F := F) c (k f) Q) -∗ WP (F := F) c (.op (.load wbM (Rect.unit (s := S1024x1024) ![0, 0] S1024x1024.size inb).toLoadRect hl) k) Q) := by
  unfold wbW
  iintro H Hk
  iapply (wp_load 𝒱₀ (c : Thread nD τ) none Set.univ (m := wbM) (r := (Rect.unit (s := S1024x1024) ![0, 0] S1024x1024.size inb).toLoadRect) (Finset.subset_univ _)) $$ [H]
  · iexact H
  iintro H
  rw [show wbM.view.readAt (Elt F) (Rect.unit (s := S1024x1024) ![0, 0] S1024x1024.size inb).toLoadRect f = f from Memref.readAt_unit_zero (Elt F) cc0_scratch2 hz _ f]
  iapply Hk $$ H

theorem store_wb (f w : Vec F S1024x1024 .bf16) {k : PUnit → Prog (TpuEff nD τ sig (Elt F) Λ₀ .tc) α}
    {inb : ∀ a, (![0, 0] : Fin 2 → ℕ) a + S1024x1024.size a ≤ S1024x1024.size a}
    {hx : (wbM.access (Rect.unit (s := S1024x1024) ![0, 0] S1024x1024.size inb)).Stores Finset.univ}
    {hm : (Finset.univ : Finset (Rect.unit (s := S1024x1024) ![0, 0] S1024x1024.size inb).shape.Idx) = Finset.univ ∨ ∀ a, (Rect.unit (s := S1024x1024) ![0, 0] S1024x1024.size inb).stride a = 1} :
    wbW c f ⊢ iprop((wbW c w -∗ WP (F := F) c (k PUnit.unit) Q)
      -∗ WP (F := F) c (.op (.store wbM (Rect.unit (s := S1024x1024) ![0, 0] S1024x1024.size inb) w Finset.univ hx hm) k) Q) := by
  unfold wbW
  iintro H Hk
  iapply (wp_store 𝒱₀ (c : Thread nD τ) none Set.univ (m := wbM) (r := Rect.unit (s := S1024x1024) ![0, 0] S1024x1024.size inb) (hx := hx) (hm := hm) (Finset.subset_univ _)) $$ [H]
  · iexact H
  iintro H
  iapply Hk
  rw [show (wbM.access (Rect.unit (s := S1024x1024) ![0, 0] S1024x1024.size inb)).write (Elt F) f w Finset.univ = w from Memref.write_access_unit_zero_univ (Elt F) cc0_scratch2 hz _ f w]
  iexact H

end Whole

section Sync
variable (c : Dev nD) {α : Type} {Q : α → sProp (MT nD τ sig Unit (Elt F) ℕ UU ℕ)} {k : PUnit → Prog (TpuEff nD τ sig (Elt F) Λ₀ .tc) α}

/-- A unit for a neighbour's barrier, with what the neighbour's transfers land in. -/
theorem sig_bar (e : Fin 3) {d : Dev nD} (hd : d = pt (km e) c) {z : ℤ} (hz : z = ((1 : ℕ) : ℤ)) {s : Sem sig} (hs : s = barS) (O : CellTallies nD τ sig Unit) (W : Waits sig Unit) :
    iprop(Ctx I K ∗ owes (c : Thread nD τ) (O + tallyAt (barCell (pt (km e) c)) () 1) W ∗ dutyTok ER (barCell (pt (km e) c)) 0 (e : DD) ∗ barPay (pt (km e) c) e)
      ⊢ iprop((owes (c : Thread nD τ) O W -∗ WP (F := F) c (k PUnit.unit) Q) -∗ WP (F := F) c (.op (.semSignal (d, .tc) s z) k) Q) := by
  subst hd hz hs
  iintro ⟨#HC, HO, Ht, Hp⟩ Hk
  icases (ctx_bar I K (pt (km e) c)) $$ HC with ⟨#Hi, #Hr⟩
  iapply (Rounds.wp_signal 𝒱₀ ER (Rd I) (c : Thread nD τ) none (dst := (pt (km e) c : Thread nD τ)) (κ := K (pt (km e) c, 0))
      (d := (e : DD)) (by rw [duties_bar]; exact Finset.mem_univ _) rfl () O rfl) $$ [HO Ht Hp]
  · isplitr; · iexact Hi
    isplitl [HO]; · iexact HO
    isplitl [Ht]; · iexact Ht
    isplitl [Hp]; · iapply (Entails.of_eq (show barPay (pt (km e) c) e = (Rd I).payload (barCell (pt (km e) c)) 0 e from rfl)) $$ Hp
    iexact Hr
  iexact Hk

/-- The wait for the three units on the device's own barrier. -/
theorem wait_bar {z : ℤ} (hz : z = ((3 : ℕ) : ℤ)) {s : Sem sig} (hs : s = barS) (W : Waits sig Unit) :
    iprop(Ctx I K ∗ owes (c : Thread nD τ) (owe c sendL) W ∗ cred (tallyAt (barCell c) () 3) ∗ atPos ER (barCell c) 0 (∅ : Finset DD) 0)
      ⊢ iprop((((∃ W, owes (c : Thread nD τ) (owe c sendL) W) ∗ semVal (barCell c) 0 ∗ barPay c 0 ∗ barPay c 1 ∗ barPay c 2) -∗ WP (F := F) c (k PUnit.unit) Q)
        -∗ WP (F := F) c (.op (.semWait s z) k) Q) := by
  subst hz hs
  iintro ⟨#HC, HO, Hcr, Hat⟩ Hk
  icases (ctx_bar I K c) $$ HC with ⟨#Hi, -⟩
  iapply (Rounds.wp_wait_rest_token 𝒱₀ ER (Rd I) (c : Thread nD τ) none (κ := K (c, 0))
      (wpE_semWait_eq 𝒱₀ (c : Thread nD τ) none Set.univ) (Set.mem_univ _) () (O := owe c sendL) (W := W) (R := 0) (m := 0) (T := ∅)
      (by rw [expect_bar])) $$ [Hcr HO Hat]
  · isplitr; · iexact Hi
    isplitl [Hcr]; · iexact Hcr
    isplitl [HO]; · iexact HO
    isplitr
    · iapply ((ctx_lev I K).trans (mayWait c (.reg barS) sendL 1 (le_refl _) (by decide))); iexact HC
    iexact Hat
  iintro ⟨HO, Hat, -, Hpay⟩
  ihave Hp := (Entails.of_eq (rest_bar I c)) $$ Hpay
  imod (Rounds.cell_close ER (Rd I) (Set.mem_univ (K (c, 0))) (fun h => h) (R := 0 + 1) (duties_later I (barCell c))) $$ [Hat] with Hz
  · isplitr; · iexact Hi
    iexact Hat
  iapply Hk
  isplitl [HO]; · iexists (insert (SemLoc.reg barS, ()) W); iexact HO
  isplitl [Hz]; · iexact Hz
  iexact Hp

/-- The weights' copy started, -/
theorem copy_w {q : DmaSem sig} (hq : q = wS) (f : Vec F S1024x1024 .f32) {hsrc : wHM.view.WordExact} {hdst : wVM.view.WordExact}
    {hsem : DmaTarget.Typed (nD := nD) (τ := τ) (p := .tc) .hbm (.dma q) (.here wVM)} :
    iprop(Ctx I K ∗ wHbm c (I.W c) ∗ wVm c f ∗ dutyTok ER (wCell c) 0 (0 : DD))
      ⊢ iprop((cred (tallyAt (wCell c) () NW) -∗ WP (F := F) c (k PUnit.unit) Q) -∗ WP (F := F) c (.op (.enqueueDma wHM (.here wVM) (.dma q) hsrc hdst hsem) k) Q) := by
  subst hq
  iintro ⟨#HC, Hs, Hd, Ht⟩ Hk
  icases (ctx_dma I K wS w_ne c) $$ HC with ⟨#Hi, #Hr⟩
  unfold wHbm wVm
  iapply (Rounds.wp_copy_pointsTo 𝒱₀ ER (Rd I) (c : Thread nD τ) none (κ := K (c, kq wS)) (src := wHM) (dst := wVM) (sem := .dma wS)
    (q := fullShare) (fs := I.W c) (fd := f) (r := 0) (d := (0 : DD))
    (by rw [duties_dma I c _ w_ne]; exact Finset.mem_singleton_self _) () NW rfl amt_w
    (by
      refine BIBase.Entails.trans ?_ (Entails.of_eq (pay_w I c).symm)
      unfold wVm wHbm
      iintro ⟨H1, H2⟩
      isplitl [H1]
      · iapply (Entails.of_eq (show (((c : Thread nD τ).loc cc0_scratch1 ↦[wVM.view.set]{fullShare} (wVM.view.write (Elt F) f (wHM.view.read (Elt F) (I.W c)) Finset.univ)) : sProp 𝕄)
          = ((c : Thread nD τ).loc cc0_scratch1 ↦{fullShare} I.W c) from by
            rw [show wVM.view.set = Finset.univ from View.set_whole cc0_scratch1]
            exact congrArg (fun g => (((c : Thread nD τ).loc cc0_scratch1 ↦{fullShare} g) : sProp 𝕄)) (View.write_whole_univ cc0_scratch1 f _))) $$ H1
      · iapply (Entails.of_eq (congrArg (fun S => (((c : Thread nD τ).loc main_arg1 ↦[S]{fullShare} I.W c) : sProp 𝕄)) (View.set_whole main_arg1))) $$ H2)) $$ [Hs Hd Ht]
  · isplitr; · iexact Hi
    isplitl [Hs]
    · iapply (Entails.of_eq (congrArg (fun S => (((c : Thread nD τ).loc main_arg1 ↦[S]{fullShare} I.W c) : sProp 𝕄)) (View.set_whole main_arg1).symm)) $$ Hs
    isplitl [Hd]
    · iapply (Entails.of_eq (congrArg (fun S => (((c : Thread nD τ).loc cc0_scratch1 ↦[S]{fullShare} f) : sProp 𝕄)) (View.set_whole cc0_scratch1).symm)) $$ Hd
    isplitl [Ht]; · iexact Ht
    iexact Hr
  iexact Hk

/-- and awaited. -/
theorem wait_w (n m : ℕ) (hl : ∀ y ∈ sendL.drop n, 0 < lvx y) {q : DmaSem sig} (hq : q = wS) {hsrc : wHM.view.WordExact} {hdst : wVM.view.WordExact} :
    iprop(Ctx I K ∗ St I c n m ∗ cred (tallyAt (wCell c) () NW) ∗ atPos ER (wCell c) 0 (∅ : Finset DD) 0)
      ⊢ iprop(((St I c n m ∗ semVal (wCell c) 0 ∗ wVm c (I.W c) ∗ wHbm c (I.W c)) -∗ WP (F := F) c (k PUnit.unit) Q)
        -∗ WP (F := F) c (.op (.waitDma2 q wHM wVM hsrc hdst) k) Q) := by
  subst hq
  unfold St
  iintro ⟨#HC, ⟨⟨%W, HO⟩, HS, HT, HD⟩, Hcr, Hat⟩ Hk
  icases (ctx_dma I K wS w_ne c) $$ HC with ⟨#Hi, -⟩
  have hc : wVM.view.dmaCredit = NW := rfl
  have hk : 0 + wVM.view.dmaCredit = (Rd (F := F) I).expect (wCell c) 0 := by
    rw [Nat.zero_add, hc, expect_dma I c _ w_ne, amt_w]
  iapply (Rounds.wp_wait_rest_token 𝒱₀ ER (Rd I) (c : Thread nD τ) none (κ := K (c, kq wS))
      (wpE_waitDma2_eq 𝒱₀ (c : Thread nD τ) none Set.univ) (Set.mem_univ _) () (O := owe c (sendL.drop n)) (W := W) (R := 0) (m := 0) (T := ∅)
      hk) $$ [Hcr HO Hat]
  · isplitr; · iexact Hi
    isplitl [Hcr]; · rw [hc]; iexact Hcr
    isplitl [HO]; · iexact HO
    isplitr; · iapply ((ctx_lev I K).trans (mayWait c (.dma wS) (sendL.drop n) 0 (le_of_eq (lv_w c ())) hl)); iexact HC
    iexact Hat
  iintro ⟨HO, Hat, -, Hpay⟩
  ihave Hp := (Entails.of_eq ((rest_dma I c wS w_ne).trans (pay_w I c))) $$ Hpay
  imod (Rounds.cell_close ER (Rd I) (Set.mem_univ (K (c, kq wS))) (fun h => h) (R := 0 + 1) (duties_later I (wCell c))) $$ [Hat] with Hz
  · isplitr; · iexact Hi
    iexact Hat
  iapply Hk
  isplitr [Hz Hp]
  · isplitl [HO]; · iexists (insert (SemLoc.dma wS, ()) W); iexact HO
    isplitl [HS]; · iexact HS
    isplitl [HT]; · iexact HT
    iexact HD
  isplitl [Hz]; · iexact Hz
  iexact Hp

end Sync

end Cube

end
-- ==== Proof.Vals.lean ====
/-
# The bands of the result, as values and as shares

A band of the result belongs to the device that computed it. A band that is sent more than once is lent in shares.
-/
module

public import proofs.«01_k».proof.Proof.Sync

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (c : Dev nD)

/-- Where a row of a device's own band falls: in the device's chunk, at its place in it. -/
theorem own_row (p : Fin 3) (a : ℕ) (ha : a < hgt p) :
    (row p 0 c + a) % 2048 / 256 = (ch c 0).val ∧ (row p 0 c + a) % 2048 % 256 = roff p + a := by
  have h1 := row_le p 0 c
  have h2 : roff p + hgt p ≤ 256 := (by decide : ∀ p, roff p + hgt p ≤ 256) p
  unfold row at h1 ⊢
  rw [Nat.mod_eq_of_lt (by omega)]
  omega

theorem OUT_blk0 : (blk 96 (OUT I) (row 0 0 c) : FVec F S96x1024 .bf16) = O0 I c := by
  funext j
  have hj : (j 0).val < 96 := (j 0).isLt
  obtain ⟨h1, h2⟩ := own_row c 0 (j 0).val hj
  show OUT I (at2 (row 0 0 c + (j 0).val) (j 1)) = O0 I c j
  have e0 : ((at2 (row 0 0 c + (j 0).val) (j 1)) 0).val = (row 0 0 c + (j 0).val) % 2048 := rfl
  unfold OUT
  dsimp only
  have hw : ((at2 (row 0 0 c + (j 0).val) (j 1)) 0).val % 256 = (j 0).val := by rw [e0, h2]; show 0 + _ = _; omega
  rw [dif_pos (by rw [hw]; exact hj)]
  have hk : (⟨((at2 (row 0 0 c + (j 0).val) (j 1)) 0).val / 256, by rw [e0, h1]; exact (ch c 0).isLt⟩ : Fin 8) = ch c 0 := Fin.ext h1
  rw [hk, lg_ch_zero]
  congr 1
  funext t
  fin_cases t
  · exact Fin.ext hw
  · rfl

theorem OUT_blk1 : (blk 80 (OUT I) (row 1 0 c) : FVec F S80x1024 .bf16) = O12 I 1 c := by
  funext j
  have hj : (j 0).val < 80 := (j 0).isLt
  obtain ⟨h1, h2⟩ := own_row c 1 (j 0).val hj
  show OUT I (at2 (row 1 0 c + (j 0).val) (j 1)) = O12 I 1 c j
  have e0 : ((at2 (row 1 0 c + (j 0).val) (j 1)) 0).val = (row 1 0 c + (j 0).val) % 2048 := rfl
  unfold OUT
  dsimp only
  have hw : ((at2 (row 1 0 c + (j 0).val) (j 1)) 0).val % 256 = 96 + (j 0).val := by rw [e0, h2]; rfl
  rw [dif_neg (by rw [hw]; omega), dif_pos (by rw [hw]; omega)]
  have hk : (⟨((at2 (row 1 0 c + (j 0).val) (j 1)) 0).val / 256, by rw [e0, h1]; exact (ch c 0).isLt⟩ : Fin 8) = ch c 0 := Fin.ext h1
  rw [hk, lg_ch_zero]
  congr 1
  funext t
  fin_cases t
  · exact Fin.ext (by show _ - 96 = _; rw [hw]; exact Nat.add_sub_cancel_left _ _)
  · rfl

theorem OUT_blk2 : (blk 80 (OUT I) (row 2 0 c) : FVec F S80x1024 .bf16) = O12 I 2 c := by
  funext j
  have hj : (j 0).val < 80 := (j 0).isLt
  obtain ⟨h1, h2⟩ := own_row c 2 (j 0).val hj
  show OUT I (at2 (row 2 0 c + (j 0).val) (j 1)) = O12 I 2 c j
  have e0 : ((at2 (row 2 0 c + (j 0).val) (j 1)) 0).val = (row 2 0 c + (j 0).val) % 2048 := rfl
  unfold OUT
  dsimp only
  have hw : ((at2 (row 2 0 c + (j 0).val) (j 1)) 0).val % 256 = 176 + (j 0).val := by rw [e0, h2]; rfl
  rw [dif_neg (by rw [hw]; omega), dif_neg (by rw [hw]; omega)]
  have hk : (⟨((at2 (row 2 0 c + (j 0).val) (j 1)) 0).val / 256, by rw [e0, h1]; exact (ch c 0).isLt⟩ : Fin 8) = ch c 0 := Fin.ext h1
  rw [hk, lg_ch_zero]
  congr 1
  funext t
  fin_cases t
  · exact Fin.ext (by show _ - 176 = _; rw [hw]; exact Nat.add_sub_cancel_left _ _)
  · rfl

omit [FloatOps F] in
theorem out_half (p : Fin 3) (e : Fin 8) (q : PosShare TreeShare) (f : Vec F S2048x1024 .bf16) :
    outB p e c q f ⊣⊢ iprop(outB p e c q.left f ∗ outB p e c q.right f) := by
  unfold outB; exact pointsTo_share (PosShare.mem_left_op_right q)
omit [FloatOps F] in
/-- A band lent in two shares, and in three. -/
theorem out_two (p : Fin 3) (e : Fin 8) (f : Vec F S2048x1024 .bf16) :
    outB p e c fullShare f ⊢ iprop(outB p e c fullShare.left f ∗ outB p e c fullShare.right f) := (out_half c p e fullShare f).1
omit [FloatOps F] in
theorem out_three (p : Fin 3) (e : Fin 8) (f : Vec F S2048x1024 .bf16) :
    outB p e c fullShare f ⊢ iprop(outB p e c fullShare.left f ∗ outB p e c fullShare.right.left f ∗ outB p e c fullShare.right.right f) := by
  iintro H
  ihave H := (out_half c p e fullShare f).1 $$ H
  icases H with ⟨H1, H2⟩
  ihave H2 := (out_half c p e fullShare.right f).1 $$ H2
  isplitl [H1] <;> iassumption
omit [FloatOps F] in
theorem out_two' (p : Fin 3) (e : Fin 8) (f : Vec F S2048x1024 .bf16) :
    iprop(outB p e c fullShare.left f ∗ outB p e c fullShare.right f) ⊢ outB p e c fullShare f := (out_half c p e fullShare f).2
omit [FloatOps F] in
theorem out_three' (p : Fin 3) (e : Fin 8) (f : Vec F S2048x1024 .bf16) :
    iprop(outB p e c fullShare.left f ∗ outB p e c fullShare.right.left f ∗ outB p e c fullShare.right.right f) ⊢ outB p e c fullShare f := by
  iintro ⟨H1, H2⟩
  ihave H2 := (out_half c p e fullShare.right f).2 $$ H2
  iapply (out_half c p e fullShare f).2
  isplitl [H1] <;> iassumption

end Cube

end
-- ==== Proof.Setup.lean ====
/-
# Whole buffers as bands, what a device hands over at the barrier, and the ledger opened
-/
module

public import proofs.«01_k».proof.Proof.Vals

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The bands cover their buffers -/

theorem roff_hgt : ∀ p, roff p + hgt p ≤ 256 := by decide
theorem pipe_of (w : ℕ) (h : w < 256) : ∃ p : Fin 3, roff p ≤ w ∧ w < roff p + hgt p := by
  by_cases h1 : w < 96
  · exact ⟨0, Nat.zero_le _, h1⟩
  · by_cases h2 : w < 176
    · exact ⟨1, Nat.le_of_not_lt h1, h2⟩
    · exact ⟨2, Nat.le_of_not_lt h2, h⟩
theorem pipe_inj (p p' : Fin 3) (w : ℕ) (h : roff p ≤ w ∧ w < roff p + hgt p) (h' : roff p' ≤ w ∧ w < roff p' + hgt p') : p = p' := by
  fin_cases p <;> fin_cases p' <;> first | rfl | (exfalso; simp [roff, hgt] at h h'; omega)

theorem band_of (c : Dev nD) (r : ℕ) (hr : r < 2048) : ∃ t : Fin 3 × Fin 8, row t.1 t.2 c ≤ r ∧ r < row t.1 t.2 c + hgt t.1 := by
  obtain ⟨p, h1, h2⟩ := pipe_of (r % 256) (Nat.mod_lt _ (by decide))
  refine ⟨(p, ch c ⟨r / 256, by omega⟩), ?_⟩
  dsimp only
  unfold row
  rw [ch_ch]
  dsimp only
  omega

theorem band_disj (c : Dev nD) (t t' : Fin 3 × Fin 8) (h : t ≠ t') :
    Disjoint (rows (row t.1 t.2 c) (hgt t.1)) (rows (row t'.1 t'.2 c) (hgt t'.1)) := by
  refine Finset.disjoint_left.mpr fun i hi hi' => h ?_
  rw [mem_rows] at hi hi'
  have a := roff_hgt t.1
  have b := roff_hgt t'.1
  unfold row at hi hi'
  have e : (ch c t.2).val = (ch c t'.2).val := by omega
  have e2 : t.2 = t'.2 := ch_inj c _ _ (Fin.ext e)
  have e1 : t.1 = t'.1 := pipe_inj _ _ ((i 0).val - (ch c t.2).val * 256) (by omega) (by rw [e]; omega)
  exact Prod.ext e1 e2

theorem rows_cover (c : Dev nD) : (Finset.univ : Finset S2048x1024.Idx) = Finset.univ.biUnion fun t : Fin 3 × Fin 8 => rows (row t.1 t.2 c) (hgt t.1) := by
  refine (Finset.eq_univ_iff_forall.mpr fun i => ?_).symm
  obtain ⟨t, h⟩ := band_of c (i 0).val (i 0).isLt
  exact Finset.mem_biUnion.mpr ⟨t, Finset.mem_univ _, mem_rows.mpr h⟩

theorem slot_disj (t t' : Fin 3 × Fin 7) (h : t ≠ t') :
    Disjoint (srows t.2.val (roff t.1) (hgt t.1)) (srows t'.2.val (roff t'.1) (hgt t'.1)) := by
  refine Finset.disjoint_left.mpr fun i hi hi' => h ?_
  rw [mem_srows] at hi hi'
  have e2 : t.2 = t'.2 := Fin.ext (by omega)
  have e1 : t.1 = t'.1 := pipe_inj _ _ (i 1).val (by omega) (by omega)
  exact Prod.ext e1 e2

theorem srows_cover : (Finset.univ : Finset S7x256x1024.Idx) = Finset.univ.biUnion fun t : Fin 3 × Fin 7 => srows t.2.val (roff t.1) (hgt t.1) := by
  refine (Finset.eq_univ_iff_forall.mpr fun i => ?_).symm
  obtain ⟨p, h⟩ := pipe_of (i 1).val (i 1).isLt
  exact Finset.mem_biUnion.mpr ⟨(p, i 0), Finset.mem_univ _, mem_srows.mpr ⟨rfl, h.1, h.2⟩⟩

/-! ## The lists of the transfers and of the bands -/

def loL : List X := [0, 1, 2, 3, 4, 5, 6, 7, 8, 9, 10, 11, 12, 13, 14, 15, 16, 17, 18, 19, 20]
def hiL : List X := [21, 22, 23, 24, 25, 26, 27, 28, 29, 30, 31, 32, 33, 34, 35, 36, 37, 38, 39, 40, 41]
def ownL : List (Fin 3 × Fin 8) := [(0, 0), (1, 0), (2, 0)]
def accL : List (Fin 3 × Fin 8) := ownL ++ loL.map fun x => (pp x, sk x)
def outL : List (Fin 3 × Fin 8) := ownL ++ hiL.map fun x => (pp x, rk x)
def rcvL : List (Fin 3 × Fin 7) := loL.map fun x => (pp x, sl x)
theorem X_univ : (Finset.univ : Finset X) = (loL ++ hiL).toFinset := by decide
theorem X_nodup : (loL ++ hiL).Nodup := by decide
theorem accL_univ : (Finset.univ : Finset (Fin 3 × Fin 8)) = accL.toFinset := by decide
theorem accL_nodup : accL.Nodup := by decide
theorem outL_univ : (Finset.univ : Finset (Fin 3 × Fin 8)) = outL.toFinset := by decide
theorem outL_nodup : outL.Nodup := by decide
theorem rcvL_univ : (Finset.univ : Finset (Fin 3 × Fin 7)) = rcvL.toFinset := by decide
theorem rcvL_nodup : rcvL.Nodup := by decide
theorem sendL_univ : (Finset.univ : Finset X) = sendL.toFinset := by decide
theorem sendL_nodup : sendL.Nodup := by decide
theorem waitL_univ : (Finset.univ : Finset (X × Bool)) = waitL.toFinset := by decide
theorem lo_lt : ∀ x ∈ loL, x.val < 21 := by decide
theorem hi_ge : ∀ x ∈ hiL, ¬ x.val < 21 := by decide

variable (I : In F) (K : Dev nD × Fin 86 → ℕ) (c : Dev nD)

omit [FloatOps F] in
theorem accW_bands (f : Vec F S2048x1024 .bf16) : accW c f = bigSepL accL fun t => accB t.1 t.2 c f := by
  rw [← bigSep_univ_eq_bigSepL accL accL_univ accL_nodup]
  unfold accW accB
  exact (congrArg (fun S => (((c : Thread nD τ).loc cc0_scratch0 ↦[S]{fullShare} f) : sProp 𝕄)) (rows_cover c)).trans
    (pointsTo_biUnion _ _ (fun t _ t' _ h => band_disj c t t' h))
omit [FloatOps F] in
theorem outW_bands (f : Vec F S2048x1024 .bf16) : outW c f = bigSepL outL fun t => outB t.1 t.2 c fullShare f := by
  rw [← bigSep_univ_eq_bigSepL outL outL_univ outL_nodup]
  unfold outW outB
  exact (congrArg (fun S => (((c : Thread nD τ).loc cc0_stg1_0 ↦[S]{fullShare} f) : sProp 𝕄)) (rows_cover c)).trans
    (pointsTo_biUnion _ _ (fun t _ t' _ h => band_disj c t t' h))
omit [FloatOps F] in
theorem rcvW_slots (f : Vec F S7x256x1024 .bf16) : rcvW c f = bigSepL loL fun x => rcvB x c f := by
  have h : rcvW c f = bigSepL rcvL fun t => (((c : Thread nD τ).loc cc0_scratch3 ↦[srows t.2.val (roff t.1) (hgt t.1)]{fullShare} f) : sProp 𝕄) := by
    rw [← bigSep_univ_eq_bigSepL rcvL rcvL_univ rcvL_nodup]
    unfold rcvW
    exact (congrArg (fun S => (((c : Thread nD τ).loc cc0_scratch3 ↦[S]{fullShare} f) : sProp 𝕄)) srows_cover).trans
      (pointsTo_biUnion _ _ (fun t _ t' _ h => slot_disj t t' h))
  rw [h, rcvL, bigSepL_map]
  rfl

/-- Pieces of a buffer held at any values are held at one. -/
theorem join_any {T : Type} [DecidableEq T] {ℓ : Loc nD τ sig} (J : T → Finset (Idx ℓ)) (f₀ : Buf (Elt F) ℓ)
    (hd : ∀ t t', t ≠ t' → Disjoint (J t) (J t')) : ∀ (l : List T), l.Nodup →
    (bigSepL l (fun t => iprop(∃ f, ℓ ↦[J t]{fullShare} f)) ⊢ (iprop(∃ g, ℓ ↦[l.toFinset.biUnion J]{fullShare} g) : sProp 𝕄))
  | [], _ => by
    iintro -
    iexists f₀
    rw [List.toFinset_nil, Finset.biUnion_empty, pointsTo_empty]
    iempintro
  | t :: l, hn => by
    rw [bigSepL_cons', List.toFinset_cons, Finset.biUnion_insert]
    have ih := join_any J f₀ hd l (List.nodup_cons.mp hn).2
    have hj : Disjoint (J t) (l.toFinset.biUnion J) := (Finset.disjoint_biUnion_right _ _ _).mpr fun t' ht' =>
      hd t t' fun e => (List.nodup_cons.mp hn).1 (by rw [e]; exact List.mem_toFinset.mp ht')
    iintro ⟨⟨%f, H⟩, HL⟩
    ihave HL := ih $$ HL
    icases HL with ⟨%g, HL⟩
    ihave H := (pointsTo_join hj) $$ [H HL]
    · isplitl [H] <;> iassumption
    iexists ((l.toFinset.biUnion J).piecewise g f)
    iexact H

theorem accW_join (I : In F) : bigSepL accL (fun t => iprop(∃ f, accB t.1 t.2 c f)) ⊢ (iprop(∃ f, accW c f) : sProp 𝕄) := by
  have h := join_any (F := F) (ℓ := (c : Thread nD τ).loc cc0_scratch0) (fun t : Fin 3 × Fin 8 => rows (row t.1 t.2 c) (hgt t.1)) (V0 I c) (band_disj c) accL accL_nodup
  rw [← accL_univ] at h
  rw [← rows_cover c] at h
  exact h
theorem rcvW_join (I : In F) : bigSepL loL (fun x => iprop(∃ f, rcvB x c f)) ⊢ (iprop(∃ f, rcvW c f) : sProp 𝕄) := by
  have h := join_any (F := F) (ℓ := (c : Thread nD τ).loc cc0_scratch3) (fun t : Fin 3 × Fin 7 => srows t.2.val (roff t.1) (hgt t.1)) (RB I 0 c) slot_disj rcvL rcvL_nodup
  rw [← rcvL_univ, ← srows_cover, rcvL, bigSepL_map] at h
  exact h

/-! ## What goes over at the barrier -/

omit [FloatOps F] in
theorem three_split (R : Fin 3 → X → sProp 𝕄) (x : X) (h : ∀ e, mk x = km e → R e x ⊢ R e x) (S : X → sProp 𝕄)
    (hS : ∀ e, mk x = km e → S x ⊢ R e x) :
    S x ⊢ iprop((if mk x = km 0 then R 0 x else iprop(emp)) ∗ (if mk x = km 1 then R 1 x else iprop(emp)) ∗ (if mk x = km 2 then R 2 x else iprop(emp))) := by
  rcases (by decide : ∀ x, mk x = km 0 ∨ mk x = km 1 ∨ mk x = km 2) x with e | e | e
  · rw [if_pos e, if_neg (by rw [e]; decide), if_neg (by rw [e]; decide)]
    iintro H
    isplitl [H]
    · iapply (hS 0 e) $$ H
    isplitl []; · iempintro
    iempintro
  · rw [if_neg (by rw [e]; decide), if_pos e, if_neg (by rw [e]; decide)]
    iintro H
    isplitl []; · iempintro
    isplitl [H]; · iapply (hS 1 e) $$ H
    iempintro
  · rw [if_neg (by rw [e]; decide), if_neg (by rw [e]; decide), if_pos e]
    iintro H
    isplitl []; · iempintro
    isplitl []; · iempintro
    iapply (hS 2 e) $$ H

omit [FloatOps F] in
theorem three_join (x : X) :
    iprop((if mk x = km 0 then lndB (F := F) x (pt (km 0) c) else iprop(emp)) ∗ (if mk x = km 1 then lndB (F := F) x (pt (km 1) c) else iprop(emp))
      ∗ (if mk x = km 2 then lndB (F := F) x (pt (km 2) c) else iprop(emp))) ⊢ lndB (F := F) x (dv x c) := by
  rcases (by decide : ∀ x, mk x = km 0 ∨ mk x = km 1 ∨ mk x = km 2) x with e | e | e
  · rw [if_pos e]; unfold dv; rw [e]; iintro ⟨H, -⟩; iexact H
  · rw [if_pos e]; unfold dv; rw [e]; iintro ⟨-, H, -⟩; iexact H
  · rw [if_pos e]; unfold dv; rw [e]; iintro ⟨-, -, H⟩; iexact H

omit [FloatOps F] in
theorem bar_give : bigSep Finset.univ (fun x : X => lndB (F := F) x c)
    ⊢ iprop(barPay (F := F) (pt (km 0) c) 0 ∗ barPay (F := F) (pt (km 1) c) 1 ∗ barPay (F := F) (pt (km 2) c) 2) := by
  unfold barPay
  rw [← bigSep_sep', ← bigSep_sep']
  exact bigSep_mono fun x _ => three_split (fun e x => lndB (F := F) x (pt (km e) (pt (km e) c))) x (fun _ _ => BIBase.Entails.rfl) (fun x => lndB (F := F) x c)
    fun e _ => Entails.of_eq (by rw [pt_pt])

omit [FloatOps F] in
theorem bar_take : iprop(barPay (F := F) c 0 ∗ barPay (F := F) c 1 ∗ barPay (F := F) c 2) ⊢ bigSepL sendL (fun x => lndB (F := F) x (dv x c)) := by
  rw [← bigSep_univ_eq_bigSepL sendL sendL_univ sendL_nodup]
  unfold barPay
  rw [← bigSep_sep', ← bigSep_sep']
  exact bigSep_mono fun x _ => three_join c x

/-- A device's landing buffer and the bands of its result that others send: to its three neighbours. -/
theorem give (fr : Vec F S7x256x1024 .bf16) (fo : Vec F S2048x1024 .bf16) :
    iprop(rcvW c fr ∗ outW c fo) ⊢ iprop((barPay (F := F) (pt (km 0) c) 0 ∗ barPay (F := F) (pt (km 1) c) 1 ∗ barPay (F := F) (pt (km 2) c) 2)
      ∗ outB 0 0 c fullShare fo ∗ outB 1 0 c fullShare fo ∗ outB 2 0 c fullShare fo) := by
  rw [rcvW_slots, outW_bands, outL, bigSepL_append, bigSepL_map]
  unfold ownL
  rw [bigSepL_cons', bigSepL_cons', bigSepL_singleton]
  iintro ⟨HR, ⟨H0, H1, H2⟩, HO⟩
  isplitl [HR HO]
  · iapply (bar_give c)
    rw [bigSep_univ_eq_bigSepL (loL ++ hiL) X_univ X_nodup, bigSepL_append]
    isplitl [HR]
    · iapply (bigSepL_mono (l := loL) (Φ := fun x => rcvB x c fr) (Ψ := fun x => lndB (F := F) x c) fun x hx => by
        unfold lndB; rw [if_pos (lo_lt x hx)]; iintro H; iexists fr; iexact H) $$ HR
    · iapply (bigSepL_mono (l := hiL) (Φ := fun x => outB (pp x) (rk x) c fullShare fo) (Ψ := fun x => lndB (F := F) x c) fun x hx => by
        unfold lndB; rw [if_neg (hi_ge x hx)]; iintro H; iexists fo; iexact H) $$ HO
  isplitl [H0]; · iexact H0
  isplitl [H1]; · iexact H1
  iexact H2

/-- The tokens of a transfer's two duties. -/
def toks2 (x : X) : sProp 𝕄 := iprop(dutyTok ER (depCell x c) 0 (0 : DD) ∗ dutyTok ER (arrCell x (dv x c)) 0 (0 : DD))

theorem bigSepL_sep {A : Type} [DecidableEq A] (l : List A) (hn : l.Nodup) (Φ Ψ : A → sProp 𝕄) :
    bigSepL l (fun a => iprop(Φ a ∗ Ψ a)) = iprop(bigSepL l Φ ∗ bigSepL l Ψ) := by
  rw [← bigSep_eq_bigSepL l hn, ← bigSep_eq_bigSepL l hn, ← bigSep_eq_bigSepL l hn, bigSep_sep']

theorem open_St : iprop((∃ W, owes (c : Thread nD τ) (owe c sendL) W) ∗ bigSepL sendL (toks2 (F := F) c)
      ∗ (barPay (F := F) c 0 ∗ barPay (F := F) c 1 ∗ barPay (F := F) c 2) ∗ bigSepL waitL (todo (F := F) c 0)) ⊢ St I c 0 0 := by
  unfold St
  rw [List.drop_zero, List.drop_zero, List.take_zero, bigSepL_nil]
  iintro ⟨HO, HT, HB, HW⟩
  isplitl [HO]; · iexact HO
  isplitl [HT HB]
  · ihave HB := (bar_take c) $$ HB
    iapply (bigSepL_mono (l := sendL) (Φ := fun x => iprop(toks2 (F := F) c x ∗ lndB (F := F) x (dv x c))) (Ψ := sndX (F := F) c) fun x _ => by
      unfold toks2 sndX; iintro ⟨⟨H1, H2⟩, H3⟩
      isplitl [H1]; · iexact H1
      isplitl [H2]; · iexact H2
      iexact H3)
    rw [bigSepL_sep sendL sendL_nodup]
    isplitl [HT]; · iexact HT
    iexact HB
  isplitl [HW]; · iexact HW
  iempintro

end Cube

end
-- ==== Proof.Parts0.lean ====
/-
# The opening: the signals, the accumulator filled, the barrier, the first transfer; and the last waits
-/
module

public import proofs.«01_k».proof.Proof.Setup

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

theorem pay_V0 : k0_pay2 (k0_pay1 (I.T c)) = V0 I c := by
  simp only [k0_pay1, k0_pay2]
  have h1 : ∀ (v : FVec F S2048x1024 .f32) (h : S2048x1024.ShapeCasts S2048x1024), shapeCast S2048x1024 v h = v := fun v h => cast_blk 2048 v h
  have h2 : ∀ (v : FVec F S2048x1024 .bf16) (h : S2048x1024.ShapeCasts S2048x1024), shapeCast S2048x1024 v h = v := fun v h => cast_blk 2048 v h
  simp only [h1, h2]
  rfl

/-- The accumulator's bands, by name. -/
theorem acc_names (f : Vec F S2048x1024 .bf16) : accW c f ⊢ iprop(accB 0 0 c f ∗ accB 1 0 c f ∗ accB 2 0 c f ∗ accB 0 1 c f ∗ accB 0 3 c f ∗ accB 0 5 c f ∗ accB 0 7 c f ∗ accB 0 2 c f ∗ accB 0 6 c f ∗ accB 0 4 c f ∗ accB 1 2 c f ∗ accB 1 6 c f ∗ accB 1 3 c f ∗ accB 1 7 c f ∗ accB 1 4 c f ∗ accB 1 5 c f ∗ accB 1 1 c f ∗ accB 2 4 c f ∗ accB 2 5 c f ∗ accB 2 6 c f ∗ accB 2 7 c f ∗ accB 2 1 c f ∗ accB 2 3 c f ∗ accB 2 2 c f) := by
  rw [accW_bands]
  exact BIBase.Entails.rfl

def barOwe (c : Dev nD) : CellTallies nD τ sig Unit :=
  owe c sendL + tallyAt (barCell (pt (km 2) c)) () 1 + tallyAt (barCell (pt (km 1) c)) () 1 + tallyAt (barCell (pt (km 0) c)) () 1

theorem part1 (fa : Vec F S2048x1024 .bf16) (fw : Vec F S1024x1024 .f32) (W : Waits sig Unit) {k : (Σ' (d0 : Dev nD) (v5 : BitVec 32) (v6 : Sems sig S_) (v27 : FVec F S2048x1024 .bf16), Vec F S2048x1024 .bf16) → Prog (TpuEff nD τ sig (Elt F) Λ₀ .tc) α} :
    iprop(Ctx I K ∗ owes (c : Thread nD τ) (barOwe c) W ∗ dutyTok ER (barCell (pt (km 0) c)) 0 (0 : DD) ∗ dutyTok ER (barCell (pt (km 1) c)) 0 (1 : DD) ∗ dutyTok ER (barCell (pt (km 2) c)) 0 (2 : DD)
        ∗ barPay (F := F) (pt (km 0) c) 0 ∗ barPay (F := F) (pt (km 1) c) 1 ∗ barPay (F := F) (pt (km 2) c) 2
        ∗ wHbm c (I.W c) ∗ wVm c fw ∗ dutyTok ER (wCell c) 0 (0 : DD) ∗ tW c (I.T c) ∗ accW c fa)
      ⊢ iprop((∀ w : BitVec 32, owes (c : Thread nD τ) (owe c sendL) W -∗ cred (tallyAt (wCell c) () NW) -∗ tW c (I.T c) -∗ accW c fa -∗ WP (F := F) c (k (⟨c, w, (SemArray.scalar (sig.barrier 0 rfl)), k0_pay1 (I.T c), fa⟩ : (Σ' (d0 : Dev nD) (v5 : BitVec 32) (v6 : Sems sig S_) (v27 : FVec F S2048x1024 .bf16), Vec F S2048x1024 .bf16))) Q)
        -∗ WP (F := F) c (k0_part1 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 >>= k) Q) := by
  rw [k0_part1_eq_skeleton]; unfold k0_part1_skel
  simp only [semSignalWord, semWaitWord, Prog.lift, Prog.bind_op, Prog.bind_ret, Prog.pure_eq_ret, WP, wp_deviceId]
  iintro ⟨#HC, HO, T0, T1, T2, P0, P1, P2, Hh, Hv, Hw, Ht, Ha⟩ Hk
  iapply (copy_w I K c rfl fw) $$ [Hh Hv Hw]
  · isplitr; · iexact HC
    isplitl [Hh]; · iexact Hh
    isplitl [Hv]; · iexact Hv
    iexact Hw
  iintro Hcr
  unfold barOwe
  iapply (sig_bar I K c 0 (dev1 c) rfl rfl (owe c sendL + tallyAt (barCell (pt (km 2) c)) () 1 + tallyAt (barCell (pt (km 1) c)) () 1) W) $$ [HO T0 P0]
  · isplitr; · iexact HC
    isplitl [HO]; · iexact HO
    isplitl [T0]; · iexact T0
    iexact P0
  iintro HO
  iapply (sig_bar I K c 1 (dev2 c) rfl rfl (owe c sendL + tallyAt (barCell (pt (km 2) c)) () 1) W) $$ [HO T1 P1]
  · isplitr; · iexact HC
    isplitl [HO]; · iexact HO
    isplitl [T1]; · iexact T1
    iexact P1
  iintro HO
  iapply (sig_bar I K c 2 (dev3 c) rfl rfl (owe c sendL) W) $$ [HO T2 P2]
  · isplitr; · iexact HC
    isplitl [HO]; · iexact HO
    isplitl [T2]; · iexact T2
    iexact P2
  iintro HO
  iapply (load_t c (I.T c)) $$ Ht
  iintro Ht
  iapply (load_accW c fa) $$ Ha
  iintro Ha
  iapply Hk $$ HO Hcr Ht Ha

theorem part2 (v5 : BitVec 32) (fa : Vec F S2048x1024 .bf16) (W : Waits sig Unit) {k : (BitVec 32) → Prog (TpuEff nD τ sig (Elt F) Λ₀ .tc) α} :
    iprop(Ctx I K ∗ owes (c : Thread nD τ) (owe c sendL) W ∗ cred (tallyAt (barCell c) () 3) ∗ atPos ER (barCell c) 0 (∅ : Finset DD) 0
        ∗ bigSepL sendL (toks2 (F := F) c) ∗ bigSepL waitL (todo (F := F) c 0) ∗ accW c fa)
      ⊢ iprop((∀ w : BitVec 32, St I c 1 0 -∗ semVal (barCell c) 0 -∗ accB 0 0 c (V0 I c) -∗ accB 1 0 c (V0 I c) -∗ accB 2 0 c (V0 I c) -∗ accB 0 1 c (V0 I c) -∗ accB 0 5 c (V0 I c) -∗ accB 0 7 c (V0 I c) -∗ accB 0 2 c (V0 I c) -∗ accB 0 6 c (V0 I c) -∗ accB 0 4 c (V0 I c) -∗ accB 1 2 c (V0 I c) -∗ accB 1 6 c (V0 I c) -∗ accB 1 3 c (V0 I c) -∗ accB 1 7 c (V0 I c) -∗ accB 1 4 c (V0 I c) -∗ accB 1 5 c (V0 I c) -∗ accB 1 1 c (V0 I c) -∗ accB 2 4 c (V0 I c) -∗ accB 2 5 c (V0 I c) -∗ accB 2 6 c (V0 I c) -∗ accB 2 7 c (V0 I c) -∗ accB 2 1 c (V0 I c) -∗ accB 2 3 c (V0 I c) -∗ accB 2 2 c (V0 I c) -∗ WP (F := F) c (k (w : (BitVec 32))) Q)
        -∗ WP (F := F) c (k0_part2 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (SemArray.scalar (sig.barrier 0 rfl)) (k0_pay1 (I.T c)) fa >>= k) Q) := by
  rw [k0_part2_eq_skeleton]; unfold k0_part2_skel
  simp only [semSignalWord, semWaitWord, Prog.lift, Prog.bind_op, Prog.bind_ret, Prog.pure_eq_ret]
  iintro ⟨#HC, HO, Hcr, Hat, HT, HW, Ha⟩ Hk
  iapply (store_accW c fa (k0_pay2 (k0_pay1 (I.T c)))) $$ Ha
  iintro Ha
  ihave Ha := (Entails.of_eq (congrArg (accW c) (pay_V0 I c))) $$ Ha
  ihave Ha := (acc_names c (V0 I c)) $$ Ha
  icases Ha with ⟨A00, A10, A20, A01, A03, A05, A07, A02, A06, A04, A12, A16, A13, A17, A14, A15, A11, A24, A25, A26, A27, A21, A23, A22⟩
  iapply (wait_bar I K c rfl rfl W) $$ [HO Hcr Hat]
  · isplitr; · iexact HC
    isplitl [HO]; · iexact HO
    isplitl [Hcr]; · iexact Hcr
    iexact Hat
  iintro ⟨HO, Hz, HB⟩
  ihave HS := (open_St I c) $$ [HO HT HB HW]
  · isplitl [HO]; · iexact HO
    isplitl [HT]; · iexact HT
    isplitl [HB]; · iexact HB
    iexact HW
  iapply (send_rs I K c 1 0 0 96 (by decide) rfl rfl (p := 0) (e := 3) (V0 I c) rfl rfl rfl (by decide) (by decide) (o1_1_2 c) (devX1 c) rfl rfl rfl) $$ [HS A03]
  · isplitr; · iexact HC
    isplitl [HS]; · iexact HS
    iexact A03
  iintro HS
  iapply Hk $$ HS Hz A00 A10 A20 A01 A05 A07 A02 A06 A04 A12 A16 A13 A17 A14 A15 A11 A24 A25 A26 A27 A21 A23 A22

end Cube

end
-- ==== Proof.Parts1.lean ====
/-
# The first sends and the first sums
-/
module

public import proofs.«01_k».proof.Proof.Vals

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

theorem part3 (v5 : BitVec 32) (v55 : BitVec 32) {k : (BitVec 32) → Prog (TpuEff nD τ sig (Elt F) Λ₀ .tc) α} :
    iprop(Ctx I K ∗ St I c 1 0 ∗ accB 0 7 c (V0 I c) ∗ accB 0 5 c (V0 I c))
      ⊢ iprop((∀ w0 : BitVec 32, St I c 3 0 -∗ WP (F := F) c (k (w0 : (BitVec 32))) Q)
        -∗ WP (F := F) c (k0_part3 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v55 >>= k) Q) := by
  rw [k0_part3_eq_skeleton]; unfold k0_part3_skel
  simp only [Prog.lift, Prog.bind_op, Prog.bind_ret, Prog.pure_eq_ret]
  iintro ⟨#HC, HS, A07, A05⟩ Hk
  iapply (send_rs I K c 3 1 0 96 (by decide) rfl rfl (p := 0) (e := 7) (V0 I c) rfl rfl rfl (by decide) (by decide) (o1_1_6 c) (devX3 c) rfl rfl rfl) $$ [HS A07]
  · isplitr; · iexact HC
    isplitl [HS]; · iexact HS
    iexact A07
  iintro HS
  iapply (send_rs I K c 2 2 0 96 (by decide) rfl rfl (p := 0) (e := 5) (V0 I c) rfl rfl rfl (by decide) (by decide) (o1_1_4 c) (devX2 c) rfl rfl rfl) $$ [HS A05]
  · isplitr; · iexact HC
    isplitl [HS]; · iexact HS
    iexact A05
  iintro HS
  iapply Hk $$ HS

theorem part4 (v5 : BitVec 32) (c1_i32_73 : BitVec 32) {k : (PUnit) → Prog (TpuEff nD τ sig (Elt F) Λ₀ .tc) α} :
    iprop(Ctx I K ∗ St I c 3 0 ∗ accB 0 1 c (V0 I c))
      ⊢ iprop((St I c 4 0 -∗ WP (F := F) c (k (PUnit.unit : (PUnit))) Q)
        -∗ WP (F := F) c (k0_part4 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 c1_i32_73 >>= k) Q) := by
  rw [k0_part4_eq_skeleton]; unfold k0_part4_skel
  simp only [Prog.lift, Prog.bind_op, Prog.bind_ret, Prog.pure_eq_ret]
  iintro ⟨#HC, HS, A01⟩ Hk
  iapply (send_rs I K c 0 3 0 96 (by decide) rfl rfl (p := 0) (e := 1) (V0 I c) rfl rfl rfl (by decide) (by decide) (o1_1_0 c) (devX0 c) rfl rfl rfl) $$ [HS A01]
  · isplitr; · iexact HC
    isplitl [HS]; · iexact HS
    iexact A01
  iintro HS
  iapply Hk $$ HS

theorem part5 (v5 : BitVec 32) {k : (PUnit) → Prog (TpuEff nD τ sig (Elt F) Λ₀ .tc) α} :
    iprop(Ctx I K ∗ St I c 4 0 ∗ accB 1 6 c (V0 I c) ∗ accB 1 7 c (V0 I c))
      ⊢ iprop((St I c 6 0 -∗ WP (F := F) c (k (PUnit.unit : (PUnit))) Q)
        -∗ WP (F := F) c (k0_part5 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part5_eq_skeleton]; unfold k0_part5_skel
  simp only [Prog.lift, Prog.bind_op, Prog.bind_ret, Prog.pure_eq_ret]
  iintro ⟨#HC, HS, A16, A17⟩ Hk
  iapply (send_rs I K c 8 4 0 80 (by decide) rfl rfl (p := 1) (e := 6) (V0 I c) rfl rfl rfl (by decide) (by decide) (o2_2_4_96 c) (devX8 c) rfl rfl rfl) $$ [HS A16]
  · isplitr; · iexact HC
    isplitl [HS]; · iexact HS
    iexact A16
  iintro HS
  iapply (send_rs I K c 10 5 0 80 (by decide) rfl rfl (p := 1) (e := 7) (V0 I c) rfl rfl rfl (by decide) (by decide) (o2_2_5_96 c) (devX10 c) rfl rfl rfl) $$ [HS A17]
  · isplitr; · iexact HC
    isplitl [HS]; · iexact HS
    iexact A17
  iintro HS
  iapply Hk $$ HS

theorem part6 (v5 : BitVec 32) {k : (Σ' (v171 : BitVec 32), BitVec 32) → Prog (TpuEff nD τ sig (Elt F) Λ₀ .tc) α} :
    iprop(Ctx I K ∗ St I c 6 0 ∗ accB 1 3 c (V0 I c) ∗ accB 1 2 c (V0 I c))
      ⊢ iprop((∀ w0 : BitVec 32, ∀ w1 : BitVec 32, St I c 8 0 -∗ WP (F := F) c (k (⟨w0, w1⟩ : (Σ' (v171 : BitVec 32), BitVec 32))) Q)
        -∗ WP (F := F) c (k0_part6 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part6_eq_skeleton]; unfold k0_part6_skel
  simp only [Prog.lift, Prog.bind_op, Prog.bind_ret, Prog.pure_eq_ret]
  iintro ⟨#HC, HS, A13, A12⟩ Hk
  iapply (send_rs I K c 9 6 0 80 (by decide) rfl rfl (p := 1) (e := 3) (V0 I c) rfl rfl rfl (by decide) (by decide) (o2_2_1_96 c) (devX9 c) rfl rfl rfl) $$ [HS A13]
  · isplitr; · iexact HC
    isplitl [HS]; · iexact HS
    iexact A13
  iintro HS
  iapply (send_rs I K c 7 7 0 80 (by decide) rfl rfl (p := 1) (e := 2) (V0 I c) rfl rfl rfl (by decide) (by decide) (o2_2_0_96 c) (devX7 c) rfl rfl rfl) $$ [HS A12]
  · isplitr; · iexact HC
    isplitl [HS]; · iexact HS
    iexact A12
  iintro HS
  iapply Hk $$ HS

theorem part7 (v5 : BitVec 32) (v171 : BitVec 32) (v173 : BitVec 32) {k : (BitVec 32) → Prog (TpuEff nD τ sig (Elt F) Λ₀ .tc) α} :
    iprop(Ctx I K ∗ St I c 8 0 ∗ accB 2 5 c (V0 I c) ∗ accB 2 7 c (V0 I c))
      ⊢ iprop((∀ w0 : BitVec 32, St I c 10 0 -∗ WP (F := F) c (k (w0 : (BitVec 32))) Q)
        -∗ WP (F := F) c (k0_part7 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v171 v173 >>= k) Q) := by
  rw [k0_part7_eq_skeleton]; unfold k0_part7_skel
  simp only [Prog.lift, Prog.bind_op, Prog.bind_ret, Prog.pure_eq_ret]
  iintro ⟨#HC, HS, A25, A27⟩ Hk
  iapply (send_rs I K c 15 8 0 80 (by decide) rfl rfl (p := 2) (e := 5) (V0 I c) rfl rfl rfl (by decide) (by decide) (o2_4_1_176 c) (devX15 c) rfl rfl rfl) $$ [HS A25]
  · isplitr; · iexact HC
    isplitl [HS]; · iexact HS
    iexact A25
  iintro HS
  iapply (send_rs I K c 17 9 0 80 (by decide) rfl rfl (p := 2) (e := 7) (V0 I c) rfl rfl rfl (by decide) (by decide) (o2_4_3_176 c) (devX17 c) rfl rfl rfl) $$ [HS A27]
  · isplitr; · iexact HC
    isplitl [HS]; · iexact HS
    iexact A27
  iintro HS
  iapply Hk $$ HS

theorem part8 (v5 : BitVec 32) (v202 : BitVec 32) {k : (PUnit) → Prog (TpuEff nD τ sig (Elt F) Λ₀ .tc) α} :
    iprop(Ctx I K ∗ St I c 10 0 ∗ accB 2 6 c (V0 I c))
      ⊢ iprop((St I c 11 0 -∗ WP (F := F) c (k (PUnit.unit : (PUnit))) Q)
        -∗ WP (F := F) c (k0_part8 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v202 >>= k) Q) := by
  rw [k0_part8_eq_skeleton]; unfold k0_part8_skel
  simp only [Prog.lift, Prog.bind_op, Prog.bind_ret, Prog.pure_eq_ret]
  iintro ⟨#HC, HS, A26⟩ Hk
  iapply (send_rs I K c 16 10 0 80 (by decide) rfl rfl (p := 2) (e := 6) (V0 I c) rfl rfl rfl (by decide) (by decide) (o2_4_2_176 c) (devX16 c) rfl rfl rfl) $$ [HS A26]
  · isplitr; · iexact HC
    isplitl [HS]; · iexact HS
    iexact A26
  iintro HS
  iapply Hk $$ HS

theorem part9 (v5 : BitVec 32) {k : (FVec F S96x1024 .f32) → Prog (TpuEff nD τ sig (Elt F) Λ₀ .tc) α} :
    iprop(Ctx I K ∗ St I c 11 0 ∗ accB 2 4 c (V0 I c) ∗ accB 0 2 c (V0 I c))
      ⊢ iprop((St I c 12 1 -∗ accB 0 2 c (V0 I c) -∗ WP (F := F) c (k ((k0_pay3 (blk 96 (V0 I c) (row 0 2 c))) : (FVec F S96x1024 .f32))) Q)
        -∗ WP (F := F) c (k0_part9 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part9_eq_skeleton]; unfold k0_part9_skel
  simp only [Prog.lift, Prog.bind_op, Prog.bind_ret, Prog.pure_eq_ret]
  iintro ⟨#HC, HS, A24, A02⟩ Hk
  iapply (send_rs I K c 14 11 0 80 (by decide) rfl rfl (p := 2) (e := 4) (V0 I c) rfl rfl rfl (by decide) (by decide) (o2_4_0_176 c) (devX14 c) rfl rfl rfl) $$ [HS A24]
  · isplitr; · iexact HC
    isplitl [HS]; · iexact HS
    iexact A24
  iintro HS
  iapply (load_acc c (h := 96) 0 2 (V0 I c) rfl (o3_2 c)) $$ A02
  iintro A02
  iapply (wait_dep I K c 12 0 1 96 rfl rfl (by decide) (by decide) rfl rfl) $$ [HS]
  · isplitr; · iexact HC
    iexact HS
  iintro HS
  iapply Hk $$ HS A02

theorem part10 (v5 : BitVec 32) {k : (Σ' (v278 : FVec F S96x1024 .f32), BitVec 32) → Prog (TpuEff nD τ sig (Elt F) Λ₀ .tc) α} :
    iprop(Ctx I K ∗ St I c 12 1 ∗ accB 0 2 c (V0 I c) ∗ accB 0 6 c (V0 I c))
      ⊢ iprop((∀ w0 : BitVec 32, St I c 12 2 -∗ accB 0 2 c (V1 I 0 c) -∗ accB 0 6 c (V0 I c) -∗ WP (F := F) c (k (⟨(k0_pay5 (blk 96 (V0 I c) (row 0 6 c))), w0⟩ : (Σ' (v278 : FVec F S96x1024 .f32), BitVec 32))) Q)
        -∗ WP (F := F) c (k0_part10 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay3 (blk 96 (V0 I c) (row 0 2 c))) >>= k) Q) := by
  rw [k0_part10_eq_skeleton]; unfold k0_part10_skel
  simp only [Prog.lift, Prog.bind_op, Prog.bind_ret, Prog.pure_eq_ret]
  iintro ⟨#HC, HS, A02, A06⟩ Hk
  iapply (wait_arr I K c 12 1 1 96 rfl rfl (by decide) rfl rfl rfl) $$ [HS]
  · isplitr; · iexact HC
    iexact HS
  iintro HS
  iapply (load_rcv I c (h := 96) 12 2 1 0 2 (V0 I (pt 1 c)) (by decide) (by decide) rfl rfl rfl rfl rfl) $$ HS
  iintro HS
  iapply (load_acc c (h := 96) 0 2 (V0 I c) rfl (o3_2 c)) $$ A02
  iintro A02
  iapply (store_acc c (h := 96) 0 2 (V0 I c) (V1 I 0 c) rfl (o3_2 c) (by simp only [k0_pay3, k0_pay4, cast_blk3, cast_blk, wid_blk, rnd_blk, add_blk]; rfl)) $$ A02
  iintro A02
  iapply (load_acc c (h := 96) 0 6 (V0 I c) rfl (o3_6 c)) $$ A06
  iintro A06
  iapply Hk $$ HS A02 A06

theorem part11 (v5 : BitVec 32) (v286 : BitVec 32) {k : (BitVec 32) → Prog (TpuEff nD τ sig (Elt F) Λ₀ .tc) α} :
    iprop(Ctx I K ∗ St I c 12 2 ∗ accB 0 6 c (V0 I c))
      ⊢ iprop((∀ w0 : BitVec 32, St I c 12 4 -∗ accB 0 6 c (V1 I 0 c) -∗ WP (F := F) c (k (w0 : (BitVec 32))) Q)
        -∗ WP (F := F) c (k0_part11 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay5 (blk 96 (V0 I c) (row 0 6 c))) v286 >>= k) Q) := by
  rw [k0_part11_eq_skeleton]; unfold k0_part11_skel
  simp only [Prog.lift, Prog.bind_op, Prog.bind_ret, Prog.pure_eq_ret]
  iintro ⟨#HC, HS, A06⟩ Hk
  iapply (wait_dep I K c 12 2 3 96 rfl rfl (by decide) (by decide) rfl rfl) $$ [HS]
  · isplitr; · iexact HC
    iexact HS
  iintro HS
  iapply (wait_arr I K c 12 3 3 96 rfl rfl (by decide) rfl rfl rfl) $$ [HS]
  · isplitr; · iexact HC
    iexact HS
  iintro HS
  iapply (load_rcv I c (h := 96) 12 4 3 0 6 (V0 I (pt 1 c)) (by decide) (by decide) rfl rfl rfl rfl rfl) $$ HS
  iintro HS
  iapply (load_acc c (h := 96) 0 6 (V0 I c) rfl (o3_6 c)) $$ A06
  iintro A06
  iapply (store_acc c (h := 96) 0 6 (V0 I c) (V1 I 0 c) rfl (o3_6 c) (by simp only [k0_pay5, k0_pay6, cast_blk3, cast_blk, wid_blk, rnd_blk, add_blk]; rfl)) $$ A06
  iintro A06
  iapply Hk $$ HS A06

theorem part12 (v5 : BitVec 32) (v318 : BitVec 32) {k : (PUnit) → Prog (TpuEff nD τ sig (Elt F) Λ₀ .tc) α} :
    iprop(Ctx I K ∗ St I c 12 4 ∗ accB 0 6 c (V1 I 0 c) ∗ accB 0 2 c (V1 I 0 c))
      ⊢ iprop((St I c 14 4 -∗ WP (F := F) c (k (PUnit.unit : (PUnit))) Q)
        -∗ WP (F := F) c (k0_part12 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v318 >>= k) Q) := by
  rw [k0_part12_eq_skeleton]; unfold k0_part12_skel
  simp only [Prog.lift, Prog.bind_op, Prog.bind_ret, Prog.pure_eq_ret]
  iintro ⟨#HC, HS, A06, A02⟩ Hk
  iapply (send_rs I K c 5 12 4 96 (by decide) rfl rfl (p := 0) (e := 6) (V1 I 0 c) rfl rfl rfl (by decide) (by decide) (o1_2_4 c) (devX5 c) rfl rfl rfl) $$ [HS A06]
  · isplitr; · iexact HC
    isplitl [HS]; · iexact HS
    iexact A06
  iintro HS
  iapply (send_rs I K c 4 13 4 96 (by decide) rfl rfl (p := 0) (e := 2) (V1 I 0 c) rfl rfl rfl (by decide) (by decide) (o1_2_0 c) (devX4 c) rfl rfl rfl) $$ [HS A02]
  · isplitr; · iexact HC
    isplitl [HS]; · iexact HS
    iexact A02
  iintro HS
  iapply Hk $$ HS

end Cube

end
-- ==== Proof.Parts2.lean ====
/-
# The second round of sends
-/
module

public import proofs.«01_k».proof.Proof.Vals

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

theorem part13 (v5 : BitVec 32) {k : (Σ' (v375 : FVec F S80x1024 .bf16), BitVec 32) → Prog (TpuEff nD τ sig (Elt F) Λ₀ .tc) α} :
    iprop(Ctx I K ∗ St I c 14 4 ∗ accB 1 4 c (V0 I c))
      ⊢ iprop((∀ w0 : BitVec 32, St I c 14 6 -∗ accB 1 4 c (V0 I c) -∗ WP (F := F) c (k (⟨(k0_pay7 (blk 80 (V0 I c) (row 1 4 c)) (blk3 80 (V0 I (pt 2 c)) (row 1 4 c))), w0⟩ : (Σ' (v375 : FVec F S80x1024 .bf16), BitVec 32))) Q)
        -∗ WP (F := F) c (k0_part13 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part13_eq_skeleton]; unfold k0_part13_skel
  simp only [Prog.lift, Prog.bind_op, Prog.bind_ret, Prog.pure_eq_ret]
  iintro ⟨#HC, HS, A14⟩ Hk
  iapply (load_acc c (h := 80) 1 4 (V0 I c) rfl (o4_4_96 c)) $$ A14
  iintro A14
  iapply (wait_dep I K c 14 4 8 80 rfl rfl (by decide) (by decide) rfl rfl) $$ [HS]
  · isplitr; · iexact HC
    iexact HS
  iintro HS
  iapply (wait_arr I K c 14 5 8 80 rfl rfl (by decide) rfl rfl rfl) $$ [HS]
  · isplitr; · iexact HC
    iexact HS
  iintro HS
  iapply (load_rcv I c (h := 80) 14 6 8 1 4 (V0 I (pt 2 c)) (by decide) (by decide) rfl rfl rfl rfl rfl) $$ HS
  iintro HS
  iapply Hk $$ HS A14

theorem part14 (v5 : BitVec 32) (v376 : BitVec 32) {k : (FVec F S80x1024 .f32) → Prog (TpuEff nD τ sig (Elt F) Λ₀ .tc) α} :
    iprop(Ctx I K ∗ St I c 14 6 ∗ accB 1 4 c (V0 I c) ∗ accB 1 5 c (V0 I c))
      ⊢ iprop((St I c 14 7 -∗ accB 1 4 c (V1 I 1 c) -∗ accB 1 5 c (V0 I c) -∗ WP (F := F) c (k ((k0_pay9 (blk 80 (V0 I c) (row 1 5 c))) : (FVec F S80x1024 .f32))) Q)
        -∗ WP (F := F) c (k0_part14 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay7 (blk 80 (V0 I c) (row 1 4 c)) (blk3 80 (V0 I (pt 2 c)) (row 1 4 c))) v376 >>= k) Q) := by
  rw [k0_part14_eq_skeleton]; unfold k0_part14_skel
  simp only [Prog.lift, Prog.bind_op, Prog.bind_ret, Prog.pure_eq_ret]
  iintro ⟨#HC, HS, A14, A15⟩ Hk
  iapply (load_acc c (h := 80) 1 4 (V0 I c) rfl (o4_4_96 c)) $$ A14
  iintro A14
  iapply (store_acc c (h := 80) 1 4 (V0 I c) (V1 I 1 c) rfl (o4_4_96 c) (by simp only [k0_pay7, k0_pay8, cast_blk3, cast_blk, wid_blk, rnd_blk, add_blk]; rfl)) $$ A14
  iintro A14
  iapply (load_acc c (h := 80) 1 5 (V0 I c) rfl (o4_5_96 c)) $$ A15
  iintro A15
  iapply (wait_dep I K c 14 6 10 80 rfl rfl (by decide) (by decide) rfl rfl) $$ [HS]
  · isplitr; · iexact HC
    iexact HS
  iintro HS
  iapply Hk $$ HS A14 A15

theorem part15 (v5 : BitVec 32) {k : (PUnit) → Prog (TpuEff nD τ sig (Elt F) Λ₀ .tc) α} :
    iprop(Ctx I K ∗ St I c 14 7 ∗ accB 1 5 c (V0 I c))
      ⊢ iprop((St I c 14 8 -∗ accB 1 5 c (V1 I 1 c) -∗ WP (F := F) c (k (PUnit.unit : (PUnit))) Q)
        -∗ WP (F := F) c (k0_part15 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay9 (blk 80 (V0 I c) (row 1 5 c))) >>= k) Q) := by
  rw [k0_part15_eq_skeleton]; unfold k0_part15_skel
  simp only [Prog.lift, Prog.bind_op, Prog.bind_ret, Prog.pure_eq_ret]
  iintro ⟨#HC, HS, A15⟩ Hk
  iapply (wait_arr I K c 14 7 10 80 rfl rfl (by decide) rfl rfl rfl) $$ [HS]
  · isplitr; · iexact HC
    iexact HS
  iintro HS
  iapply (load_rcv I c (h := 80) 14 8 10 1 5 (V0 I (pt 2 c)) (by decide) (by decide) rfl rfl rfl rfl rfl) $$ HS
  iintro HS
  iapply (load_acc c (h := 80) 1 5 (V0 I c) rfl (o4_5_96 c)) $$ A15
  iintro A15
  iapply (store_acc c (h := 80) 1 5 (V0 I c) (V1 I 1 c) rfl (o4_5_96 c) (by simp only [k0_pay10, k0_pay9, cast_blk3, cast_blk, wid_blk, rnd_blk, add_blk]; rfl)) $$ A15
  iintro A15
  iapply Hk $$ HS A15

theorem part16 (v5 : BitVec 32) {k : (Σ' (v460 : FVec F S80x1024 .f32) (v465 : BitVec 32), BitVec 32) → Prog (TpuEff nD τ sig (Elt F) Λ₀ .tc) α} :
    iprop(Ctx I K ∗ St I c 14 8 ∗ accB 1 5 c (V1 I 1 c) ∗ accB 1 4 c (V1 I 1 c) ∗ accB 2 1 c (V0 I c))
      ⊢ iprop((∀ w0 : BitVec 32, ∀ w1 : BitVec 32, St I c 16 8 -∗ accB 2 1 c (V0 I c) -∗ WP (F := F) c (k (⟨(k0_pay11 (blk 80 (V0 I c) (row 2 1 c))), w0, w1⟩ : (Σ' (v460 : FVec F S80x1024 .f32) (v465 : BitVec 32), BitVec 32))) Q)
        -∗ WP (F := F) c (k0_part16 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part16_eq_skeleton]; unfold k0_part16_skel
  simp only [Prog.lift, Prog.bind_op, Prog.bind_ret, Prog.pure_eq_ret]
  iintro ⟨#HC, HS, A15, A14, A21⟩ Hk
  iapply (send_rs I K c 12 14 8 80 (by decide) rfl rfl (p := 1) (e := 5) (V1 I 1 c) rfl rfl rfl (by decide) (by decide) (o2_4_1_96 c) (devX12 c) rfl rfl rfl) $$ [HS A15]
  · isplitr; · iexact HC
    isplitl [HS]; · iexact HS
    iexact A15
  iintro HS
  iapply (send_rs I K c 11 15 8 80 (by decide) rfl rfl (p := 1) (e := 4) (V1 I 1 c) rfl rfl rfl (by decide) (by decide) (o2_4_0_96 c) (devX11 c) rfl rfl rfl) $$ [HS A14]
  · isplitr; · iexact HC
    isplitl [HS]; · iexact HS
    iexact A14
  iintro HS
  iapply (load_acc c (h := 80) 2 1 (V0 I c) rfl (o4_1_176 c)) $$ A21
  iintro A21
  iapply Hk $$ HS A21

theorem part17 (v5 : BitVec 32) (v465 : BitVec 32) (v466 : BitVec 32) {k : (BitVec 32) → Prog (TpuEff nD τ sig (Elt F) Λ₀ .tc) α} :
    iprop(Ctx I K ∗ St I c 16 8 ∗ accB 2 1 c (V0 I c))
      ⊢ iprop((∀ w0 : BitVec 32, St I c 16 10 -∗ accB 2 1 c (V1 I 2 c) -∗ WP (F := F) c (k (w0 : (BitVec 32))) Q)
        -∗ WP (F := F) c (k0_part17 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay11 (blk 80 (V0 I c) (row 2 1 c))) v465 v466 >>= k) Q) := by
  rw [k0_part17_eq_skeleton]; unfold k0_part17_skel
  simp only [Prog.lift, Prog.bind_op, Prog.bind_ret, Prog.pure_eq_ret]
  iintro ⟨#HC, HS, A21⟩ Hk
  iapply (wait_dep I K c 16 8 15 80 rfl rfl (by decide) (by decide) rfl rfl) $$ [HS]
  · isplitr; · iexact HC
    iexact HS
  iintro HS
  iapply (wait_arr I K c 16 9 15 80 rfl rfl (by decide) rfl rfl rfl) $$ [HS]
  · isplitr; · iexact HC
    iexact HS
  iintro HS
  iapply (load_rcv I c (h := 80) 16 10 15 2 1 (V0 I (pt 4 c)) (by decide) (by decide) rfl rfl rfl rfl rfl) $$ HS
  iintro HS
  iapply (load_acc c (h := 80) 2 1 (V0 I c) rfl (o4_1_176 c)) $$ A21
  iintro A21
  iapply (store_acc c (h := 80) 2 1 (V0 I c) (V1 I 2 c) rfl (o4_1_176 c) (by simp only [k0_pay11, k0_pay12, cast_blk3, cast_blk, wid_blk, rnd_blk, add_blk]; rfl)) $$ A21
  iintro A21
  iapply Hk $$ HS A21

theorem part18 (v5 : BitVec 32) (v494 : BitVec 32) {k : (Σ' (v498 : FVec F S80x1024 .f32), FVec F S80x1024 .f32) → Prog (TpuEff nD τ sig (Elt F) Λ₀ .tc) α} :
    iprop(Ctx I K ∗ St I c 16 10 ∗ accB 2 3 c (V0 I c))
      ⊢ iprop((St I c 16 12 -∗ accB 2 3 c (V0 I c) -∗ WP (F := F) c (k (⟨(k0_pay13 (blk 80 (V0 I c) (row 2 3 c))), (k0_pay14 (blk3 80 (V0 I (pt 4 c)) (row 2 3 c)))⟩ : (Σ' (v498 : FVec F S80x1024 .f32), FVec F S80x1024 .f32))) Q)
        -∗ WP (F := F) c (k0_part18 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v494 >>= k) Q) := by
  rw [k0_part18_eq_skeleton]; unfold k0_part18_skel
  simp only [Prog.lift, Prog.bind_op, Prog.bind_ret, Prog.pure_eq_ret]
  iintro ⟨#HC, HS, A23⟩ Hk
  iapply (load_acc c (h := 80) 2 3 (V0 I c) rfl (o4_3_176 c)) $$ A23
  iintro A23
  iapply (wait_dep I K c 16 10 17 80 rfl rfl (by decide) (by decide) rfl rfl) $$ [HS]
  · isplitr; · iexact HC
    iexact HS
  iintro HS
  iapply (wait_arr I K c 16 11 17 80 rfl rfl (by decide) rfl rfl rfl) $$ [HS]
  · isplitr; · iexact HC
    iexact HS
  iintro HS
  iapply (load_rcv I c (h := 80) 16 12 17 2 3 (V0 I (pt 4 c)) (by decide) (by decide) rfl rfl rfl rfl rfl) $$ HS
  iintro HS
  iapply Hk $$ HS A23

theorem part19 (v5 : BitVec 32) {k : (Σ' (v552 : BitVec 32), BitVec 32) → Prog (TpuEff nD τ sig (Elt F) Λ₀ .tc) α} :
    iprop(Ctx I K ∗ St I c 16 12 ∗ accB 2 3 c (V0 I c))
      ⊢ iprop((∀ w0 : BitVec 32, ∀ w1 : BitVec 32, St I c 17 12 -∗ WP (F := F) c (k (⟨w0, w1⟩ : (Σ' (v552 : BitVec 32), BitVec 32))) Q)
        -∗ WP (F := F) c (k0_part19 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay13 (blk 80 (V0 I c) (row 2 3 c))) (k0_pay14 (blk3 80 (V0 I (pt 4 c)) (row 2 3 c))) >>= k) Q) := by
  rw [k0_part19_eq_skeleton]; unfold k0_part19_skel
  simp only [Prog.lift, Prog.bind_op, Prog.bind_ret, Prog.pure_eq_ret]
  iintro ⟨#HC, HS, A23⟩ Hk
  iapply (load_acc c (h := 80) 2 3 (V0 I c) rfl (o4_3_176 c)) $$ A23
  iintro A23
  iapply (store_acc c (h := 80) 2 3 (V0 I c) (V1 I 2 c) rfl (o4_3_176 c) (by simp only [k0_pay13, k0_pay14, k0_pay15, cast_blk3, cast_blk, wid_blk, rnd_blk, add_blk]; rfl)) $$ A23
  iintro A23
  iapply (send_rs I K c 19 16 12 80 (by decide) rfl rfl (p := 2) (e := 3) (V1 I 2 c) rfl rfl rfl (by decide) (by decide) (o2_1_2_176 c) (devX19 c) rfl rfl rfl) $$ [HS A23]
  · isplitr; · iexact HC
    isplitl [HS]; · iexact HS
    iexact A23
  iintro HS
  iapply Hk $$ HS

theorem part20 (v5 : BitVec 32) (v552 : BitVec 32) (c1_i32_527 : BitVec 32) {k : (Σ' (v570 : FVec F S96x1024 .f32), BitVec 32) → Prog (TpuEff nD τ sig (Elt F) Λ₀ .tc) α} :
    iprop(Ctx I K ∗ St I c 17 12 ∗ accB 2 1 c (V1 I 2 c) ∗ accB 0 4 c (V0 I c))
      ⊢ iprop((∀ w0 : BitVec 32, St I c 18 12 -∗ accB 0 4 c (V0 I c) -∗ WP (F := F) c (k (⟨(k0_pay16 (blk 96 (V0 I c) (row 0 4 c))), w0⟩ : (Σ' (v570 : FVec F S96x1024 .f32), BitVec 32))) Q)
        -∗ WP (F := F) c (k0_part20 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v552 c1_i32_527 >>= k) Q) := by
  rw [k0_part20_eq_skeleton]; unfold k0_part20_skel
  simp only [Prog.lift, Prog.bind_op, Prog.bind_ret, Prog.pure_eq_ret]
  iintro ⟨#HC, HS, A21, A04⟩ Hk
  iapply (send_rs I K c 18 17 12 80 (by decide) rfl rfl (p := 2) (e := 1) (V1 I 2 c) rfl rfl rfl (by decide) (by decide) (o2_1_0_176 c) (devX18 c) rfl rfl rfl) $$ [HS A21]
  · isplitr; · iexact HC
    isplitl [HS]; · iexact HS
    iexact A21
  iintro HS
  iapply (load_acc c (h := 96) 0 4 (V0 I c) rfl (o3_4 c)) $$ A04
  iintro A04
  iapply Hk $$ HS A04

theorem part21 (v5 : BitVec 32) (v578 : BitVec 32) {k : (Σ' (v594 : FVec F S96x1024 .f32), BitVec 32) → Prog (TpuEff nD τ sig (Elt F) Λ₀ .tc) α} :
    iprop(Ctx I K ∗ St I c 18 12)
      ⊢ iprop((∀ w0 : BitVec 32, St I c 18 15 -∗ WP (F := F) c (k (⟨(k0_pay17 (k0_pay16 (blk 96 (V0 I c) (row 0 4 c))) (blk3 96 (V0 I (pt 1 c)) (row 0 4 c))), w0⟩ : (Σ' (v594 : FVec F S96x1024 .f32), BitVec 32))) Q)
        -∗ WP (F := F) c (k0_part21 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay16 (blk 96 (V0 I c) (row 0 4 c))) v578 >>= k) Q) := by
  rw [k0_part21_eq_skeleton]; unfold k0_part21_skel
  simp only [Prog.lift, Prog.bind_op, Prog.bind_ret, Prog.pure_eq_ret]
  iintro ⟨#HC, HS⟩ Hk
  iapply (wait_dep I K c 18 12 2 96 rfl rfl (by decide) (by decide) rfl rfl) $$ [HS]
  · isplitr; · iexact HC
    iexact HS
  iintro HS
  iapply (wait_arr I K c 18 13 2 96 rfl rfl (by decide) rfl rfl rfl) $$ [HS]
  · isplitr; · iexact HC
    iexact HS
  iintro HS
  iapply (load_rcv I c (h := 96) 18 14 2 0 4 (V0 I (pt 1 c)) (by decide) (by decide) rfl rfl rfl rfl rfl) $$ HS
  iintro HS
  iapply (wait_dep I K c 18 14 5 96 rfl rfl (by decide) (by decide) rfl rfl) $$ [HS]
  · isplitr; · iexact HC
    iexact HS
  iintro HS
  iapply Hk $$ HS

theorem part22 (v5 : BitVec 32) (v602 : BitVec 32) {k : (Σ' (v635 : BitVec 32), BitVec 32) → Prog (TpuEff nD τ sig (Elt F) Λ₀ .tc) α} :
    iprop(Ctx I K ∗ St I c 18 15 ∗ accB 0 4 c (V0 I c))
      ⊢ iprop((∀ w0 : BitVec 32, ∀ w1 : BitVec 32, St I c 18 16 -∗ accB 0 4 c (V2 I 0 c) -∗ WP (F := F) c (k (⟨w0, w1⟩ : (Σ' (v635 : BitVec 32), BitVec 32))) Q)
        -∗ WP (F := F) c (k0_part22 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay17 (k0_pay16 (blk 96 (V0 I c) (row 0 4 c))) (blk3 96 (V0 I (pt 1 c)) (row 0 4 c))) v602 >>= k) Q) := by
  rw [k0_part22_eq_skeleton]; unfold k0_part22_skel
  simp only [Prog.lift, Prog.bind_op, Prog.bind_ret, Prog.pure_eq_ret]
  iintro ⟨#HC, HS, A04⟩ Hk
  iapply (wait_arr I K c 18 15 5 96 rfl rfl (by decide) rfl rfl rfl) $$ [HS]
  · isplitr; · iexact HC
    iexact HS
  iintro HS
  iapply (load_rcv I c (h := 96) 18 16 5 0 4 (V1 I 0 (pt 2 c)) (by decide) (by decide) rfl rfl rfl rfl rfl) $$ HS
  iintro HS
  iapply (load_acc c (h := 96) 0 4 (V0 I c) rfl (o3_4 c)) $$ A04
  iintro A04
  iapply (store_acc c (h := 96) 0 4 (V0 I c) (V2 I 0 c) rfl (o3_4 c) (by simp only [k0_pay16, k0_pay17, k0_pay18, cast_blk3, cast_blk, wid_blk, rnd_blk, add_blk]; rfl)) $$ A04
  iintro A04
  iapply Hk $$ HS A04

end Cube

end
-- ==== Proof.Parts3.lean ====
/-
# The third round and the weights
-/
module

public import proofs.«01_k».proof.Proof.Vals

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

theorem part23 (v5 : BitVec 32) (v635 : BitVec 32) (c0_i32_616 : BitVec 32) {k : (Σ' (v649 : FVec F S80x1024 .f32) (v663 : BitVec 32), BitVec 32) → Prog (TpuEff nD τ sig (Elt F) Λ₀ .tc) α} :
    iprop(Ctx I K ∗ St I c 18 16 ∗ accB 0 4 c (V2 I 0 c) ∗ accB 1 1 c (V0 I c))
      ⊢ iprop((∀ w0 : BitVec 32, ∀ w1 : BitVec 32, St I c 19 17 -∗ accB 1 1 c (V0 I c) -∗ WP (F := F) c (k (⟨(k0_pay19 (blk 80 (V0 I c) (row 1 1 c))), w0, w1⟩ : (Σ' (v649 : FVec F S80x1024 .f32) (v663 : BitVec 32), BitVec 32))) Q)
        -∗ WP (F := F) c (k0_part23 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v635 c0_i32_616 >>= k) Q) := by
  rw [k0_part23_eq_skeleton]; unfold k0_part23_skel
  simp only [Prog.lift, Prog.bind_op, Prog.bind_ret, Prog.pure_eq_ret]
  iintro ⟨#HC, HS, A04, A11⟩ Hk
  iapply (send_rs I K c 6 18 16 96 (by decide) rfl rfl (p := 0) (e := 4) (V2 I 0 c) rfl rfl rfl (by decide) (by decide) (o1_4_0 c) (devX6 c) rfl rfl rfl) $$ [HS A04]
  · isplitr; · iexact HC
    isplitl [HS]; · iexact HS
    iexact A04
  iintro HS
  iapply (load_acc c (h := 80) 1 1 (V0 I c) rfl (o4_1_96 c)) $$ A11
  iintro A11
  iapply (wait_dep I K c 19 16 9 80 rfl rfl (by decide) (by decide) rfl rfl) $$ [HS]
  · isplitr; · iexact HC
    iexact HS
  iintro HS
  iapply Hk $$ HS A11

theorem part24 (v5 : BitVec 32) (v663 : BitVec 32) (c0_i32_646 : BitVec 32) {k : (FVec F S80x1024 .f32) → Prog (TpuEff nD τ sig (Elt F) Λ₀ .tc) α} :
    iprop(Ctx I K ∗ St I c 19 17)
      ⊢ iprop((St I c 19 19 -∗ WP (F := F) c (k ((k0_pay20 (k0_pay19 (blk 80 (V0 I c) (row 1 1 c))) (blk3 80 (V0 I (pt 2 c)) (row 1 1 c))) : (FVec F S80x1024 .f32))) Q)
        -∗ WP (F := F) c (k0_part24 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay19 (blk 80 (V0 I c) (row 1 1 c))) v663 c0_i32_646 >>= k) Q) := by
  rw [k0_part24_eq_skeleton]; unfold k0_part24_skel
  simp only [Prog.lift, Prog.bind_op, Prog.bind_ret, Prog.pure_eq_ret]
  iintro ⟨#HC, HS⟩ Hk
  iapply (wait_arr I K c 19 17 9 80 rfl rfl (by decide) rfl rfl rfl) $$ [HS]
  · isplitr; · iexact HC
    iexact HS
  iintro HS
  iapply (load_rcv I c (h := 80) 19 18 9 1 1 (V0 I (pt 2 c)) (by decide) (by decide) rfl rfl rfl rfl rfl) $$ HS
  iintro HS
  iapply (wait_dep I K c 19 18 12 80 rfl rfl (by decide) (by decide) rfl rfl) $$ [HS]
  · isplitr; · iexact HC
    iexact HS
  iintro HS
  iapply Hk $$ HS

theorem part25 (v5 : BitVec 32) {k : (PUnit) → Prog (TpuEff nD τ sig (Elt F) Λ₀ .tc) α} :
    iprop(Ctx I K ∗ St I c 19 19 ∗ accB 1 1 c (V0 I c))
      ⊢ iprop((St I c 20 20 -∗ WP (F := F) c (k (PUnit.unit : (PUnit))) Q)
        -∗ WP (F := F) c (k0_part25 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay20 (k0_pay19 (blk 80 (V0 I c) (row 1 1 c))) (blk3 80 (V0 I (pt 2 c)) (row 1 1 c))) >>= k) Q) := by
  rw [k0_part25_eq_skeleton]; unfold k0_part25_skel
  simp only [Prog.lift, Prog.bind_op, Prog.bind_ret, Prog.pure_eq_ret]
  iintro ⟨#HC, HS, A11⟩ Hk
  iapply (wait_arr I K c 19 19 12 80 rfl rfl (by decide) rfl rfl rfl) $$ [HS]
  · isplitr; · iexact HC
    iexact HS
  iintro HS
  iapply (load_rcv I c (h := 80) 19 20 12 1 1 (V1 I 1 (pt 4 c)) (by decide) (by decide) rfl rfl rfl rfl rfl) $$ HS
  iintro HS
  iapply (load_acc c (h := 80) 1 1 (V0 I c) rfl (o4_1_96 c)) $$ A11
  iintro A11
  iapply (store_acc c (h := 80) 1 1 (V0 I c) (V2 I 1 c) rfl (o4_1_96 c) (by simp only [k0_pay19, k0_pay20, k0_pay21, cast_blk3, cast_blk, wid_blk, rnd_blk, add_blk]; rfl)) $$ A11
  iintro A11
  iapply (send_rs I K c 13 19 20 80 (by decide) rfl rfl (p := 1) (e := 1) (V2 I 1 c) rfl rfl rfl (by decide) (by decide) (o2_1_0_96 c) (devX13 c) rfl rfl rfl) $$ [HS A11]
  · isplitr; · iexact HC
    isplitl [HS]; · iexact HS
    iexact A11
  iintro HS
  iapply Hk $$ HS

theorem part26 (v5 : BitVec 32) {k : (FVec F S80x1024 .f32) → Prog (TpuEff nD τ sig (Elt F) Λ₀ .tc) α} :
    iprop(Ctx I K ∗ St I c 20 20 ∗ accB 2 2 c (V0 I c))
      ⊢ iprop((St I c 20 22 -∗ accB 2 2 c (V0 I c) -∗ WP (F := F) c (k ((k0_pay22 (blk 80 (V0 I c) (row 2 2 c))) : (FVec F S80x1024 .f32))) Q)
        -∗ WP (F := F) c (k0_part26 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part26_eq_skeleton]; unfold k0_part26_skel
  simp only [Prog.lift, Prog.bind_op, Prog.bind_ret, Prog.pure_eq_ret]
  iintro ⟨#HC, HS, A22⟩ Hk
  iapply (load_acc c (h := 80) 2 2 (V0 I c) rfl (o4_2_176 c)) $$ A22
  iintro A22
  iapply (wait_dep I K c 20 20 16 80 rfl rfl (by decide) (by decide) rfl rfl) $$ [HS]
  · isplitr; · iexact HC
    iexact HS
  iintro HS
  iapply (wait_arr I K c 20 21 16 80 rfl rfl (by decide) rfl rfl rfl) $$ [HS]
  · isplitr; · iexact HC
    iexact HS
  iintro HS
  iapply Hk $$ HS A22

theorem part27 (v5 : BitVec 32) {k : (FVec F S80x1024 .f32) → Prog (TpuEff nD τ sig (Elt F) Λ₀ .tc) α} :
    iprop(Ctx I K ∗ St I c 20 22)
      ⊢ iprop((St I c 20 24 -∗ WP (F := F) c (k ((k0_pay23 (k0_pay22 (blk 80 (V0 I c) (row 2 2 c))) (blk3 80 (V0 I (pt 4 c)) (row 2 2 c)) (blk3 80 (V1 I 2 (pt 1 c)) (row 2 2 c))) : (FVec F S80x1024 .f32))) Q)
        -∗ WP (F := F) c (k0_part27 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay22 (blk 80 (V0 I c) (row 2 2 c))) >>= k) Q) := by
  rw [k0_part27_eq_skeleton]; unfold k0_part27_skel
  simp only [Prog.lift, Prog.bind_op, Prog.bind_ret, Prog.pure_eq_ret]
  iintro ⟨#HC, HS⟩ Hk
  iapply (load_rcv I c (h := 80) 20 22 16 2 2 (V0 I (pt 4 c)) (by decide) (by decide) rfl rfl rfl rfl rfl) $$ HS
  iintro HS
  iapply (wait_dep I K c 20 22 19 80 rfl rfl (by decide) (by decide) rfl rfl) $$ [HS]
  · isplitr; · iexact HC
    iexact HS
  iintro HS
  iapply (wait_arr I K c 20 23 19 80 rfl rfl (by decide) rfl rfl rfl) $$ [HS]
  · isplitr; · iexact HC
    iexact HS
  iintro HS
  iapply (load_rcv I c (h := 80) 20 24 19 2 2 (V1 I 2 (pt 1 c)) (by decide) (by decide) rfl rfl rfl rfl rfl) $$ HS
  iintro HS
  iapply Hk $$ HS

theorem part28 (v5 : BitVec 32) (fb : Vec F S1024x1024 .bf16) {k : (BitVec 32) → Prog (TpuEff nD τ sig (Elt F) Λ₀ .tc) α} :
    iprop(Ctx I K ∗ St I c 20 24 ∗ accB 2 2 c (V0 I c) ∗ cred (tallyAt (wCell c) () NW) ∗ atPos ER (wCell c) 0 (∅ : Finset DD) 0 ∗ wbW c fb)
      ⊢ iprop((∀ w0 : BitVec 32, St I c 21 24 -∗ semVal (wCell c) 0 -∗ wVm c (I.W c) -∗ wHbm c (I.W c) -∗ wbW c (wb I c) -∗ WP (F := F) c (k (w0 : (BitVec 32))) Q)
        -∗ WP (F := F) c (k0_part28 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay23 (k0_pay22 (blk 80 (V0 I c) (row 2 2 c))) (blk3 80 (V0 I (pt 4 c)) (row 2 2 c)) (blk3 80 (V1 I 2 (pt 1 c)) (row 2 2 c))) >>= k) Q) := by
  rw [k0_part28_eq_skeleton]; unfold k0_part28_skel
  simp only [Prog.lift, Prog.bind_op, Prog.bind_ret, Prog.pure_eq_ret]
  iintro ⟨#HC, HS, A22, Hcr, Hat, Hwb⟩ Hk
  iapply (load_acc c (h := 80) 2 2 (V0 I c) rfl (o4_2_176 c)) $$ A22
  iintro A22
  iapply (store_acc c (h := 80) 2 2 (V0 I c) (V2 I 2 c) rfl (o4_2_176 c) (by simp only [k0_pay22, k0_pay23, k0_pay24, cast_blk3, cast_blk, wid_blk, rnd_blk, add_blk]; rfl)) $$ A22
  iintro A22
  iapply (send_rs I K c 20 20 24 80 (by decide) rfl rfl (p := 2) (e := 2) (V2 I 2 c) rfl rfl rfl (by decide) (by decide) (o2_2_0_176 c) (devX20 c) rfl rfl rfl) $$ [HS A22]
  · isplitr; · iexact HC
    isplitl [HS]; · iexact HS
    iexact A22
  iintro HS
  iapply (wait_w I K c 21 24 (by decide) rfl) $$ [HS Hcr Hat]
  · isplitr; · iexact HC
    isplitl [HS]; · iexact HS
    isplitl [Hcr]; · iexact Hcr
    iexact Hat
  iintro ⟨HS, Hz, Hwv, Hwh⟩
  iapply (load_w c (I.W c)) $$ Hwv
  iintro Hwv
  iapply (load_wb c fb) $$ Hwb
  iintro Hwb
  iapply (store_wb c fb (k0_pay25 (I.W c))) $$ Hwb
  iintro Hwb
  ihave Hwb := (Entails.of_eq (show wbW c (k0_pay25 (I.W c)) = wbW c (wb I c) from congrArg (wbW c) (by simp only [k0_pay25]; exact cast_blk 1024 _ _))) $$ Hwb
  iapply Hk $$ HS Hz Hwv Hwh Hwb

end Cube

end
-- ==== Proof.Parts4.lean ====
/-
# The sums and the product
-/
module

public import proofs.«01_k».proof.Proof.Vals

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

theorem part29 (v5 : BitVec 32) (c256_i32_790 : BitVec 32) {k : (Σ' (v811 : FVec F S96x1024 .f32), FVec F S96x1024 .bf16) → Prog (TpuEff nD τ sig (Elt F) Λ₀ .tc) α} :
    iprop(Ctx I K ∗ St I c 21 24 ∗ accB 0 0 c (V0 I c))
      ⊢ iprop((St I c 21 26 -∗ accB 0 0 c (V0 I c) -∗ WP (F := F) c (k (⟨(k0_pay26 (blk 96 (V0 I c) (row 0 0 c))), (k0_pay27 (blk3 96 (V0 I (pt 1 c)) (row 0 0 c)))⟩ : (Σ' (v811 : FVec F S96x1024 .f32), FVec F S96x1024 .bf16))) Q)
        -∗ WP (F := F) c (k0_part29 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 c256_i32_790 >>= k) Q) := by
  rw [k0_part29_eq_skeleton]; unfold k0_part29_skel
  simp only [Prog.lift, Prog.bind_op, Prog.bind_ret, Prog.pure_eq_ret]
  iintro ⟨#HC, HS, A00⟩ Hk
  iapply (load_acc c (h := 96) 0 0 (V0 I c) rfl (o5 c)) $$ A00
  iintro A00
  iapply (wait_dep I K c 21 24 0 96 rfl rfl (by decide) (by decide) rfl rfl) $$ [HS]
  · isplitr; · iexact HC
    iexact HS
  iintro HS
  iapply (wait_arr I K c 21 25 0 96 rfl rfl (by decide) rfl rfl rfl) $$ [HS]
  · isplitr; · iexact HC
    iexact HS
  iintro HS
  iapply (load_rcv I c (h := 96) 21 26 0 0 0 (V0 I (pt 1 c)) (by decide) (by decide) rfl rfl rfl rfl rfl) $$ HS
  iintro HS
  iapply Hk $$ HS A00

theorem part30 (v5 : BitVec 32) {k : (Σ' (v859 : FVec F S96x1024 .f32) (v860 : BitVec 32), BitVec 32) → Prog (TpuEff nD τ sig (Elt F) Λ₀ .tc) α} :
    iprop(Ctx I K ∗ St I c 21 26)
      ⊢ iprop((∀ w0 : BitVec 32, ∀ w1 : BitVec 32, St I c 21 28 -∗ WP (F := F) c (k (⟨(k0_pay28 (k0_pay26 (blk 96 (V0 I c) (row 0 0 c))) (k0_pay27 (blk3 96 (V0 I (pt 1 c)) (row 0 0 c))) (blk3 96 (V1 I 0 (pt 2 c)) (row 0 0 c))), w0, w1⟩ : (Σ' (v859 : FVec F S96x1024 .f32) (v860 : BitVec 32), BitVec 32))) Q)
        -∗ WP (F := F) c (k0_part30 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay26 (blk 96 (V0 I c) (row 0 0 c))) (k0_pay27 (blk3 96 (V0 I (pt 1 c)) (row 0 0 c))) >>= k) Q) := by
  rw [k0_part30_eq_skeleton]; unfold k0_part30_skel
  simp only [Prog.lift, Prog.bind_op, Prog.bind_ret, Prog.pure_eq_ret]
  iintro ⟨#HC, HS⟩ Hk
  iapply (wait_dep I K c 21 26 4 96 rfl rfl (by decide) (by decide) rfl rfl) $$ [HS]
  · isplitr; · iexact HC
    iexact HS
  iintro HS
  iapply (wait_arr I K c 21 27 4 96 rfl rfl (by decide) rfl rfl rfl) $$ [HS]
  · isplitr; · iexact HC
    iexact HS
  iintro HS
  iapply (load_rcv I c (h := 96) 21 28 4 0 0 (V1 I 0 (pt 2 c)) (by decide) (by decide) rfl rfl rfl rfl rfl) $$ HS
  iintro HS
  iapply Hk $$ HS

theorem part31 (v5 : BitVec 32) (v860 : BitVec 32) (c0_i32_851 : BitVec 32) {k : (Σ' (v887 : FVec F S96x1024 .bf16), BitVec 32) → Prog (TpuEff nD τ sig (Elt F) Λ₀ .tc) α} :
    iprop(Ctx I K ∗ St I c 21 28 ∗ wbW c (wb I c))
      ⊢ iprop((∀ w0 : BitVec 32, St I c 21 30 -∗ wbW c (wb I c) -∗ WP (F := F) c (k (⟨(k0_pay29 (k0_pay28 (k0_pay26 (blk 96 (V0 I c) (row 0 0 c))) (k0_pay27 (blk3 96 (V0 I (pt 1 c)) (row 0 0 c))) (blk3 96 (V1 I 0 (pt 2 c)) (row 0 0 c))) (blk3 96 (V2 I 0 (pt 4 c)) (row 0 0 c)) (wb I c)), w0⟩ : (Σ' (v887 : FVec F S96x1024 .bf16), BitVec 32))) Q)
        -∗ WP (F := F) c (k0_part31 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay28 (k0_pay26 (blk 96 (V0 I c) (row 0 0 c))) (k0_pay27 (blk3 96 (V0 I (pt 1 c)) (row 0 0 c))) (blk3 96 (V1 I 0 (pt 2 c)) (row 0 0 c))) v860 c0_i32_851 >>= k) Q) := by
  rw [k0_part31_eq_skeleton]; unfold k0_part31_skel
  simp only [Prog.lift, Prog.bind_op, Prog.bind_ret, Prog.pure_eq_ret]
  iintro ⟨#HC, HS, Hwb⟩ Hk
  iapply (wait_dep I K c 21 28 6 96 rfl rfl (by decide) (by decide) rfl rfl) $$ [HS]
  · isplitr; · iexact HC
    iexact HS
  iintro HS
  iapply (wait_arr I K c 21 29 6 96 rfl rfl (by decide) rfl rfl rfl) $$ [HS]
  · isplitr; · iexact HC
    iexact HS
  iintro HS
  iapply (load_rcv I c (h := 96) 21 30 6 0 0 (V2 I 0 (pt 4 c)) (by decide) (by decide) rfl rfl rfl rfl rfl) $$ HS
  iintro HS
  iapply (load_wb c (wb I c)) $$ Hwb
  iintro Hwb
  iapply Hk $$ HS Hwb

theorem part32 (v5 : BitVec 32) (c256_i32_880 : BitVec 32) (g0 : Vec F S2048x1024 .bf16) {k : (PUnit) → Prog (TpuEff nD τ sig (Elt F) Λ₀ .tc) α} :
    iprop(Ctx I K ∗ St I c 21 30 ∗ outB 0 0 c fullShare g0)
      ⊢ iprop((St I c 22 30 -∗ outB 0 0 c fullShare.right.left (OUT I) -∗ outB 0 0 c fullShare.right.right (OUT I) -∗ WP (F := F) c (k (PUnit.unit : (PUnit))) Q)
        -∗ WP (F := F) c (k0_part32 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay29 (k0_pay28 (k0_pay26 (blk 96 (V0 I c) (row 0 0 c))) (k0_pay27 (blk3 96 (V0 I (pt 1 c)) (row 0 0 c))) (blk3 96 (V1 I 0 (pt 2 c)) (row 0 0 c))) (blk3 96 (V2 I 0 (pt 4 c)) (row 0 0 c)) (wb I c)) c256_i32_880 >>= k) Q) := by
  rw [k0_part32_eq_skeleton]; unfold k0_part32_skel
  simp only [Prog.lift, Prog.bind_op, Prog.bind_ret, Prog.pure_eq_ret]
  iintro ⟨#HC, HS, B00⟩ Hk
  iapply (load_out c (h := 96) 0 0 g0 rfl (o5 c)) $$ B00
  iintro B00
  iapply (store_out c (h := 96) 0 0 g0 (OUT I) rfl (o5 c) (by rw [OUT_blk0]; simp only [k0_pay26, k0_pay27, k0_pay28, k0_pay29, cast_blk3, cast_blk, wid_blk, rnd_blk, add_blk]; rfl)) $$ B00
  iintro B00
  icases (out_three c 0 0 (OUT I)) $$ B00 with ⟨B00l, B00m, B00n⟩
  iapply (send_ag I K c 21 21 30 96 (by decide) rfl rfl (p := 0) (e := 0) (q := fullShare.left) rfl rfl rfl (by decide) (by decide) (o6_0 c) (devX21 c) rfl rfl) $$ [HS B00l]
  · isplitr; · iexact HC
    isplitl [HS]; · iexact HS
    iexact B00l
  iintro HS
  iapply Hk $$ HS B00m B00n

theorem part33 (v5 : BitVec 32) {k : (Σ' (v941 : FVec F S80x1024 .f32), BitVec 32) → Prog (TpuEff nD τ sig (Elt F) Λ₀ .tc) α} :
    iprop(Ctx I K ∗ St I c 22 30 ∗ outB 0 0 c fullShare.right.left (OUT I) ∗ outB 0 0 c fullShare.right.right (OUT I) ∗ accB 1 0 c (V0 I c))
      ⊢ iprop((∀ w0 : BitVec 32, St I c 24 30 -∗ accB 1 0 c (V0 I c) -∗ WP (F := F) c (k (⟨(k0_pay30 (blk 80 (V0 I c) (row 1 0 c))), w0⟩ : (Σ' (v941 : FVec F S80x1024 .f32), BitVec 32))) Q)
        -∗ WP (F := F) c (k0_part33 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part33_eq_skeleton]; unfold k0_part33_skel
  simp only [Prog.lift, Prog.bind_op, Prog.bind_ret, Prog.pure_eq_ret]
  iintro ⟨#HC, HS, B00m, B00n, A10⟩ Hk
  iapply (send_ag I K c 22 22 30 96 (by decide) rfl rfl (p := 0) (e := 0) (q := fullShare.right.left) rfl rfl rfl (by decide) (by decide) (o6_0 c) (devX22 c) rfl rfl) $$ [HS B00m]
  · isplitr; · iexact HC
    isplitl [HS]; · iexact HS
    iexact B00m
  iintro HS
  iapply (send_ag I K c 24 23 30 96 (by decide) rfl rfl (p := 0) (e := 0) (q := fullShare.right.right) rfl rfl rfl (by decide) (by decide) (o6_0 c) (devX24 c) rfl rfl) $$ [HS B00n]
  · isplitr; · iexact HC
    isplitl [HS]; · iexact HS
    iexact B00n
  iintro HS
  iapply (load_acc c (h := 80) 1 0 (V0 I c) rfl (o7_96 c)) $$ A10
  iintro A10
  iapply Hk $$ HS A10

theorem part34 (v5 : BitVec 32) (v949 : BitVec 32) {k : (Σ' (v965 : FVec F S80x1024 .f32), BitVec 32) → Prog (TpuEff nD τ sig (Elt F) Λ₀ .tc) α} :
    iprop(Ctx I K ∗ St I c 24 30)
      ⊢ iprop((∀ w0 : BitVec 32, St I c 24 32 -∗ WP (F := F) c (k (⟨(k0_pay31 (k0_pay30 (blk 80 (V0 I c) (row 1 0 c))) (blk3 80 (V0 I (pt 2 c)) (row 1 0 c))), w0⟩ : (Σ' (v965 : FVec F S80x1024 .f32), BitVec 32))) Q)
        -∗ WP (F := F) c (k0_part34 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay30 (blk 80 (V0 I c) (row 1 0 c))) v949 >>= k) Q) := by
  rw [k0_part34_eq_skeleton]; unfold k0_part34_skel
  simp only [Prog.lift, Prog.bind_op, Prog.bind_ret, Prog.pure_eq_ret]
  iintro ⟨#HC, HS⟩ Hk
  iapply (wait_dep I K c 24 30 7 80 rfl rfl (by decide) (by decide) rfl rfl) $$ [HS]
  · isplitr; · iexact HC
    iexact HS
  iintro HS
  iapply (wait_arr I K c 24 31 7 80 rfl rfl (by decide) rfl rfl rfl) $$ [HS]
  · isplitr; · iexact HC
    iexact HS
  iintro HS
  iapply (load_rcv I c (h := 80) 24 32 7 1 0 (V0 I (pt 2 c)) (by decide) (by decide) rfl rfl rfl rfl rfl) $$ HS
  iintro HS
  iapply Hk $$ HS

theorem part35 (v5 : BitVec 32) (v973 : BitVec 32) {k : (Σ' (v989 : FVec F S80x1024 .f32), BitVec 32) → Prog (TpuEff nD τ sig (Elt F) Λ₀ .tc) α} :
    iprop(Ctx I K ∗ St I c 24 32)
      ⊢ iprop((∀ w0 : BitVec 32, St I c 24 34 -∗ WP (F := F) c (k (⟨(k0_pay32 (k0_pay31 (k0_pay30 (blk 80 (V0 I c) (row 1 0 c))) (blk3 80 (V0 I (pt 2 c)) (row 1 0 c))) (blk3 80 (V1 I 1 (pt 4 c)) (row 1 0 c))), w0⟩ : (Σ' (v989 : FVec F S80x1024 .f32), BitVec 32))) Q)
        -∗ WP (F := F) c (k0_part35 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay31 (k0_pay30 (blk 80 (V0 I c) (row 1 0 c))) (blk3 80 (V0 I (pt 2 c)) (row 1 0 c))) v973 >>= k) Q) := by
  rw [k0_part35_eq_skeleton]; unfold k0_part35_skel
  simp only [Prog.lift, Prog.bind_op, Prog.bind_ret, Prog.pure_eq_ret]
  iintro ⟨#HC, HS⟩ Hk
  iapply (wait_dep I K c 24 32 11 80 rfl rfl (by decide) (by decide) rfl rfl) $$ [HS]
  · isplitr; · iexact HC
    iexact HS
  iintro HS
  iapply (wait_arr I K c 24 33 11 80 rfl rfl (by decide) rfl rfl rfl) $$ [HS]
  · isplitr; · iexact HC
    iexact HS
  iintro HS
  iapply (load_rcv I c (h := 80) 24 34 11 1 0 (V1 I 1 (pt 4 c)) (by decide) (by decide) rfl rfl rfl rfl rfl) $$ HS
  iintro HS
  iapply Hk $$ HS

theorem part36 (v5 : BitVec 32) (v997 : BitVec 32) (g0 : Vec F S2048x1024 .bf16) {k : (BitVec 32) → Prog (TpuEff nD τ sig (Elt F) Λ₀ .tc) α} :
    iprop(Ctx I K ∗ St I c 24 34 ∗ outB 1 0 c fullShare g0 ∗ wbW c (wb I c))
      ⊢ iprop((∀ w0 : BitVec 32, St I c 24 36 -∗ outB 1 0 c fullShare (OUT I) -∗ wbW c (wb I c) -∗ WP (F := F) c (k (w0 : (BitVec 32))) Q)
        -∗ WP (F := F) c (k0_part36 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay32 (k0_pay31 (k0_pay30 (blk 80 (V0 I c) (row 1 0 c))) (blk3 80 (V0 I (pt 2 c)) (row 1 0 c))) (blk3 80 (V1 I 1 (pt 4 c)) (row 1 0 c))) v997 >>= k) Q) := by
  rw [k0_part36_eq_skeleton]; unfold k0_part36_skel
  simp only [Prog.lift, Prog.bind_op, Prog.bind_ret, Prog.pure_eq_ret]
  iintro ⟨#HC, HS, B10, Hwb⟩ Hk
  iapply (wait_dep I K c 24 34 13 80 rfl rfl (by decide) (by decide) rfl rfl) $$ [HS]
  · isplitr; · iexact HC
    iexact HS
  iintro HS
  iapply (wait_arr I K c 24 35 13 80 rfl rfl (by decide) rfl rfl rfl) $$ [HS]
  · isplitr; · iexact HC
    iexact HS
  iintro HS
  iapply (load_rcv I c (h := 80) 24 36 13 1 0 (V2 I 1 (pt 1 c)) (by decide) (by decide) rfl rfl rfl rfl rfl) $$ HS
  iintro HS
  iapply (load_wb c (wb I c)) $$ Hwb
  iintro Hwb
  iapply (load_out c (h := 80) 1 0 g0 rfl (o7_96 c)) $$ B10
  iintro B10
  iapply (store_out c (h := 80) 1 0 g0 (OUT I) rfl (o7_96 c) (by rw [OUT_blk1]; simp only [k0_pay30, k0_pay31, k0_pay32, k0_pay33, cast_blk3, cast_blk, wid_blk, rnd_blk, add_blk]; rfl)) $$ B10
  iintro B10
  iapply Hk $$ HS B10 Hwb

end Cube

end
-- ==== Proof.Parts5.lean ====
/-
# The gather begins
-/
module

public import proofs.«01_k».proof.Proof.Vals

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

theorem part37 (v5 : BitVec 32) (v1028 : BitVec 32) {k : (BitVec 32) → Prog (TpuEff nD τ sig (Elt F) Λ₀ .tc) α} :
    iprop(Ctx I K ∗ St I c 24 36 ∗ outB 1 0 c fullShare (OUT I))
      ⊢ iprop((∀ w0 : BitVec 32, St I c 26 36 -∗ outB 1 0 c fullShare.right.right (OUT I) -∗ WP (F := F) c (k (w0 : (BitVec 32))) Q)
        -∗ WP (F := F) c (k0_part37 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1028 >>= k) Q) := by
  rw [k0_part37_eq_skeleton]; unfold k0_part37_skel
  simp only [Prog.lift, Prog.bind_op, Prog.bind_ret, Prog.pure_eq_ret]
  iintro ⟨#HC, HS, B10⟩ Hk
  icases (out_three c 1 0 (OUT I)) $$ B10 with ⟨B10l, B10m, B10n⟩
  iapply (send_ag I K c 28 24 36 80 (by decide) rfl rfl (p := 1) (e := 0) (q := fullShare.left) rfl rfl rfl (by decide) (by decide) (o8_0_96 c) (devX28 c) rfl rfl) $$ [HS B10l]
  · isplitr; · iexact HC
    isplitl [HS]; · iexact HS
    iexact B10l
  iintro HS
  iapply (send_ag I K c 29 25 36 80 (by decide) rfl rfl (p := 1) (e := 0) (q := fullShare.right.left) rfl rfl rfl (by decide) (by decide) (o8_0_96 c) (devX29 c) rfl rfl) $$ [HS B10m]
  · isplitr; · iexact HC
    isplitl [HS]; · iexact HS
    iexact B10m
  iintro HS
  iapply Hk $$ HS B10n

theorem part38 (v5 : BitVec 32) (v1058 : BitVec 32) {k : (Σ' (v1071 : FVec F S80x1024 .f32), BitVec 32) → Prog (TpuEff nD τ sig (Elt F) Λ₀ .tc) α} :
    iprop(Ctx I K ∗ St I c 26 36 ∗ outB 1 0 c fullShare.right.right (OUT I) ∗ accB 2 0 c (V0 I c))
      ⊢ iprop((∀ w0 : BitVec 32, St I c 27 37 -∗ accB 2 0 c (V0 I c) -∗ WP (F := F) c (k (⟨(k0_pay34 (blk 80 (V0 I c) (row 2 0 c))), w0⟩ : (Σ' (v1071 : FVec F S80x1024 .f32), BitVec 32))) Q)
        -∗ WP (F := F) c (k0_part38 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1058 >>= k) Q) := by
  rw [k0_part38_eq_skeleton]; unfold k0_part38_skel
  simp only [Prog.lift, Prog.bind_op, Prog.bind_ret, Prog.pure_eq_ret]
  iintro ⟨#HC, HS, B10n, A20⟩ Hk
  iapply (send_ag I K c 31 26 36 80 (by decide) rfl rfl (p := 1) (e := 0) (q := fullShare.right.right) rfl rfl rfl (by decide) (by decide) (o8_0_96 c) (devX31 c) rfl rfl) $$ [HS B10n]
  · isplitr; · iexact HC
    isplitl [HS]; · iexact HS
    iexact B10n
  iintro HS
  iapply (load_acc c (h := 80) 2 0 (V0 I c) rfl (o7_176 c)) $$ A20
  iintro A20
  iapply (wait_dep I K c 27 36 14 80 rfl rfl (by decide) (by decide) rfl rfl) $$ [HS]
  · isplitr; · iexact HC
    iexact HS
  iintro HS
  iapply Hk $$ HS A20

theorem part39 (v5 : BitVec 32) (v1085 : BitVec 32) {k : (FVec F S80x1024 .f32) → Prog (TpuEff nD τ sig (Elt F) Λ₀ .tc) α} :
    iprop(Ctx I K ∗ St I c 27 37)
      ⊢ iprop((St I c 27 39 -∗ WP (F := F) c (k ((k0_pay35 (k0_pay34 (blk 80 (V0 I c) (row 2 0 c))) (blk3 80 (V0 I (pt 4 c)) (row 2 0 c))) : (FVec F S80x1024 .f32))) Q)
        -∗ WP (F := F) c (k0_part39 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay34 (blk 80 (V0 I c) (row 2 0 c))) v1085 >>= k) Q) := by
  rw [k0_part39_eq_skeleton]; unfold k0_part39_skel
  simp only [Prog.lift, Prog.bind_op, Prog.bind_ret, Prog.pure_eq_ret]
  iintro ⟨#HC, HS⟩ Hk
  iapply (wait_arr I K c 27 37 14 80 rfl rfl (by decide) rfl rfl rfl) $$ [HS]
  · isplitr; · iexact HC
    iexact HS
  iintro HS
  iapply (load_rcv I c (h := 80) 27 38 14 2 0 (V0 I (pt 4 c)) (by decide) (by decide) rfl rfl rfl rfl rfl) $$ HS
  iintro HS
  iapply (wait_dep I K c 27 38 18 80 rfl rfl (by decide) (by decide) rfl rfl) $$ [HS]
  · isplitr; · iexact HC
    iexact HS
  iintro HS
  iapply Hk $$ HS

theorem part40 (v5 : BitVec 32) {k : (FVec F S80x1024 .f32) → Prog (TpuEff nD τ sig (Elt F) Λ₀ .tc) α} :
    iprop(Ctx I K ∗ St I c 27 39)
      ⊢ iprop((St I c 27 41 -∗ WP (F := F) c (k ((k0_pay36 (k0_pay35 (k0_pay34 (blk 80 (V0 I c) (row 2 0 c))) (blk3 80 (V0 I (pt 4 c)) (row 2 0 c))) (blk3 80 (V1 I 2 (pt 1 c)) (row 2 0 c))) : (FVec F S80x1024 .f32))) Q)
        -∗ WP (F := F) c (k0_part40 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay35 (k0_pay34 (blk 80 (V0 I c) (row 2 0 c))) (blk3 80 (V0 I (pt 4 c)) (row 2 0 c))) >>= k) Q) := by
  rw [k0_part40_eq_skeleton]; unfold k0_part40_skel
  simp only [Prog.lift, Prog.bind_op, Prog.bind_ret, Prog.pure_eq_ret]
  iintro ⟨#HC, HS⟩ Hk
  iapply (wait_arr I K c 27 39 18 80 rfl rfl (by decide) rfl rfl rfl) $$ [HS]
  · isplitr; · iexact HC
    iexact HS
  iintro HS
  iapply (load_rcv I c (h := 80) 27 40 18 2 0 (V1 I 2 (pt 1 c)) (by decide) (by decide) rfl rfl rfl rfl rfl) $$ HS
  iintro HS
  iapply (wait_dep I K c 27 40 20 80 rfl rfl (by decide) (by decide) rfl rfl) $$ [HS]
  · isplitr; · iexact HC
    iexact HS
  iintro HS
  iapply Hk $$ HS

theorem part41 (v5 : BitVec 32) (g0 : Vec F S2048x1024 .bf16) {k : (BitVec 32) → Prog (TpuEff nD τ sig (Elt F) Λ₀ .tc) α} :
    iprop(Ctx I K ∗ St I c 27 41 ∗ outB 2 0 c fullShare g0 ∗ wbW c (wb I c))
      ⊢ iprop((∀ w0 : BitVec 32, St I c 28 42 -∗ outB 2 0 c fullShare.right.left (OUT I) -∗ outB 2 0 c fullShare.right.right (OUT I) -∗ wbW c (wb I c) -∗ WP (F := F) c (k (w0 : (BitVec 32))) Q)
        -∗ WP (F := F) c (k0_part41 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 (k0_pay36 (k0_pay35 (k0_pay34 (blk 80 (V0 I c) (row 2 0 c))) (blk3 80 (V0 I (pt 4 c)) (row 2 0 c))) (blk3 80 (V1 I 2 (pt 1 c)) (row 2 0 c))) >>= k) Q) := by
  rw [k0_part41_eq_skeleton]; unfold k0_part41_skel
  simp only [Prog.lift, Prog.bind_op, Prog.bind_ret, Prog.pure_eq_ret]
  iintro ⟨#HC, HS, B20, Hwb⟩ Hk
  iapply (wait_arr I K c 27 41 20 80 rfl rfl (by decide) rfl rfl rfl) $$ [HS]
  · isplitr; · iexact HC
    iexact HS
  iintro HS
  iapply (load_rcv I c (h := 80) 27 42 20 2 0 (V2 I 2 (pt 2 c)) (by decide) (by decide) rfl rfl rfl rfl rfl) $$ HS
  iintro HS
  iapply (load_wb c (wb I c)) $$ Hwb
  iintro Hwb
  iapply (load_out c (h := 80) 2 0 g0 rfl (o7_176 c)) $$ B20
  iintro B20
  iapply (store_out c (h := 80) 2 0 g0 (OUT I) rfl (o7_176 c) (by rw [OUT_blk2]; simp only [k0_pay34, k0_pay35, k0_pay36, k0_pay37, cast_blk3, cast_blk, wid_blk, rnd_blk, add_blk]; rfl)) $$ B20
  iintro B20
  icases (out_three c 2 0 (OUT I)) $$ B20 with ⟨B20l, B20m, B20n⟩
  iapply (send_ag I K c 35 27 42 80 (by decide) rfl rfl (p := 2) (e := 0) (q := fullShare.left) rfl rfl rfl (by decide) (by decide) (o8_0_176 c) (devX35 c) rfl rfl) $$ [HS B20l]
  · isplitr; · iexact HC
    isplitl [HS]; · iexact HS
    iexact B20l
  iintro HS
  iapply Hk $$ HS B20m B20n Hwb

theorem part42 (v5 : BitVec 32) (c1_i32_1176 : BitVec 32) {k : (Σ' (v1199 : BitVec 32), BitVec 32) → Prog (TpuEff nD τ sig (Elt F) Λ₀ .tc) α} :
    iprop(Ctx I K ∗ St I c 28 42 ∗ outB 2 0 c fullShare.right.left (OUT I) ∗ outB 2 0 c fullShare.right.right (OUT I))
      ⊢ iprop((∀ w0 : BitVec 32, ∀ w1 : BitVec 32, St I c 30 42 -∗ WP (F := F) c (k (⟨w0, w1⟩ : (Σ' (v1199 : BitVec 32), BitVec 32))) Q)
        -∗ WP (F := F) c (k0_part42 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 c1_i32_1176 >>= k) Q) := by
  rw [k0_part42_eq_skeleton]; unfold k0_part42_skel
  simp only [Prog.lift, Prog.bind_op, Prog.bind_ret, Prog.pure_eq_ret]
  iintro ⟨#HC, HS, B20m, B20n⟩ Hk
  iapply (send_ag I K c 36 28 42 80 (by decide) rfl rfl (p := 2) (e := 0) (q := fullShare.right.left) rfl rfl rfl (by decide) (by decide) (o8_0_176 c) (devX36 c) rfl rfl) $$ [HS B20m]
  · isplitr; · iexact HC
    isplitl [HS]; · iexact HS
    iexact B20m
  iintro HS
  iapply (send_ag I K c 38 29 42 80 (by decide) rfl rfl (p := 2) (e := 0) (q := fullShare.right.right) rfl rfl rfl (by decide) (by decide) (o8_0_176 c) (devX38 c) rfl rfl) $$ [HS B20n]
  · isplitr; · iexact HC
    isplitl [HS]; · iexact HS
    iexact B20n
  iintro HS
  iapply Hk $$ HS

theorem part43 (v5 : BitVec 32) (v1199 : BitVec 32) (c0_i32_1204 : BitVec 32) {k : (PUnit) → Prog (TpuEff nD τ sig (Elt F) Λ₀ .tc) α} :
    iprop(Ctx I K ∗ St I c 30 42)
      ⊢ iprop((St I c 30 44 -∗ outB 0 4 c fullShare (OUT I) -∗ WP (F := F) c (k (PUnit.unit : (PUnit))) Q)
        -∗ WP (F := F) c (k0_part43 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1199 c0_i32_1204 >>= k) Q) := by
  rw [k0_part43_eq_skeleton]; unfold k0_part43_skel
  simp only [Prog.lift, Prog.bind_op, Prog.bind_ret, Prog.pure_eq_ret]
  iintro ⟨#HC, HS⟩ Hk
  iapply (wait_dep I K c 30 42 21 96 rfl rfl (by decide) (by decide) rfl rfl) $$ [HS]
  · isplitr; · iexact HC
    iexact HS
  iintro HS
  iapply (wait_arr_keep I K c 30 43 21 96 rfl rfl (by decide) rfl rfl rfl) $$ [HS]
  · isplitr; · iexact HC
    iexact HS
  iintro ⟨HS, B04⟩
  ihave B04 := (Entails.of_eq (show outB (pp 21) (rk 21) c fullShare (OUT I) = outB 0 4 c fullShare (OUT I) from rfl)) $$ B04
  iapply Hk $$ HS B04

theorem part44 (v5 : BitVec 32) {k : (BitVec 32) → Prog (TpuEff nD τ sig (Elt F) Λ₀ .tc) α} :
    iprop(Ctx I K ∗ St I c 30 44 ∗ outB 0 4 c fullShare (OUT I))
      ⊢ iprop((∀ w0 : BitVec 32, St I c 32 44 -∗ WP (F := F) c (k (w0 : (BitVec 32))) Q)
        -∗ WP (F := F) c (k0_part44 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part44_eq_skeleton]; unfold k0_part44_skel
  simp only [Prog.lift, Prog.bind_op, Prog.bind_ret, Prog.pure_eq_ret]
  iintro ⟨#HC, HS, B04⟩ Hk
  icases (out_two c 0 4 (OUT I)) $$ B04 with ⟨B04l, B04r⟩
  iapply (send_ag I K c 23 30 44 96 (by decide) rfl rfl (p := 0) (e := 4) (q := fullShare.left) rfl rfl rfl (by decide) (by decide) (o6_4 c) (devX23 c) rfl rfl) $$ [HS B04l]
  · isplitr; · iexact HC
    isplitl [HS]; · iexact HS
    iexact B04l
  iintro HS
  iapply (send_ag I K c 25 31 44 96 (by decide) rfl rfl (p := 0) (e := 4) (q := fullShare.right) rfl rfl rfl (by decide) (by decide) (o6_4 c) (devX25 c) rfl rfl) $$ [HS B04r]
  · isplitr; · iexact HC
    isplitl [HS]; · iexact HS
    iexact B04r
  iintro HS
  iapply Hk $$ HS

end Cube

end
-- ==== Proof.Parts6.lean ====
/-
# The gather, second round
-/
module

public import proofs.«01_k».proof.Proof.Vals

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

theorem part45 (v5 : BitVec 32) (v1252 : BitVec 32) {k : (BitVec 32) → Prog (TpuEff nD τ sig (Elt F) Λ₀ .tc) α} :
    iprop(Ctx I K ∗ St I c 32 44)
      ⊢ iprop((∀ w0 : BitVec 32, St I c 33 46 -∗ outB 1 1 c fullShare.right (OUT I) -∗ WP (F := F) c (k (w0 : (BitVec 32))) Q)
        -∗ WP (F := F) c (k0_part45 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1252 >>= k) Q) := by
  rw [k0_part45_eq_skeleton]; unfold k0_part45_skel
  simp only [Prog.lift, Prog.bind_op, Prog.bind_ret, Prog.pure_eq_ret]
  iintro ⟨#HC, HS⟩ Hk
  iapply (wait_dep I K c 32 44 28 80 rfl rfl (by decide) (by decide) rfl rfl) $$ [HS]
  · isplitr; · iexact HC
    iexact HS
  iintro HS
  iapply (wait_arr_keep I K c 32 45 28 80 rfl rfl (by decide) rfl rfl rfl) $$ [HS]
  · isplitr; · iexact HC
    iexact HS
  iintro ⟨HS, B11⟩
  ihave B11 := (Entails.of_eq (show outB (pp 28) (rk 28) c fullShare (OUT I) = outB 1 1 c fullShare (OUT I) from rfl)) $$ B11
  icases (out_two c 1 1 (OUT I)) $$ B11 with ⟨B11l, B11r⟩
  iapply (send_ag I K c 30 32 46 80 (by decide) rfl rfl (p := 1) (e := 1) (q := fullShare.left) rfl rfl rfl (by decide) (by decide) (o8_1_96 c) (devX30 c) rfl rfl) $$ [HS B11l]
  · isplitr; · iexact HC
    isplitl [HS]; · iexact HS
    iexact B11l
  iintro HS
  iapply Hk $$ HS B11r

theorem part46 (v5 : BitVec 32) (v1284 : BitVec 32) {k : (BitVec 32) → Prog (TpuEff nD τ sig (Elt F) Λ₀ .tc) α} :
    iprop(Ctx I K ∗ St I c 33 46 ∗ outB 1 1 c fullShare.right (OUT I))
      ⊢ iprop((∀ w0 : BitVec 32, St I c 34 48 -∗ outB 2 2 c fullShare (OUT I) -∗ WP (F := F) c (k (w0 : (BitVec 32))) Q)
        -∗ WP (F := F) c (k0_part46 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1284 >>= k) Q) := by
  rw [k0_part46_eq_skeleton]; unfold k0_part46_skel
  simp only [Prog.lift, Prog.bind_op, Prog.bind_ret, Prog.pure_eq_ret]
  iintro ⟨#HC, HS, B11r⟩ Hk
  iapply (send_ag I K c 32 33 46 80 (by decide) rfl rfl (p := 1) (e := 1) (q := fullShare.right) rfl rfl rfl (by decide) (by decide) (o8_1_96 c) (devX32 c) rfl rfl) $$ [HS B11r]
  · isplitr; · iexact HC
    isplitl [HS]; · iexact HS
    iexact B11r
  iintro HS
  iapply (wait_dep I K c 34 46 35 80 rfl rfl (by decide) (by decide) rfl rfl) $$ [HS]
  · isplitr; · iexact HC
    iexact HS
  iintro HS
  iapply (wait_arr_keep I K c 34 47 35 80 rfl rfl (by decide) rfl rfl rfl) $$ [HS]
  · isplitr; · iexact HC
    iexact HS
  iintro ⟨HS, B22⟩
  ihave B22 := (Entails.of_eq (show outB (pp 35) (rk 35) c fullShare (OUT I) = outB 2 2 c fullShare (OUT I) from rfl)) $$ B22
  iapply Hk $$ HS B22

theorem part47 (v5 : BitVec 32) (c2_i32_1323 : BitVec 32) {k : (BitVec 32) → Prog (TpuEff nD τ sig (Elt F) Λ₀ .tc) α} :
    iprop(Ctx I K ∗ St I c 34 48 ∗ outB 2 2 c fullShare (OUT I))
      ⊢ iprop((∀ w0 : BitVec 32, St I c 36 48 -∗ WP (F := F) c (k (w0 : (BitVec 32))) Q)
        -∗ WP (F := F) c (k0_part47 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 c2_i32_1323 >>= k) Q) := by
  rw [k0_part47_eq_skeleton]; unfold k0_part47_skel
  simp only [Prog.lift, Prog.bind_op, Prog.bind_ret, Prog.pure_eq_ret]
  iintro ⟨#HC, HS, B22⟩ Hk
  icases (out_two c 2 2 (OUT I)) $$ B22 with ⟨B22l, B22r⟩
  iapply (send_ag I K c 37 34 48 80 (by decide) rfl rfl (p := 2) (e := 2) (q := fullShare.left) rfl rfl rfl (by decide) (by decide) (o8_2_176 c) (devX37 c) rfl rfl) $$ [HS B22l]
  · isplitr; · iexact HC
    isplitl [HS]; · iexact HS
    iexact B22l
  iintro HS
  iapply (send_ag I K c 39 35 48 80 (by decide) rfl rfl (p := 2) (e := 2) (q := fullShare.right) rfl rfl rfl (by decide) (by decide) (o8_2_176 c) (devX39 c) rfl rfl) $$ [HS B22r]
  · isplitr; · iexact HC
    isplitl [HS]; · iexact HS
    iexact B22r
  iintro HS
  iapply Hk $$ HS

theorem part48 (v5 : BitVec 32) (c2_i32_1351 : BitVec 32) {k : (BitVec 32) → Prog (TpuEff nD τ sig (Elt F) Λ₀ .tc) α} :
    iprop(Ctx I K ∗ St I c 36 48)
      ⊢ iprop((∀ w0 : BitVec 32, St I c 36 50 -∗ outB 0 2 c fullShare (OUT I) -∗ WP (F := F) c (k (w0 : (BitVec 32))) Q)
        -∗ WP (F := F) c (k0_part48 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 c2_i32_1351 >>= k) Q) := by
  rw [k0_part48_eq_skeleton]; unfold k0_part48_skel
  simp only [Prog.lift, Prog.bind_op, Prog.bind_ret, Prog.pure_eq_ret]
  iintro ⟨#HC, HS⟩ Hk
  iapply (wait_dep I K c 36 48 22 96 rfl rfl (by decide) (by decide) rfl rfl) $$ [HS]
  · isplitr; · iexact HC
    iexact HS
  iintro HS
  iapply (wait_arr_keep I K c 36 49 22 96 rfl rfl (by decide) rfl rfl rfl) $$ [HS]
  · isplitr; · iexact HC
    iexact HS
  iintro ⟨HS, B02⟩
  ihave B02 := (Entails.of_eq (show outB (pp 22) (rk 22) c fullShare (OUT I) = outB 0 2 c fullShare (OUT I) from rfl)) $$ B02
  iapply Hk $$ HS B02

theorem part49 (v5 : BitVec 32) (v1366 : BitVec 32) {k : (BitVec 32) → Prog (TpuEff nD τ sig (Elt F) Λ₀ .tc) α} :
    iprop(Ctx I K ∗ St I c 36 50 ∗ outB 0 2 c fullShare (OUT I))
      ⊢ iprop((∀ w0 : BitVec 32, St I c 37 52 -∗ outB 0 6 c fullShare (OUT I) -∗ WP (F := F) c (k (w0 : (BitVec 32))) Q)
        -∗ WP (F := F) c (k0_part49 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1366 >>= k) Q) := by
  rw [k0_part49_eq_skeleton]; unfold k0_part49_skel
  simp only [Prog.lift, Prog.bind_op, Prog.bind_ret, Prog.pure_eq_ret]
  iintro ⟨#HC, HS, B02⟩ Hk
  iapply (send_ag I K c 26 36 50 96 (by decide) rfl rfl (p := 0) (e := 2) (q := fullShare) rfl rfl rfl (by decide) (by decide) (o6_2 c) (devX26 c) rfl rfl) $$ [HS B02]
  · isplitr; · iexact HC
    isplitl [HS]; · iexact HS
    iexact B02
  iintro HS
  iapply (wait_dep I K c 37 50 23 96 rfl rfl (by decide) (by decide) rfl rfl) $$ [HS]
  · isplitr; · iexact HC
    iexact HS
  iintro HS
  iapply (wait_arr_keep I K c 37 51 23 96 rfl rfl (by decide) rfl rfl rfl) $$ [HS]
  · isplitr; · iexact HC
    iexact HS
  iintro ⟨HS, B06⟩
  ihave B06 := (Entails.of_eq (show outB (pp 23) (rk 23) c fullShare (OUT I) = outB 0 6 c fullShare (OUT I) from rfl)) $$ B06
  iapply Hk $$ HS B06

theorem part50 (v5 : BitVec 32) (c1_i32_1412 : BitVec 32) {k : (PUnit) → Prog (TpuEff nD τ sig (Elt F) Λ₀ .tc) α} :
    iprop(Ctx I K ∗ St I c 37 52 ∗ outB 0 6 c fullShare (OUT I))
      ⊢ iprop((St I c 38 53 -∗ WP (F := F) c (k (PUnit.unit : (PUnit))) Q)
        -∗ WP (F := F) c (k0_part50 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 c1_i32_1412 >>= k) Q) := by
  rw [k0_part50_eq_skeleton]; unfold k0_part50_skel
  simp only [Prog.lift, Prog.bind_op, Prog.bind_ret, Prog.pure_eq_ret]
  iintro ⟨#HC, HS, B06⟩ Hk
  iapply (send_ag I K c 27 37 52 96 (by decide) rfl rfl (p := 0) (e := 6) (q := fullShare) rfl rfl rfl (by decide) (by decide) (o6_6 c) (devX27 c) rfl rfl) $$ [HS B06]
  · isplitr; · iexact HC
    isplitl [HS]; · iexact HS
    iexact B06
  iintro HS
  iapply (wait_dep I K c 38 52 29 80 rfl rfl (by decide) (by decide) rfl rfl) $$ [HS]
  · isplitr; · iexact HC
    iexact HS
  iintro HS
  iapply Hk $$ HS

theorem part51 (v5 : BitVec 32) {k : (BitVec 32) → Prog (TpuEff nD τ sig (Elt F) Λ₀ .tc) α} :
    iprop(Ctx I K ∗ St I c 38 53)
      ⊢ iprop((∀ w0 : BitVec 32, St I c 39 54 -∗ WP (F := F) c (k (w0 : (BitVec 32))) Q)
        -∗ WP (F := F) c (k0_part51 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part51_eq_skeleton]; unfold k0_part51_skel
  simp only [Prog.lift, Prog.bind_op, Prog.bind_ret, Prog.pure_eq_ret]
  iintro ⟨#HC, HS⟩ Hk
  iapply (wait_arr_keep I K c 38 53 29 80 rfl rfl (by decide) rfl rfl rfl) $$ [HS]
  · isplitr; · iexact HC
    iexact HS
  iintro ⟨HS, B14⟩
  ihave B14 := (Entails.of_eq (show outB (pp 29) (rk 29) c fullShare (OUT I) = outB 1 4 c fullShare (OUT I) from rfl)) $$ B14
  iapply (send_ag I K c 33 38 54 80 (by decide) rfl rfl (p := 1) (e := 4) (q := fullShare) rfl rfl rfl (by decide) (by decide) (o8_4_96 c) (devX33 c) rfl rfl) $$ [HS B14]
  · isplitr; · iexact HC
    isplitl [HS]; · iexact HS
    iexact B14
  iintro HS
  iapply Hk $$ HS

theorem part52 (v5 : BitVec 32) (v1447 : BitVec 32) {k : (Σ' (v1477 : BitVec 32) (v1478 : BitVec 32), BitVec 32) → Prog (TpuEff nD τ sig (Elt F) Λ₀ .tc) α} :
    iprop(Ctx I K ∗ St I c 39 54)
      ⊢ iprop((∀ w0 : BitVec 32, ∀ w1 : BitVec 32, ∀ w2 : BitVec 32, St I c 40 56 -∗ WP (F := F) c (k (⟨w0, w1, w2⟩ : (Σ' (v1477 : BitVec 32) (v1478 : BitVec 32), BitVec 32))) Q)
        -∗ WP (F := F) c (k0_part52 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1447 >>= k) Q) := by
  rw [k0_part52_eq_skeleton]; unfold k0_part52_skel
  simp only [Prog.lift, Prog.bind_op, Prog.bind_ret, Prog.pure_eq_ret]
  iintro ⟨#HC, HS⟩ Hk
  iapply (wait_dep I K c 39 54 30 80 rfl rfl (by decide) (by decide) rfl rfl) $$ [HS]
  · isplitr; · iexact HC
    iexact HS
  iintro HS
  iapply (wait_arr_keep I K c 39 55 30 80 rfl rfl (by decide) rfl rfl rfl) $$ [HS]
  · isplitr; · iexact HC
    iexact HS
  iintro ⟨HS, B15⟩
  ihave B15 := (Entails.of_eq (show outB (pp 30) (rk 30) c fullShare (OUT I) = outB 1 5 c fullShare (OUT I) from rfl)) $$ B15
  iapply (send_ag I K c 34 39 56 80 (by decide) rfl rfl (p := 1) (e := 5) (q := fullShare) rfl rfl rfl (by decide) (by decide) (o8_5_96 c) (devX34 c) rfl rfl) $$ [HS B15]
  · isplitr; · iexact HC
    isplitl [HS]; · iexact HS
    iexact B15
  iintro HS
  iapply Hk $$ HS

end Cube

end
-- ==== Proof.Parts7.lean ====
/-
# The gather ends
-/
module

public import proofs.«01_k».proof.Proof.Vals

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

theorem part53 (v5 : BitVec 32) (v1477 : BitVec 32) (v1478 : BitVec 32) (c1_i32_1501 : BitVec 32) {k : (BitVec 32) → Prog (TpuEff nD τ sig (Elt F) Λ₀ .tc) α} :
    iprop(Ctx I K ∗ St I c 40 56)
      ⊢ iprop((∀ w0 : BitVec 32, St I c 41 58 -∗ WP (F := F) c (k (w0 : (BitVec 32))) Q)
        -∗ WP (F := F) c (k0_part53 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1477 v1478 c1_i32_1501 >>= k) Q) := by
  rw [k0_part53_eq_skeleton]; unfold k0_part53_skel
  simp only [Prog.lift, Prog.bind_op, Prog.bind_ret, Prog.pure_eq_ret]
  iintro ⟨#HC, HS⟩ Hk
  iapply (wait_dep I K c 40 56 36 80 rfl rfl (by decide) (by decide) rfl rfl) $$ [HS]
  · isplitr; · iexact HC
    iexact HS
  iintro HS
  iapply (wait_arr_keep I K c 40 57 36 80 rfl rfl (by decide) rfl rfl rfl) $$ [HS]
  · isplitr; · iexact HC
    iexact HS
  iintro ⟨HS, B21⟩
  ihave B21 := (Entails.of_eq (show outB (pp 36) (rk 36) c fullShare (OUT I) = outB 2 1 c fullShare (OUT I) from rfl)) $$ B21
  iapply (send_ag I K c 40 40 58 80 (by decide) rfl rfl (p := 2) (e := 1) (q := fullShare) rfl rfl rfl (by decide) (by decide) (o8_1_176 c) (devX40 c) rfl rfl) $$ [HS B21]
  · isplitr; · iexact HC
    isplitl [HS]; · iexact HS
    iexact B21
  iintro HS
  iapply Hk $$ HS

theorem part54 (v5 : BitVec 32) (c1_i32_1531 : BitVec 32) {k : (BitVec 32) → Prog (TpuEff nD τ sig (Elt F) Λ₀ .tc) α} :
    iprop(Ctx I K ∗ St I c 41 58)
      ⊢ iprop((∀ w0 : BitVec 32, St I c 41 60 -∗ outB 2 3 c fullShare (OUT I) -∗ WP (F := F) c (k (w0 : (BitVec 32))) Q)
        -∗ WP (F := F) c (k0_part54 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 c1_i32_1531 >>= k) Q) := by
  rw [k0_part54_eq_skeleton]; unfold k0_part54_skel
  simp only [Prog.lift, Prog.bind_op, Prog.bind_ret, Prog.pure_eq_ret]
  iintro ⟨#HC, HS⟩ Hk
  iapply (wait_dep I K c 41 58 37 80 rfl rfl (by decide) (by decide) rfl rfl) $$ [HS]
  · isplitr; · iexact HC
    iexact HS
  iintro HS
  iapply (wait_arr_keep I K c 41 59 37 80 rfl rfl (by decide) rfl rfl rfl) $$ [HS]
  · isplitr; · iexact HC
    iexact HS
  iintro ⟨HS, B23⟩
  ihave B23 := (Entails.of_eq (show outB (pp 37) (rk 37) c fullShare (OUT I) = outB 2 3 c fullShare (OUT I) from rfl)) $$ B23
  iapply Hk $$ HS B23

theorem part55 (v5 : BitVec 32) (v1531 : BitVec 32) {k : (Σ' (v1559 : BitVec 32), BitVec 32) → Prog (TpuEff nD τ sig (Elt F) Λ₀ .tc) α} :
    iprop(Ctx I K ∗ St I c 41 60 ∗ outB 2 3 c fullShare (OUT I))
      ⊢ iprop((∀ w0 : BitVec 32, ∀ w1 : BitVec 32, St I c 42 62 -∗ WP (F := F) c (k (⟨w0, w1⟩ : (Σ' (v1559 : BitVec 32), BitVec 32))) Q)
        -∗ WP (F := F) c (k0_part55 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1531 >>= k) Q) := by
  rw [k0_part55_eq_skeleton]; unfold k0_part55_skel
  simp only [Prog.lift, Prog.bind_op, Prog.bind_ret, Prog.pure_eq_ret]
  iintro ⟨#HC, HS, B23⟩ Hk
  iapply (send_ag I K c 41 41 60 80 (by decide) rfl rfl (p := 2) (e := 3) (q := fullShare) rfl rfl rfl (by decide) (by decide) (o8_3_176 c) (devX41 c) rfl rfl) $$ [HS B23]
  · isplitr; · iexact HC
    isplitl [HS]; · iexact HS
    iexact B23
  iintro HS
  iapply (wait_dep I K c 42 60 24 96 rfl rfl (by decide) (by decide) rfl rfl) $$ [HS]
  · isplitr; · iexact HC
    iexact HS
  iintro HS
  iapply (wait_arr I K c 42 61 24 96 rfl rfl (by decide) rfl rfl rfl) $$ [HS]
  · isplitr; · iexact HC
    iexact HS
  iintro HS
  iapply Hk $$ HS

theorem part56 (v5 : BitVec 32) (v1559 : BitVec 32) (c0_i32_1592 : BitVec 32) {k : (BitVec 32) → Prog (TpuEff nD τ sig (Elt F) Λ₀ .tc) α} :
    iprop(Ctx I K ∗ St I c 42 62)
      ⊢ iprop((∀ w0 : BitVec 32, St I c 42 64 -∗ WP (F := F) c (k (w0 : (BitVec 32))) Q)
        -∗ WP (F := F) c (k0_part56 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1559 c0_i32_1592 >>= k) Q) := by
  rw [k0_part56_eq_skeleton]; unfold k0_part56_skel
  simp only [Prog.lift, Prog.bind_op, Prog.bind_ret, Prog.pure_eq_ret]
  iintro ⟨#HC, HS⟩ Hk
  iapply (wait_dep I K c 42 62 25 96 rfl rfl (by decide) (by decide) rfl rfl) $$ [HS]
  · isplitr; · iexact HC
    iexact HS
  iintro HS
  iapply (wait_arr I K c 42 63 25 96 rfl rfl (by decide) rfl rfl rfl) $$ [HS]
  · isplitr; · iexact HC
    iexact HS
  iintro HS
  iapply Hk $$ HS

theorem part57 (v5 : BitVec 32) (v1582 : BitVec 32) {k : (BitVec 32) → Prog (TpuEff nD τ sig (Elt F) Λ₀ .tc) α} :
    iprop(Ctx I K ∗ St I c 42 64)
      ⊢ iprop((∀ w0 : BitVec 32, St I c 42 68 -∗ WP (F := F) c (k (w0 : (BitVec 32))) Q)
        -∗ WP (F := F) c (k0_part57 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1582 >>= k) Q) := by
  rw [k0_part57_eq_skeleton]; unfold k0_part57_skel
  simp only [Prog.lift, Prog.bind_op, Prog.bind_ret, Prog.pure_eq_ret]
  iintro ⟨#HC, HS⟩ Hk
  iapply (wait_dep I K c 42 64 26 96 rfl rfl (by decide) (by decide) rfl rfl) $$ [HS]
  · isplitr; · iexact HC
    iexact HS
  iintro HS
  iapply (wait_arr I K c 42 65 26 96 rfl rfl (by decide) rfl rfl rfl) $$ [HS]
  · isplitr; · iexact HC
    iexact HS
  iintro HS
  iapply (wait_dep I K c 42 66 27 96 rfl rfl (by decide) (by decide) rfl rfl) $$ [HS]
  · isplitr; · iexact HC
    iexact HS
  iintro HS
  iapply (wait_arr I K c 42 67 27 96 rfl rfl (by decide) rfl rfl rfl) $$ [HS]
  · isplitr; · iexact HC
    iexact HS
  iintro HS
  iapply Hk $$ HS

theorem part58 (v5 : BitVec 32) (c2_i32_1655 : BitVec 32) {k : (BitVec 32) → Prog (TpuEff nD τ sig (Elt F) Λ₀ .tc) α} :
    iprop(Ctx I K ∗ St I c 42 68)
      ⊢ iprop((∀ w0 : BitVec 32, St I c 42 70 -∗ WP (F := F) c (k (w0 : (BitVec 32))) Q)
        -∗ WP (F := F) c (k0_part58 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 c2_i32_1655 >>= k) Q) := by
  rw [k0_part58_eq_skeleton]; unfold k0_part58_skel
  simp only [Prog.lift, Prog.bind_op, Prog.bind_ret, Prog.pure_eq_ret]
  iintro ⟨#HC, HS⟩ Hk
  iapply (wait_dep I K c 42 68 31 80 rfl rfl (by decide) (by decide) rfl rfl) $$ [HS]
  · isplitr; · iexact HC
    iexact HS
  iintro HS
  iapply (wait_arr I K c 42 69 31 80 rfl rfl (by decide) rfl rfl rfl) $$ [HS]
  · isplitr; · iexact HC
    iexact HS
  iintro HS
  iapply Hk $$ HS

theorem part59 (v5 : BitVec 32) (v1636 : BitVec 32) {k : (PUnit) → Prog (TpuEff nD τ sig (Elt F) Λ₀ .tc) α} :
    iprop(Ctx I K ∗ St I c 42 70)
      ⊢ iprop((St I c 42 73 -∗ WP (F := F) c (k (PUnit.unit : (PUnit))) Q)
        -∗ WP (F := F) c (k0_part59 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1636 >>= k) Q) := by
  rw [k0_part59_eq_skeleton]; unfold k0_part59_skel
  simp only [Prog.lift, Prog.bind_op, Prog.bind_ret, Prog.pure_eq_ret]
  iintro ⟨#HC, HS⟩ Hk
  iapply (wait_dep I K c 42 70 32 80 rfl rfl (by decide) (by decide) rfl rfl) $$ [HS]
  · isplitr; · iexact HC
    iexact HS
  iintro HS
  iapply (wait_arr I K c 42 71 32 80 rfl rfl (by decide) rfl rfl rfl) $$ [HS]
  · isplitr; · iexact HC
    iexact HS
  iintro HS
  iapply (wait_dep I K c 42 72 33 80 rfl rfl (by decide) (by decide) rfl rfl) $$ [HS]
  · isplitr; · iexact HC
    iexact HS
  iintro HS
  iapply Hk $$ HS

theorem part60 (v5 : BitVec 32) {k : (Σ' (v1687 : BitVec 32) (v1688 : BitVec 32), BitVec 32) → Prog (TpuEff nD τ sig (Elt F) Λ₀ .tc) α} :
    iprop(Ctx I K ∗ St I c 42 73)
      ⊢ iprop((∀ w0 : BitVec 32, ∀ w1 : BitVec 32, ∀ w2 : BitVec 32, St I c 42 76 -∗ WP (F := F) c (k (⟨w0, w1, w2⟩ : (Σ' (v1687 : BitVec 32) (v1688 : BitVec 32), BitVec 32))) Q)
        -∗ WP (F := F) c (k0_part60 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 >>= k) Q) := by
  rw [k0_part60_eq_skeleton]; unfold k0_part60_skel
  simp only [Prog.lift, Prog.bind_op, Prog.bind_ret, Prog.pure_eq_ret]
  iintro ⟨#HC, HS⟩ Hk
  iapply (wait_arr I K c 42 73 33 80 rfl rfl (by decide) rfl rfl rfl) $$ [HS]
  · isplitr; · iexact HC
    iexact HS
  iintro HS
  iapply (wait_dep I K c 42 74 34 80 rfl rfl (by decide) (by decide) rfl rfl) $$ [HS]
  · isplitr; · iexact HC
    iexact HS
  iintro HS
  iapply (wait_arr I K c 42 75 34 80 rfl rfl (by decide) rfl rfl rfl) $$ [HS]
  · isplitr; · iexact HC
    iexact HS
  iintro HS
  iapply Hk $$ HS

theorem part61 (v5 : BitVec 32) (v1687 : BitVec 32) (v1688 : BitVec 32) (c1_i32_1749 : BitVec 32) {k : (BitVec 32) → Prog (TpuEff nD τ sig (Elt F) Λ₀ .tc) α} :
    iprop(Ctx I K ∗ St I c 42 76)
      ⊢ iprop((∀ w0 : BitVec 32, St I c 42 79 -∗ WP (F := F) c (k (w0 : (BitVec 32))) Q)
        -∗ WP (F := F) c (k0_part61 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1687 v1688 c1_i32_1749 >>= k) Q) := by
  rw [k0_part61_eq_skeleton]; unfold k0_part61_skel
  simp only [Prog.lift, Prog.bind_op, Prog.bind_ret, Prog.pure_eq_ret]
  iintro ⟨#HC, HS⟩ Hk
  iapply (wait_dep I K c 42 76 38 80 rfl rfl (by decide) (by decide) rfl rfl) $$ [HS]
  · isplitr; · iexact HC
    iexact HS
  iintro HS
  iapply (wait_arr I K c 42 77 38 80 rfl rfl (by decide) rfl rfl rfl) $$ [HS]
  · isplitr; · iexact HC
    iexact HS
  iintro HS
  iapply (wait_dep I K c 42 78 39 80 rfl rfl (by decide) (by decide) rfl rfl) $$ [HS]
  · isplitr; · iexact HC
    iexact HS
  iintro HS
  iapply Hk $$ HS

theorem part62 (v5 : BitVec 32) (v1708 : BitVec 32) {k : (Σ' (v1739 : BitVec 32), BitVec 32) → Prog (TpuEff nD τ sig (Elt F) Λ₀ .tc) α} :
    iprop(Ctx I K ∗ St I c 42 79)
      ⊢ iprop((∀ w0 : BitVec 32, ∀ w1 : BitVec 32, St I c 42 82 -∗ WP (F := F) c (k (⟨w0, w1⟩ : (Σ' (v1739 : BitVec 32), BitVec 32))) Q)
        -∗ WP (F := F) c (k0_part62 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v1708 >>= k) Q) := by
  rw [k0_part62_eq_skeleton]; unfold k0_part62_skel
  simp only [Prog.lift, Prog.bind_op, Prog.bind_ret, Prog.pure_eq_ret]
  iintro ⟨#HC, HS⟩ Hk
  iapply (wait_arr I K c 42 79 39 80 rfl rfl (by decide) rfl rfl rfl) $$ [HS]
  · isplitr; · iexact HC
    iexact HS
  iintro HS
  iapply (wait_dep I K c 42 80 40 80 rfl rfl (by decide) (by decide) rfl rfl) $$ [HS]
  · isplitr; · iexact HC
    iexact HS
  iintro HS
  iapply (wait_arr I K c 42 81 40 80 rfl rfl (by decide) rfl rfl rfl) $$ [HS]
  · isplitr; · iexact HC
    iexact HS
  iintro HS
  iapply Hk $$ HS

end Cube

end
-- ==== Proof.Body.lean ====
/-
# The body: its parts in order
-/
module

public import proofs.«01_k».proof.Proof.Parts0
public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

def mid (f : Vec F S2048x1024 .bf16) : sProp 𝕄 := iprop(semVal (barCell c) 0 ∗ semVal (wCell c) 0 ∗ tW c (I.T c) ∗ accB 0 0 c (V0 I c) ∗ accB 1 0 c (V0 I c) ∗ accB 2 0 c (V0 I c) ∗ wVm c (I.W c) ∗ wHbm c (I.W c) ∗ wbW c (wb I c))

set_option maxHeartbeats 4000000 in
set_option maxRecDepth 20000 in
theorem run63 (fa fo : Vec F S2048x1024 .bf16) (fw : Vec F S1024x1024 .f32) (fb : Vec F S1024x1024 .bf16) (fr : Vec F S7x256x1024 .bf16) (W : Waits sig Unit)
    {Q : (Σ' (d0 : Dev nD) (v5 : BitVec 32) (v1687 : BitVec 32) (v1688 : BitVec 32), BitVec 32) → sProp (MT nD τ sig Unit (Elt F) ℕ UU ℕ)} :
    iprop(Ctx I K ∗ owes (c : Thread nD τ) (barOwe c) W ∗ dutyTok ER (barCell (pt (km 0) c)) 0 (0 : DD) ∗ dutyTok ER (barCell (pt (km 1) c)) 0 (1 : DD) ∗ dutyTok ER (barCell (pt (km 2) c)) 0 (2 : DD) ∗ dutyTok ER (wCell c) 0 (0 : DD) ∗ cred (tallyAt (barCell c) () 3) ∗ atPos ER (barCell c) 0 (∅ : Finset DD) 0 ∗ atPos ER (wCell c) 0 (∅ : Finset DD) 0 ∗ bigSepL sendL (toks2 (F := F) c) ∗ bigSepL waitL (todo (F := F) c 0) ∗ tW c (I.T c) ∗ accW c fa ∗ wVm c fw ∗ wbW c fb ∗ rcvW c fr ∗ outW c fo ∗ wHbm c (I.W c))
      ⊢ iprop((∀ w0 : BitVec 32, ∀ w1 : BitVec 32, ∀ w2 : BitVec 32, ∀ w3 : BitVec 32, St I c 42 76 -∗ mid I c fo -∗ Q (⟨c, w0, w1, w2, w3⟩ : (Σ' (d0 : Dev nD) (v5 : BitVec 32) (v1687 : BitVec 32) (v1688 : BitVec 32), BitVec 32)))
        -∗ WP (F := F) c (k0_part63 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Q) := by
  rw [k0_part63_eq_skeleton]; unfold k0_part63_skel
  iintro ⟨#HC, HO, T0, T1, T2, Tw, HcB, HaB, Hat, HT, HW, Ht, Ha, Hv, Hwb, Hr, Ho, Hwh⟩ Hk
  ihave HG := (give c fr fo) $$ [Hr Ho]
  · isplitl [Hr] <;> iassumption
  icases HG with ⟨⟨P0, P1, P2⟩, B00, B10, B20⟩
  iapply (part1 I K c fa fw W) $$ [HO T0 T1 T2 P0 P1 P2 Hwh Hv Tw Ht Ha]
  · isplitr; · iexact HC
    isplitl [HO]; · iexact HO
    isplitl [T0]; · iexact T0
    isplitl [T1]; · iexact T1
    isplitl [T2]; · iexact T2
    isplitl [P0]; · iexact P0
    isplitl [P1]; · iexact P1
    isplitl [P2]; · iexact P2
    isplitl [Hwh]; · iexact Hwh
    isplitl [Hv]; · iexact Hv
    isplitl [Tw]; · iexact Tw
    isplitl [Ht]; · iexact Ht
    iexact Ha
  iintro %v HO Hcr Ht Ha

  iapply (part2 I K c _ fa W) $$ [HO HcB HaB HT HW Ha]
  · isplitr; · iexact HC
    isplitl [HO]; · iexact HO
    isplitl [HcB]; · iexact HcB
    isplitl [HaB]; · iexact HaB
    isplitl [HT]; · iexact HT
    isplitl [HW]; · iexact HW
    iexact Ha
  iintro %w2_0 HS HzB A00 A10 A20 A01 A05 A07 A02 A06 A04 A12 A16 A13 A17 A14 A15 A11 A24 A25 A26 A27 A21 A23 A22

  iapply (part3 I K c _ _) $$ [HS A07 A05]
  · isplitr; · iexact HC
    isplitl [HS]; · iexact HS
    isplitl [A07]; · iexact A07
    iexact A05
  iintro %w3_0 HS
  iapply (part4 I K c _ _) $$ [HS A01]
  · isplitr; · iexact HC
    isplitl [HS]; · iexact HS
    iexact A01
  iintro  HS
  iapply (part5 I K c _) $$ [HS A16 A17]
  · isplitr; · iexact HC
    isplitl [HS]; · iexact HS
    isplitl [A16]; · iexact A16
    iexact A17
  iintro  HS
  iapply (part6 I K c _) $$ [HS A13 A12]
  · isplitr; · iexact HC
    isplitl [HS]; · iexact HS
    isplitl [A13]; · iexact A13
    iexact A12
  iintro %w6_0 %w6_1 HS
  iapply (part7 I K c _ _ _) $$ [HS A25 A27]
  · isplitr; · iexact HC
    isplitl [HS]; · iexact HS
    isplitl [A25]; · iexact A25
    iexact A27
  iintro %w7_0 HS
  iapply (part8 I K c _ _) $$ [HS A26]
  · isplitr; · iexact HC
    isplitl [HS]; · iexact HS
    iexact A26
  iintro  HS
  iapply (part9 I K c _) $$ [HS A24 A02]
  · isplitr; · iexact HC
    isplitl [HS]; · iexact HS
    isplitl [A24]; · iexact A24
    iexact A02
  iintro  HS A02
  iapply (part10 I K c _) $$ [HS A02 A06]
  · isplitr; · iexact HC
    isplitl [HS]; · iexact HS
    isplitl [A02]; · iexact A02
    iexact A06
  iintro %w10_0 HS A02 A06
  iapply (part11 I K c _ _) $$ [HS A06]
  · isplitr; · iexact HC
    isplitl [HS]; · iexact HS
    iexact A06
  iintro %w11_0 HS A06
  iapply (part12 I K c _ _) $$ [HS A06 A02]
  · isplitr; · iexact HC
    isplitl [HS]; · iexact HS
    isplitl [A06]; · iexact A06
    iexact A02
  iintro  HS
  iapply (part13 I K c _) $$ [HS A14]
  · isplitr; · iexact HC
    isplitl [HS]; · iexact HS
    iexact A14
  iintro %w13_0 HS A14
  iapply (part14 I K c _ _) $$ [HS A14 A15]
  · isplitr; · iexact HC
    isplitl [HS]; · iexact HS
    isplitl [A14]; · iexact A14
    iexact A15
  iintro  HS A14 A15
  iapply (part15 I K c _) $$ [HS A15]
  · isplitr; · iexact HC
    isplitl [HS]; · iexact HS
    iexact A15
  iintro  HS A15
  iapply (part16 I K c _) $$ [HS A15 A14 A21]
  · isplitr; · iexact HC
    isplitl [HS]; · iexact HS
    isplitl [A15]; · iexact A15
    isplitl [A14]; · iexact A14
    iexact A21
  iintro %w16_0 %w16_1 HS A21
  iapply (part17 I K c _ _ _) $$ [HS A21]
  · isplitr; · iexact HC
    isplitl [HS]; · iexact HS
    iexact A21
  iintro %w17_0 HS A21
  iapply (part18 I K c _ _) $$ [HS A23]
  · isplitr; · iexact HC
    isplitl [HS]; · iexact HS
    iexact A23
  iintro  HS A23
  iapply (part19 I K c _) $$ [HS A23]
  · isplitr; · iexact HC
    isplitl [HS]; · iexact HS
    iexact A23
  iintro %w19_0 %w19_1 HS
  iapply (part20 I K c _ _ _) $$ [HS A21 A04]
  · isplitr; · iexact HC
    isplitl [HS]; · iexact HS
    isplitl [A21]; · iexact A21
    iexact A04
  iintro %w20_0 HS A04
  iapply (part21 I K c _ _) $$ [HS]
  · isplitr; · iexact HC
    iexact HS
  iintro %w21_0 HS
  iapply (part22 I K c _ _) $$ [HS A04]
  · isplitr; · iexact HC
    isplitl [HS]; · iexact HS
    iexact A04
  iintro %w22_0 %w22_1 HS A04
  iapply (part23 I K c _ _ _) $$ [HS A04 A11]
  · isplitr; · iexact HC
    isplitl [HS]; · iexact HS
    isplitl [A04]; · iexact A04
    iexact A11
  iintro %w23_0 %w23_1 HS A11
  iapply (part24 I K c _ _ _) $$ [HS]
  · isplitr; · iexact HC
    iexact HS
  iintro  HS
  iapply (part25 I K c _) $$ [HS A11]
  · isplitr; · iexact HC
    isplitl [HS]; · iexact HS
    iexact A11
  iintro  HS
  iapply (part26 I K c _) $$ [HS A22]
  · isplitr; · iexact HC
    isplitl [HS]; · iexact HS
    iexact A22
  iintro  HS A22
  iapply (part27 I K c _) $$ [HS]
  · isplitr; · iexact HC
    iexact HS
  iintro  HS
  iapply (part28 I K c _ fb) $$ [HS A22 Hcr Hat Hwb]
  · isplitr; · iexact HC
    isplitl [HS]; · iexact HS
    isplitl [A22]; · iexact A22
    isplitl [Hcr]; · iexact Hcr
    isplitl [Hat]; · iexact Hat
    iexact Hwb
  iintro %w28_0 HS Hz Hwv Hwh Hwb
  iapply (part29 I K c _ _) $$ [HS A00]
  · isplitr; · iexact HC
    isplitl [HS]; · iexact HS
    iexact A00
  iintro  HS A00
  iapply (part30 I K c _) $$ [HS]
  · isplitr; · iexact HC
    iexact HS
  iintro %w30_0 %w30_1 HS
  iapply (part31 I K c _ _ _) $$ [HS Hwb]
  · isplitr; · iexact HC
    isplitl [HS]; · iexact HS
    iexact Hwb
  iintro %w31_0 HS Hwb
  iapply (part32 I K c _ _ fo) $$ [HS B00]
  · isplitr; · iexact HC
    isplitl [HS]; · iexact HS
    iexact B00
  iintro  HS B00m B00n
  iapply (part33 I K c _) $$ [HS B00m B00n A10]
  · isplitr; · iexact HC
    isplitl [HS]; · iexact HS
    isplitl [B00m]; · iexact B00m
    isplitl [B00n]; · iexact B00n
    iexact A10
  iintro %w33_0 HS A10
  iapply (part34 I K c _ _) $$ [HS]
  · isplitr; · iexact HC
    iexact HS
  iintro %w34_0 HS
  iapply (part35 I K c _ _) $$ [HS]
  · isplitr; · iexact HC
    iexact HS
  iintro %w35_0 HS
  iapply (part36 I K c _ _ fo) $$ [HS B10 Hwb]
  · isplitr; · iexact HC
    isplitl [HS]; · iexact HS
    isplitl [B10]; · iexact B10
    iexact Hwb
  iintro %w36_0 HS B10 Hwb
  iapply (part37 I K c _ _) $$ [HS B10]
  · isplitr; · iexact HC
    isplitl [HS]; · iexact HS
    iexact B10
  iintro %w37_0 HS B10n
  iapply (part38 I K c _ _) $$ [HS B10n A20]
  · isplitr; · iexact HC
    isplitl [HS]; · iexact HS
    isplitl [B10n]; · iexact B10n
    iexact A20
  iintro %w38_0 HS A20
  iapply (part39 I K c _ _) $$ [HS]
  · isplitr; · iexact HC
    iexact HS
  iintro  HS
  iapply (part40 I K c _) $$ [HS]
  · isplitr; · iexact HC
    iexact HS
  iintro  HS
  iapply (part41 I K c _ fo) $$ [HS B20 Hwb]
  · isplitr; · iexact HC
    isplitl [HS]; · iexact HS
    isplitl [B20]; · iexact B20
    iexact Hwb
  iintro %w41_0 HS B20m B20n Hwb
  iapply (part42 I K c _ _) $$ [HS B20m B20n]
  · isplitr; · iexact HC
    isplitl [HS]; · iexact HS
    isplitl [B20m]; · iexact B20m
    iexact B20n
  iintro %w42_0 %w42_1 HS
  iapply (part43 I K c _ _ _) $$ [HS]
  · isplitr; · iexact HC
    iexact HS
  iintro  HS B04
  iapply (part44 I K c _) $$ [HS B04]
  · isplitr; · iexact HC
    isplitl [HS]; · iexact HS
    iexact B04
  iintro %w44_0 HS
  iapply (part45 I K c _ _) $$ [HS]
  · isplitr; · iexact HC
    iexact HS
  iintro %w45_0 HS B11r
  iapply (part46 I K c _ _) $$ [HS B11r]
  · isplitr; · iexact HC
    isplitl [HS]; · iexact HS
    iexact B11r
  iintro %w46_0 HS B22
  iapply (part47 I K c _ _) $$ [HS B22]
  · isplitr; · iexact HC
    isplitl [HS]; · iexact HS
    iexact B22
  iintro %w47_0 HS
  iapply (part48 I K c _ _) $$ [HS]
  · isplitr; · iexact HC
    iexact HS
  iintro %w48_0 HS B02
  iapply (part49 I K c _ _) $$ [HS B02]
  · isplitr; · iexact HC
    isplitl [HS]; · iexact HS
    iexact B02
  iintro %w49_0 HS B06
  iapply (part50 I K c _ _) $$ [HS B06]
  · isplitr; · iexact HC
    isplitl [HS]; · iexact HS
    iexact B06
  iintro  HS
  iapply (part51 I K c _) $$ [HS]
  · isplitr; · iexact HC
    iexact HS
  iintro %w51_0 HS
  iapply (part52 I K c _ _) $$ [HS]
  · isplitr; · iexact HC
    iexact HS
  iintro %w52_0 %w52_1 %w52_2 HS
  iapply (part53 I K c _ _ _ _) $$ [HS]
  · isplitr; · iexact HC
    iexact HS
  iintro %w53_0 HS
  iapply (part54 I K c _ _) $$ [HS]
  · isplitr; · iexact HC
    iexact HS
  iintro %w54_0 HS B23
  iapply (part55 I K c _ _) $$ [HS B23]
  · isplitr; · iexact HC
    isplitl [HS]; · iexact HS
    iexact B23
  iintro %w55_0 %w55_1 HS
  iapply (part56 I K c _ _ _) $$ [HS]
  · isplitr; · iexact HC
    iexact HS
  iintro %w56_0 HS
  iapply (part57 I K c _ _) $$ [HS]
  · isplitr; · iexact HC
    iexact HS
  iintro %w57_0 HS
  iapply (part58 I K c _ _) $$ [HS]
  · isplitr; · iexact HC
    iexact HS
  iintro %w58_0 HS
  iapply (part59 I K c _ _) $$ [HS]
  · isplitr; · iexact HC
    iexact HS
  iintro  HS
  iapply (part60 I K c _) $$ [HS]
  · isplitr; · iexact HC
    iexact HS
  iintro %w60_0 %w60_1 %w60_2 HS
  simp only [Prog.pure_eq_ret]
  iapply WP_ret
  iapply Hk $$ HS
  unfold mid
  isplitl [HzB]; · iexact HzB
  isplitl [Hz]; · iexact Hz
  isplitl [Ht]; · iexact Ht
  isplitl [A00]; · iexact A00
  isplitl [A10]; · iexact A10
  isplitl [A20]; · iexact A20
  isplitl [Hwv]; · iexact Hwv
  isplitl [Hwh]; · iexact Hwh
  iexact Hwb

set_option maxHeartbeats 4000000 in
/-- The whole body: its start and its end. -/
theorem run_body (fa fo : Vec F S2048x1024 .bf16) (fw : Vec F S1024x1024 .f32) (fb : Vec F S1024x1024 .bf16) (fr : Vec F S7x256x1024 .bf16) (W : Waits sig Unit)
    {Q : PUnit → sProp (MT nD τ sig Unit (Elt F) ℕ UU ℕ)} :
    iprop(Ctx I K ∗ owes (c : Thread nD τ) (barOwe c) W ∗ dutyTok ER (barCell (pt (km 0) c)) 0 (0 : DD) ∗ dutyTok ER (barCell (pt (km 1) c)) 0 (1 : DD) ∗ dutyTok ER (barCell (pt (km 2) c)) 0 (2 : DD) ∗ dutyTok ER (wCell c) 0 (0 : DD) ∗ cred (tallyAt (barCell c) () 3) ∗ atPos ER (barCell c) 0 (∅ : Finset DD) 0 ∗ atPos ER (wCell c) 0 (∅ : Finset DD) 0 ∗ bigSepL sendL (toks2 (F := F) c) ∗ bigSepL waitL (todo (F := F) c 0) ∗ tW c (I.T c) ∗ accW c fa ∗ wVm c fw ∗ wbW c fb ∗ rcvW c fr ∗ outW c fo ∗ wHbm c (I.W c))
      ⊢ iprop((St I c 42 84 -∗ mid I c fo -∗ Q PUnit.unit) -∗ WP (F := F) c (cc0_body (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Q) := by
  rw [cc0_body_eq_skeleton]; unfold cc0_body_skel
  iintro H Hk
  icases H with ⟨#HC, H⟩
  iapply WP_bind
  iapply (run63 I K c fa fo fw fb fr W) $$ [H]
  · isplitr; · iexact HC
    iexact H
  iintro %v %w0 %w1 %w2 HS HM

  iapply (part61 I K c _ _ _ _) $$ [HS]
  · isplitr; · iexact HC
    iexact HS
  iintro %w61_0 HS
  iapply (part62 I K c _ _) $$ [HS]
  · isplitr; · iexact HC
    iexact HS
  iintro %w62_0 %w62_1 HS
  simp only [Prog.lift, Prog.bind_op, Prog.bind_ret, Prog.pure_eq_ret]
  iapply (wait_dep I K c 42 82 41 80 rfl rfl (by decide) (by decide) rfl rfl) $$ [HS]
  · isplitr; · iexact HC
    iexact HS
  iintro HS
  iapply (wait_arr I K c 42 83 41 80 rfl rfl (by decide) rfl rfl rfl) $$ [HS]
  · isplitr; · iexact HC
    iexact HS
  iintro HS
  iapply WP_ret
  iapply Hk $$ HS HM

end Cube

end
-- ==== Proof.Deal.lean ====
/-
# The launch: semaphores, tokens and credits dealt to the devices
-/
module

public import proofs.«01_k».proof.Proof.Body
public import Idealize.ShloMosaic.Lib.Pipeline.Launch
public import Idealize.ShloMosaic.Lib.Pipeline.Kit

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F)

/-! ## The semaphores, one by one -/

/-- The semaphore of a half of a wait. -/
def hsem (y : X × Bool) : DmaSem sig := if y.2 then arrS y.1 else depS y.1
/-- The kernel's own semaphores. -/
def osem (j : Fin 85) : SemLoc sig := .dma ⟨j.val + 2, by have := j.isLt; show _ < 87; omega⟩
def oi (y : X × Bool) : Fin 85 := ⟨((hsem y).val - 2) % 85, Nat.mod_lt _ (by decide)⟩

theorem role_hsem (y : X × Bool) : role (hsem y) = if y.2 then .arr y.1 else .dep y.1 := by
  obtain ⟨x, b⟩ := y
  cases b
  · exact role_dep x
  · exact role_arr x
theorem hsem_inj : Function.Injective hsem := by
  rintro ⟨x, b⟩ ⟨x', b'⟩ h
  have e := congrArg role h
  rw [role_hsem, role_hsem] at e
  cases b <;> cases b' <;> simp_all
theorem hsem_ne_w (y : X × Bool) : hsem y ≠ wS := fun h => by
  have e := congrArg role h
  rw [role_hsem, role_w] at e
  obtain ⟨x, b⟩ := y
  cases b <;> simp_all
theorem hcell_eq (c : Dev nD) (y : X × Bool) : hcell c y = ((c : Thread nD τ), .dma (hsem y)) := by
  obtain ⟨x, b⟩ := y
  cases b <;> rfl
theorem osem_oi : ∀ y : X × Bool, osem (oi y) = .dma (hsem y) := by decide
theorem kq_hsem (c : Dev nD) (y : X × Bool) : kcell (c, kq (hsem y)) = hcell c y := by
  rw [hcell_eq]; unfold kcell
  rw [csem_kq _ (two_le _ (by rw [role_hsem]; obtain ⟨x, b⟩ := y; cases b <;> simp))]
theorem kq_w (c : Dev nD) : kcell (c, kq wS) = wCell c := by
  unfold kcell
  rw [csem_kq _ (two_le _ (by rw [role_w]; simp))]

def cellL : List (Fin 86) := 0 :: kq wS :: waitL.map fun y => kq (hsem y)
theorem cellL_univ : (Finset.univ : Finset (Fin 86)) = cellL.toFinset := by decide
theorem cellL_nodup : cellL.Nodup := by decide
def ownLst : List (Fin 85) := 84 :: waitL.map oi
theorem ownLst_univ : (Finset.univ : Finset (Fin 85)) = ownLst.toFinset := by decide
theorem ownLst_nodup : ownLst.Nodup := by decide

omit [FloatOps F] in
theorem cells_eq (c : Dev nD) (Φ : GSem nD τ sig → sProp 𝕄) :
    (bigSep Finset.univ fun k : Fin 86 => Φ (kcell (c, k))) = iprop(Φ (barCell c) ∗ Φ (wCell c) ∗ bigSepL waitL fun y => Φ (hcell c y)) := by
  rw [bigSep_univ_eq_bigSepL cellL cellL_univ cellL_nodup]
  unfold cellL
  rw [bigSepL_cons', bigSepL_cons', bigSepL_map]
  simp only [kq_hsem, kq_w]
  rfl

omit [FloatOps F] in
theorem own0_eq (c : Dev nD) : (Pipeline.ownSems0 (Ix := Unit) (Name := ℕ) (U := UU) (Lvl := ℕ) (Val := Elt F) (τ := τ) osem c : sProp 𝕄)
    = iprop(semVal (wCell c) 0 ∗ bigSepL waitL fun y => semVal (hcell c y) 0) := by
  rw [Pipeline.ownSems0_eq_of_list c osem ownLst ownLst_univ ownLst_nodup]
  unfold ownLst
  rw [bigSepL_cons', bigSepL_map]
  simp only [osem_oi, hcell_eq]
  rfl

omit [FloatOps F] in
theorem un0_eq (c : Dev nD) : (unscopedSems0 c : sProp 𝕄) = semVal (barCell c) 0 := by
  unfold unscopedSems0; rw [bigSep_eq_bigSepL_of_eq [SemLoc.reg barS] (by decide) (by decide)]; rfl

/-! ## Cells and tokens of the launch -/

theorem kcell_inj : Function.Injective (kcell : Dev nD × Fin 86 → GSem nD τ sig) := by
  rintro ⟨c, k⟩ ⟨c', k'⟩ h
  have h1 : c = c' := congrArg (fun g : GSem nD τ sig => g.1.1) h
  have h2 : csem k = csem k' := congrArg Prod.snd h
  have h3 : k = k' := by
    unfold csem at h2
    split_ifs at h2 with a b
    · exact Fin.ext (a.trans b.symm)
    · injection h2 with h2
      have := congrArg Fin.val h2
      dsimp only at this
      exact Fin.ext (by omega)
  rw [h1, h3]
def cubeCells : Finset (GSem nD τ sig) := Finset.univ.map ⟨kcell, kcell_inj⟩

/-- A device's duties: three at the barrier, one of the weights' copy, two of each transfer. -/
abbrev TI : Type := Fin 3 ⊕ (Unit ⊕ (X × Bool))
def tk : TI → SemLoc sig × DD
  | .inl e => (.reg barS, e)
  | .inr (.inl _) => (.dma wS, 0)
  | .inr (.inr y) => (.dma (hsem y), 0)
theorem tk_inj : Function.Injective tk := by
  rintro (e | ⟨⟩ | y) (e' | ⟨⟩ | y') h
  · exact congrArg Sum.inl (congrArg Prod.snd h)
  · exact absurd (congrArg Prod.fst h) (by simp [tk])
  · exact absurd (congrArg Prod.fst h) (by simp [tk])
  · exact absurd (congrArg Prod.fst h) (by simp [tk])
  · rfl
  · have := congrArg Prod.fst h
    dsimp only [tk] at this
    injection this with this
    exact absurd this.symm (hsem_ne_w y')
  · exact absurd (congrArg Prod.fst h) (by simp [tk])
  · have := congrArg Prod.fst h
    dsimp only [tk] at this
    injection this with this
    exact absurd this (hsem_ne_w y)
  · have := congrArg Prod.fst h
    dsimp only [tk] at this
    injection this with this
    rw [hsem_inj this]
def tokAt (t : Dev nD × TI) : GSem nD τ sig × ℕ × DD := (((t.1 : Thread nD τ), (tk t.2).1), 0, (tk t.2).2)
theorem tokAt_inj : Function.Injective tokAt := by
  rintro ⟨c, t⟩ ⟨c', t'⟩ h
  have h1 : c = c' := congrArg (fun x : GSem nD τ sig × ℕ × DD => x.1.1.1) h
  have h2 : (tk t) = tk t' := Prod.ext (congrArg (fun x : GSem nD τ sig × ℕ × DD => x.1.2) h) (congrArg (fun x : GSem nD τ sig × ℕ × DD => x.2.2) h)
  rw [h1, tk_inj h2]
def cubeToks : Finset (GSem nD τ sig × ℕ × DD) := Finset.univ.map ⟨tokAt, tokAt_inj⟩

def u₀ : UU := (initOf (Pipeline.cells cfgs cellOf_inj) (Pipeline.launchToks cfgs cellOf_inj), initOf cubeCells cubeToks)

/-- The duty tokens of a device's own cells; -/
def toks (c : Dev nD) : sProp 𝕄 :=
  iprop((bigSep Finset.univ fun e : Fin 3 => dutyTok ER (barCell c) 0 (e : DD)) ∗ dutyTok ER (wCell c) 0 (0 : DD)
    ∗ bigSep Finset.univ fun x : X => iprop(dutyTok ER (depCell x c) 0 (0 : DD) ∗ dutyTok ER (arrCell x c) 0 (0 : DD)))
/-- of the duties it pays. -/
def payToks (c : Dev nD) : sProp 𝕄 :=
  iprop((bigSep Finset.univ fun e : Fin 3 => dutyTok ER (barCell (pt (km e) c)) 0 (e : DD)) ∗ dutyTok ER (wCell c) 0 (0 : DD)
    ∗ bigSep Finset.univ fun x : X => toks2 (F := F) c x)

/-- What the launch deals a device at first. -/
def G (c : Dev nD) : sProp 𝕄 :=
  iprop((bigSep Finset.univ fun k : Fin 86 => roundState ER (Rd I) (kcell (c, k)) 0)
    ∗ (bigSep Finset.univ fun k : Fin 86 => iprop(atPos ER (kcell (c, k)) 0 (∅ : Finset DD) 0 ∗ reached ER (kcell (c, k)) 0)) ∗ toks (F := F) c)
/-- What stays with a device. -/
def lin (c : Dev nD) : sProp 𝕄 :=
  iprop((bigSep Finset.univ fun k : Fin 86 => atPos ER (kcell (c, k)) 0 (∅ : Finset DD) 0) ∗ payToks (F := F) c)
/-- What the step over all the devices makes of it. -/
def G' (c : Dev nD) : sProp 𝕄 := iprop(∃ K, records I K ∗ lin (F := F) c)

omit [FloatOps F] in
theorem toks_eq (c : Dev nD) : (bigSep Finset.univ fun t : TI => (dutyTok ER (tokAt (c, t)).1 (tokAt (c, t)).2.1 (tokAt (c, t)).2.2 : sProp 𝕄)) = toks c := by
  rw [bigSep_univ_sum, bigSep_univ_sum, bigSep_univ_prod]
  unfold toks
  have e1 : ∀ Φ : Unit → sProp 𝕄, bigSep Finset.univ Φ = Φ () := fun Φ => bigSep_univ_eq_bigSepL [()] (by decide) (by decide) Φ
  have e2 : ∀ Φ : Bool → sProp 𝕄, bigSep Finset.univ Φ = iprop(Φ false ∗ Φ true) := fun Φ => bigSep_univ_eq_bigSepL [false, true] (by decide) (by decide) Φ
  simp only [e1, e2]
  rfl

theorem fund_cube : BI.own (ER (initOf cubeCells cubeToks)) ⊢ (|==> bigSep Finset.univ (G I) : sProp 𝕄) := by
  have hX (Φ : GSem nD τ sig → sProp 𝕄) : bigSep cubeCells Φ = bigSep Finset.univ fun c : Dev nD => bigSep Finset.univ fun k : Fin 86 => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks (F := F) c := by
    unfold cubeToks; rw [bigSep_map, bigSep_univ_prod]
    exact bigSep_congr fun c _ => toks_eq c
  iintro HX
  imod (Rounds.fund ER (Rd I) cubeCells cubeToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem alloc_dev (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k => iprop(atPos ER (kcell (c, k)) 0 (∅ : Finset DD) 0 ∗ reached ER (kcell (c, k)) 0)) ∗ toks (F := F) c) := by
  unfold G
  rw [own0_eq, un0_eq]
  iintro ⟨⟨Hw, Hl⟩, Hb, Hst, Hat, Htok⟩
  ihave Hv := (Entails.of_eq (cells_eq c fun g => semVal g 0).symm) $$ [Hw Hl Hb]
  · isplitl [Hb]; · iexact Hb
    isplitl [Hw] <;> iassumption
  imod (show iprop((bigSep Finset.univ fun k : Fin 86 => semVal (kcell (c, k)) 0) ∗ bigSep Finset.univ fun k : Fin 86 => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def ptE (k : Fin 8) : Dev nD ≃ Dev nD := ⟨pt k, pt k, pt_pt k, pt_pt k⟩

omit [FloatOps F] in
/-- The tokens go to those who pay: a barrier's and an arrival's across the cube. -/
theorem toks_around : (bigSep Finset.univ fun c : Dev nD => (toks c : sProp 𝕄)) = bigSep Finset.univ fun c : Dev nD => payToks c := by
  unfold toks payToks toks2
  simp only [bigSep_sep']
  congr 1
  · rw [bigSep_univ_comm, bigSep_univ_comm (fun (c : Dev nD) (e : Fin 3) => (dutyTok ER (barCell (pt (km e) c)) 0 (e : DD) : sProp 𝕄))]
    exact bigSep_congr fun e _ => bigSep_univ_equiv (ptE (km e)) (fun c : Dev nD => (dutyTok ER (barCell c) 0 (e : DD) : sProp 𝕄))
  · congr 2
    rw [bigSep_univ_comm, bigSep_univ_comm (fun (c : Dev nD) (x : X) => (dutyTok ER (arrCell x (dv x c)) 0 (0 : DD) : sProp 𝕄))]
    exact bigSep_congr fun x _ => bigSep_univ_equiv (ptE (mk x)) (fun c : Dev nD => (dutyTok ER (arrCell x c) 0 (0 : DD) : sProp 𝕄))

theorem regroup :
    (bigSep Finset.univ fun c : Dev nD => iprop((bigSep Finset.univ fun k => iprop(∃ κ : ℕ, cellInv ER (Rd I) κ (kcell (c, k))))
          ∗ (bigSep Finset.univ fun k => iprop(atPos ER (kcell (c, k)) 0 (∅ : Finset DD) 0 ∗ reached ER (kcell (c, k)) 0)) ∗ toks (F := F) c) : sProp 𝕄)
      ⊢ bigSep Finset.univ (G' I) := by
  rw [bigSep_sep', bigSep_sep', ← bigSep_univ_prod (fun ck : Dev nD × Fin 86 => iprop(∃ κ : ℕ, cellInv ER (Rd I) κ (kcell ck))),
    bigSep_congr (s := Finset.univ) (fun (c : Dev nD) _ => bigSep_sep' Finset.univ (fun k : Fin 86 => (atPos ER (kcell (c, k)) 0 (∅ : Finset DD) 0 : sProp 𝕄)) (fun k => reached ER (kcell (c, k)) 0)),
    bigSep_sep', ← bigSep_univ_prod (fun ck : Dev nD × Fin 86 => (reached ER (kcell ck) 0 : sProp 𝕄)), toks_around]
  iintro ⟨HI, ⟨Hat, HR⟩, Htok⟩
  ihave HK := (BI.bigSep_exists_pi Finset.univ (fun (ck : Dev nD × Fin 86) (κ : ℕ) => (cellInv ER (Rd I) κ (kcell ck) : sProp 𝕄))) $$ HI
  icases HK with ⟨%K, HI⟩
  iapply (bigSep_with_persistent (S := Finset.univ) (R := records I K) (Φ := lin (F := F)) (Ψ := G' I) fun c _ => by
    unfold G'
    iintro ⟨HR, HL⟩
    iexists K
    isplitl [HR] <;> iassumption)
  isplitl [HI HR]
  · unfold records
    rw [bigSep_sep']
    isplitl [HI] <;> iassumption
  · unfold lin
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => alloc_dev I c).trans (bigSep_fupd _ _)).trans (BI.fupd_mono (regroup I))

/-! ## Credits -/

theorem arr_eq {x y : X} {c d : Dev nD} (h : arrCell x c = arrCell y d) : x = y ∧ c = d := by
  have h1 : c = d := congrArg (fun g : GSem nD τ sig => g.1.1) h
  have h2 : SemLoc.dma (arrS x) = (SemLoc.dma (arrS y) : SemLoc sig) := congrArg Prod.snd h
  injection h2 with h2
  have e := congrArg role h2
  rw [role_arr, role_arr] at e
  injection e with e
  exact ⟨e, h1⟩

theorem owe_arr (d c : Dev nD) (x : X) (l : List X) (hl : l.Nodup) : owe d l (arrCell x c) () = if x ∈ l ∧ d = dv x c then NX x else 0 := by
  induction l with
  | nil => rw [if_neg (fun h => by cases h.1)]; rfl
  | cons y l ih =>
    have e : owe d (y :: l) (arrCell x c) () = owe d l (arrCell x c) () + tallyAt (arrCell y (dv y d)) () (NX y) (arrCell x c) () := rfl
    obtain ⟨hy, hl⟩ := List.nodup_cons.mp hl
    rw [e, ih hl, tallyAt_apply]
    by_cases hxy : x = y
    · subst hxy
      rw [if_neg (fun h => hy h.1), Nat.zero_add]
      by_cases hd : d = dv x c
      · subst hd
        rw [if_pos ⟨by rw [dv_dv], rfl⟩, if_pos ⟨List.mem_cons_self, rfl⟩]
      · rw [if_neg (fun h => hd (by rw [(arr_eq h.1).2, dv_dv])), if_neg (fun h => hd h.2)]
    · rw [if_neg (c := arrCell x c = arrCell y (dv y d) ∧ () = ()) (fun h => hxy (arr_eq h.1).1), Nat.add_zero]
      by_cases hx : x ∈ l ∧ d = dv x c
      · rw [if_pos hx, if_pos ⟨List.mem_cons_of_mem _ hx.1, hx.2⟩]
      · rw [if_neg hx, if_neg (fun h => hx ⟨(List.mem_cons.mp h.1).resolve_left hxy, h.2⟩)]

theorem owe_bar (d c : Dev nD) (l : List X) : owe d l (barCell c) () = 0 := by
  rcases Nat.eq_zero_or_pos (owe d l (barCell c) ()) with h | h
  · exact h
  · obtain ⟨x, -, e⟩ := owe_pos h
    exact absurd (congrArg Prod.snd e) (by intro h; cases h)

theorem bar_eq {c d : Dev nD} (h : barCell c = barCell d) : c = d := congrArg (fun g : GSem nD τ sig => g.1.1) h

theorem tally_bar (k : Fin 8) (d c : Dev nD) : tallyAt (barCell (pt k d)) () 1 (barCell c) () = if d = pt k c then 1 else 0 := by
  rw [tallyAt_apply]
  by_cases h : d = pt k c
  · subst h; rw [if_pos ⟨by rw [pt_pt], rfl⟩, if_pos rfl]
  · rw [if_neg (fun e => h (by rw [bar_eq e.1, pt_pt])), if_neg h]

theorem tally_bar_arr (k : Fin 8) (d c : Dev nD) (x : X) : tallyAt (barCell (pt k d)) () 1 (arrCell x c) () = 0 := by
  rw [tallyAt_apply, if_neg]
  intro h
  exact absurd (congrArg Prod.snd h.1) (by intro h; cases h)

theorem owed_bar (d c : Dev nD) : barOwe d (barCell c) () = (if d = pt (km 2) c then 1 else 0) + (if d = pt (km 1) c then 1 else 0) + (if d = pt (km 0) c then 1 else 0) := by
  have e : barOwe d (barCell c) () = owe d sendL (barCell c) () + tallyAt (barCell (pt (km 2) d)) () 1 (barCell c) ()
    + tallyAt (barCell (pt (km 1) d)) () 1 (barCell c) () + tallyAt (barCell (pt (km 0) d)) () 1 (barCell c) () := rfl
  rw [e, owe_bar, tally_bar, tally_bar, tally_bar, Nat.zero_add]

theorem mem_sendL : ∀ x : X, x ∈ sendL := by decide

theorem owed_arr (d c : Dev nD) (x : X) : barOwe d (arrCell x c) () = if d = dv x c then NX x else 0 := by
  have e : barOwe d (arrCell x c) () = owe d sendL (arrCell x c) () + tallyAt (barCell (pt (km 2) d)) () 1 (arrCell x c) ()
    + tallyAt (barCell (pt (km 1) d)) () 1 (arrCell x c) () + tallyAt (barCell (pt (km 0) d)) () 1 (arrCell x c) () := rfl
  rw [e, owe_arr _ _ _ _ sendL_nodup, tally_bar_arr, tally_bar_arr, tally_bar_arr, Nat.add_zero]
  simp only [mem_sendL, true_and]

theorem launch_bar (c : Dev nD) :
    tallyOn (barCell c) (launchCredit (Pipeline.owing barOwe) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pt (km 2) c) fun _ => 1, Finset.sum_ite_eq' Finset.univ (pt (km 1) c) fun _ => 1, Finset.sum_ite_eq' Finset.univ (pt (km 0) c) fun _ => 1,
    if_pos (Finset.mem_univ _), if_pos (Finset.mem_univ _), if_pos (Finset.mem_univ _)]

theorem launch_arr (c : Dev nD) (x : X) :
    tallyOn (arrCell x c) (launchCredit (Pipeline.owing barOwe) 0 (arrCell x c)) = (tallyAt (arrCell x c) () (NX x) : CellTallies nD τ sig Unit) := by
  unfold tallyAt; refine congrArg _ (Finsupp.ext fun u => ?_); cases u
  rw [Pipeline.launchCredit_owing, Finsupp.single_eq_same, Finset.sum_congr rfl fun d _ => owed_arr d c x, Finset.sum_ite_eq' Finset.univ (dv x c) fun _ => NX x,
    if_pos (Finset.mem_univ _)]

def credSems : List (SemLoc sig) := .reg barS :: sendL.map fun x => .dma (arrS x)
theorem credSems_nodup : credSems.Nodup := by
  refine List.nodup_cons.mpr ⟨fun h => ?_, sendL_nodup.map fun x y h => ?_⟩
  · obtain ⟨x, -, e⟩ := List.mem_map.mp h
    cases e
  · injection h with h
    have e := congrArg role h
    rw [role_arr, role_arr] at e
    injection e

omit [FloatOps F] in
theorem sub_list {A : Type} [Fintype A] [DecidableEq A] (l : List A) (hn : l.Nodup) (Φ : A → sProp 𝕄) : bigSep Finset.univ Φ ⊢ bigSepL l Φ := by
  rw [← bigSep_eq_bigSepL l hn]
  exact bigSep_subset (Finset.subset_univ _)

omit [FloatOps F] in
theorem cred_list (c : Dev nD) : bigSepL credSems (fun sm => (cred (tallyOn ((c : Thread nD τ), sm) (launchCredit (Pipeline.owing barOwe) 0 ((c : Thread nD τ), sm))) : sProp 𝕄))
    = iprop(cred (tallyAt (barCell c) () 3) ∗ bigSepL sendL fun x => cred (tallyAt (arrCell x c) () (NX x))) := by
  have e : (fun x => (cred (tallyOn ((c : Thread nD τ), .dma (arrS x)) (launchCredit (Pipeline.owing barOwe) 0 ((c : Thread nD τ), .dma (arrS x)))) : sProp 𝕄))
      = fun x => cred (tallyAt (arrCell x c) () (NX x)) := funext fun x => congrArg cred (launch_arr c x)
  unfold credSems
  rw [bigSepL_cons', bigSepL_map, e]
  exact congrArg (fun P : sProp 𝕄 => iprop(P ∗ bigSepL sendL fun x => cred (tallyAt (arrCell x c) () (NX x)))) (congrArg cred (launch_bar c))

omit [FloatOps F] in
theorem creds (c : Dev nD) : (Pipeline.launchCred barOwe c : sProp 𝕄)
    ⊢ iprop(cred (tallyAt (barCell c) () 3) ∗ bigSepL sendL fun x => cred (tallyAt (arrCell x c) () (NX x))) := by
  rw [← cred_list]
  unfold Pipeline.launchCred
  exact sub_list credSems credSems_nodup _

/-- The halves of the waits as a device finds them. -/
theorem todo_intro (c : Dev nD) : iprop(bigSepL waitL (fun y => atPos ER (hcell c y) 0 (∅ : Finset DD) 0) ∗ bigSepL sendL fun x => cred (tallyAt (arrCell x c) () (NX x)))
    ⊢ (bigSepL waitL (todo (F := F) c 0) : sProp 𝕄) := by
  have e2 : ∀ Φ : Bool → sProp 𝕄, bigSep Finset.univ Φ = iprop(Φ true ∗ Φ false) := fun Φ => bigSep_univ_eq_bigSepL [true, false] (by decide) (by decide) Φ
  have e : bigSepL sendL (fun x => (cred (tallyAt (arrCell x c) () (NX x)) : sProp 𝕄))
      ⊢ bigSepL waitL fun y => if y.2 then cred (tallyAt (arrCell y.1 c) () (NX y.1)) else iprop(emp) := by
    rw [← bigSep_univ_eq_bigSepL sendL sendL_univ sendL_nodup, ← bigSep_univ_eq_bigSepL waitL waitL_univ waitL_nodup, bigSep_univ_prod]
    refine bigSep_mono fun x _ => ?_
    rw [e2]
    show (cred (tallyAt (arrCell x c) () (NX x)) : sProp 𝕄) ⊢ iprop(cred (tallyAt (arrCell x c) () (NX x)) ∗ emp)
    iintro H
    isplitl [H]; · iexact H
    iempintro
  refine BIBase.Entails.trans (sep_mono_right e) ?_
  rw [← bigSepL_sep waitL waitL_nodup]
  refine bigSepL_mono fun y _ => BIBase.Entails.of_eq ?_
  obtain ⟨x, b⟩ := y
  cases b
  · rw [todo_dep_not c 0 x (by simp)]; rfl
  · rw [todo_arr]; rfl

end Cube

end
-- ==== Proof.Finish.lean ====
/-
# The end: the buffers whole again, the counters at zero
-/
module

public import proofs.«01_k».proof.Proof.Setup

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 86 → ℕ) (c : Dev nD) {α : Type} {Q : α → sProp (MT nD τ sig Unit (Elt F) ℕ UU ℕ)}

/-- What a half of a wait leaves besides the counter. -/
def leave (y : X × Bool) : sProp 𝕄 :=
  if y.2 then (if keep y.1 then iprop(emp) else dstB I y.1 c) else srcB I y.1 c

theorem keep_lo : ∀ x ∈ loL, keep x = false := by decide

theorem leave_list : bigSepL waitL (leave I c) = iprop(bigSepL loL (fun x => iprop(leave I c (x, false) ∗ leave I c (x, true)))
    ∗ bigSepL hiL (fun x => iprop(leave I c (x, false) ∗ leave I c (x, true)))) := by
  rw [← bigSep_univ_eq_bigSepL waitL waitL_univ waitL_nodup, bigSep_univ_prod, ← bigSepL_append, ← bigSep_univ_eq_bigSepL _ X_univ X_nodup]
  congr 1
  funext x
  exact bigSep_univ_eq_bigSepL [false, true] (by decide) (by decide) _

theorem leave_lo : bigSepL loL (fun x => iprop(leave I c (x, false) ∗ leave I c (x, true)))
    ⊢ iprop(bigSepL loL (fun x => iprop(∃ f, accB (F := F) (pp x) (sk x) c f)) ∗ bigSepL loL (fun x => iprop(∃ f, rcvB (F := F) x c f))) := by
  rw [← bigSepL_sep loL (List.nodup_append.mp X_nodup).1]
  refine bigSepL_mono fun x hx => ?_
  unfold leave
  simp only [Bool.false_eq_true, if_false, if_true, keep_lo x hx]
  unfold srcB dstB
  rw [if_pos (lo_lt x hx), if_pos (lo_lt x hx)]
  iintro ⟨H1, H2⟩
  isplitl [H1]
  · iexists _; iexact H1
  · iexists _; iexact H2

theorem gather0 : bigSepL ([21, 22, 23, 24, 25, 26, 27] : List X) (fun x => iprop(leave I c (x, false) ∗ leave I c (x, true)))
    ⊢ iprop(outB 0 0 c fullShare (OUT I) ∗ bigSepL ([21, 22, 23, 24, 25, 26, 27] : List X) (fun x => outB (pp x) (rk x) c fullShare (OUT I))) := by
  refine BIBase.Entails.trans (Q := iprop((outB 0 0 c fullShare.left (OUT I) ∗ emp) ∗ (outB 0 0 c fullShare.right.left (OUT I) ∗ emp) ∗ (outB 0 4 c fullShare.left (OUT I) ∗ emp) ∗ (outB 0 0 c fullShare.right.right (OUT I) ∗ outB 0 1 c fullShare (OUT I)) ∗ (outB 0 4 c fullShare.right (OUT I) ∗ outB 0 5 c fullShare (OUT I)) ∗ (outB 0 2 c fullShare (OUT I) ∗ outB 0 3 c fullShare (OUT I)) ∗ (outB 0 6 c fullShare (OUT I) ∗ outB 0 7 c fullShare (OUT I)))) BIBase.Entails.rfl ?_
  refine BIBase.Entails.trans (Q := iprop(outB 0 0 c fullShare (OUT I) ∗ outB 0 4 c fullShare (OUT I) ∗ outB 0 2 c fullShare (OUT I) ∗ outB 0 6 c fullShare (OUT I) ∗ outB 0 1 c fullShare (OUT I) ∗ outB 0 5 c fullShare (OUT I) ∗ outB 0 3 c fullShare (OUT I) ∗ outB 0 7 c fullShare (OUT I))) ?_ BIBase.Entails.rfl
  iintro ⟨⟨S0, -⟩, ⟨S1, -⟩, ⟨S2, -⟩, ⟨S3, D3⟩, ⟨S4, D4⟩, ⟨S5, D5⟩, ⟨S6, D6⟩⟩
  ihave H0 := (out_three' c 0 0 (OUT I)) $$ [S0 S1 S3]
  · isplitl [S0]; · iexact S0
    isplitl [S1]; · iexact S1
    iexact S3
  ihave H1 := (out_two' c 0 4 (OUT I)) $$ [S2 S4]
  · isplitl [S2]; · iexact S2
    iexact S4
  isplitl [H0]; · iexact H0
  isplitl [H1]; · iexact H1
  isplitl [S5]; · iexact S5
  isplitl [S6]; · iexact S6
  isplitl [D3]; · iexact D3
  isplitl [D4]; · iexact D4
  isplitl [D5]; · iexact D5
  iexact D6

theorem gather1 : bigSepL ([28, 29, 30, 31, 32, 33, 34] : List X) (fun x => iprop(leave I c (x, false) ∗ leave I c (x, true)))
    ⊢ iprop(outB 1 0 c fullShare (OUT I) ∗ bigSepL ([28, 29, 30, 31, 32, 33, 34] : List X) (fun x => outB (pp x) (rk x) c fullShare (OUT I))) := by
  refine BIBase.Entails.trans (Q := iprop((outB 1 0 c fullShare.left (OUT I) ∗ emp) ∗ (outB 1 0 c fullShare.right.left (OUT I) ∗ emp) ∗ (outB 1 1 c fullShare.left (OUT I) ∗ emp) ∗ (outB 1 0 c fullShare.right.right (OUT I) ∗ outB 1 2 c fullShare (OUT I)) ∗ (outB 1 1 c fullShare.right (OUT I) ∗ outB 1 3 c fullShare (OUT I)) ∗ (outB 1 4 c fullShare (OUT I) ∗ outB 1 6 c fullShare (OUT I)) ∗ (outB 1 5 c fullShare (OUT I) ∗ outB 1 7 c fullShare (OUT I)))) BIBase.Entails.rfl ?_
  refine BIBase.Entails.trans (Q := iprop(outB 1 0 c fullShare (OUT I) ∗ outB 1 1 c fullShare (OUT I) ∗ outB 1 4 c fullShare (OUT I) ∗ outB 1 5 c fullShare (OUT I) ∗ outB 1 2 c fullShare (OUT I) ∗ outB 1 3 c fullShare (OUT I) ∗ outB 1 6 c fullShare (OUT I) ∗ outB 1 7 c fullShare (OUT I))) ?_ BIBase.Entails.rfl
  iintro ⟨⟨S0, -⟩, ⟨S1, -⟩, ⟨S2, -⟩, ⟨S3, D3⟩, ⟨S4, D4⟩, ⟨S5, D5⟩, ⟨S6, D6⟩⟩
  ihave H0 := (out_three' c 1 0 (OUT I)) $$ [S0 S1 S3]
  · isplitl [S0]; · iexact S0
    isplitl [S1]; · iexact S1
    iexact S3
  ihave H1 := (out_two' c 1 1 (OUT I)) $$ [S2 S4]
  · isplitl [S2]; · iexact S2
    iexact S4
  isplitl [H0]; · iexact H0
  isplitl [H1]; · iexact H1
  isplitl [S5]; · iexact S5
  isplitl [S6]; · iexact S6
  isplitl [D3]; · iexact D3
  isplitl [D4]; · iexact D4
  isplitl [D5]; · iexact D5
  iexact D6

theorem gather2 : bigSepL ([35, 36, 37, 38, 39, 40, 41] : List X) (fun x => iprop(leave I c (x, false) ∗ leave I c (x, true)))
    ⊢ iprop(outB 2 0 c fullShare (OUT I) ∗ bigSepL ([35, 36, 37, 38, 39, 40, 41] : List X) (fun x => outB (pp x) (rk x) c fullShare (OUT I))) := by
  refine BIBase.Entails.trans (Q := iprop((outB 2 0 c fullShare.left (OUT I) ∗ emp) ∗ (outB 2 0 c fullShare.right.left (OUT I) ∗ emp) ∗ (outB 2 2 c fullShare.left (OUT I) ∗ emp) ∗ (outB 2 0 c fullShare.right.right (OUT I) ∗ outB 2 4 c fullShare (OUT I)) ∗ (outB 2 2 c fullShare.right (OUT I) ∗ outB 2 6 c fullShare (OUT I)) ∗ (outB 2 1 c fullShare (OUT I) ∗ outB 2 5 c fullShare (OUT I)) ∗ (outB 2 3 c fullShare (OUT I) ∗ outB 2 7 c fullShare (OUT I)))) BIBase.Entails.rfl ?_
  refine BIBase.Entails.trans (Q := iprop(outB 2 0 c fullShare (OUT I) ∗ outB 2 2 c fullShare (OUT I) ∗ outB 2 1 c fullShare (OUT I) ∗ outB 2 3 c fullShare (OUT I) ∗ outB 2 4 c fullShare (OUT I) ∗ outB 2 6 c fullShare (OUT I) ∗ outB 2 5 c fullShare (OUT I) ∗ outB 2 7 c fullShare (OUT I))) ?_ BIBase.Entails.rfl
  iintro ⟨⟨S0, -⟩, ⟨S1, -⟩, ⟨S2, -⟩, ⟨S3, D3⟩, ⟨S4, D4⟩, ⟨S5, D5⟩, ⟨S6, D6⟩⟩
  ihave H0 := (out_three' c 2 0 (OUT I)) $$ [S0 S1 S3]
  · isplitl [S0]; · iexact S0
    isplitl [S1]; · iexact S1
    iexact S3
  ihave H1 := (out_two' c 2 2 (OUT I)) $$ [S2 S4]
  · isplitl [S2]; · iexact S2
    iexact S4
  isplitl [H0]; · iexact H0
  isplitl [H1]; · iexact H1
  isplitl [S5]; · iexact S5
  isplitl [S6]; · iexact S6
  isplitl [D3]; · iexact D3
  isplitl [D4]; · iexact D4
  isplitl [D5]; · iexact D5
  iexact D6

theorem hiL_eq : hiL = [21, 22, 23, 24, 25, 26, 27] ++ ([28, 29, 30, 31, 32, 33, 34] ++ [35, 36, 37, 38, 39, 40, 41]) := rfl

theorem out_parts : outW c (OUT I) = iprop((outB 0 0 c fullShare (OUT I) ∗ outB 1 0 c fullShare (OUT I) ∗ outB 2 0 c fullShare (OUT I))
    ∗ bigSepL ([21, 22, 23, 24, 25, 26, 27] : List X) (fun x => outB (pp x) (rk x) c fullShare (OUT I))
    ∗ bigSepL ([28, 29, 30, 31, 32, 33, 34] : List X) (fun x => outB (pp x) (rk x) c fullShare (OUT I))
    ∗ bigSepL ([35, 36, 37, 38, 39, 40, 41] : List X) (fun x => outB (pp x) (rk x) c fullShare (OUT I))) := by
  rw [outW_bands, outL, bigSepL_append, bigSepL_map, hiL_eq, bigSepL_append, bigSepL_append]
  rfl

theorem finish : iprop(St I c 42 84 ∗ accB 0 0 c (V0 I c) ∗ accB 1 0 c (V0 I c) ∗ accB 2 0 c (V0 I c))
    ⊢ iprop((∃ W, owes (c : Thread nD τ) (0 : CellTallies nD τ sig Unit) W) ∗ bigSepL waitL (fun y => semVal (hcell c y) 0)
      ∗ (∃ f, accW c f) ∗ (∃ f, rcvW c f) ∗ outW c (OUT I)) := by
  unfold St
  rw [show sendL.drop 42 = [] from rfl, show waitL.take 84 = waitL from rfl, show waitL.drop 84 = [] from rfl]
  rw [show done I c = fun y => iprop(semVal (hcell c y) 0 ∗ leave I c y) from rfl, bigSepL_sep waitL waitL_nodup, leave_list]
  iintro ⟨⟨HO, -, -, Hz, Hlo, Hhi⟩, A0, A1, A2⟩
  ihave Hlo := (leave_lo I c) $$ Hlo
  icases Hlo with ⟨Ha, Hr⟩
  ihave Hr := (rcvW_join c I) $$ Hr
  ihave Hhi := (Entails.of_eq (by rw [hiL_eq, bigSepL_append, bigSepL_append])) $$ Hhi
  icases Hhi with ⟨G0, G1, G2⟩
  ihave G0 := (gather0 I c) $$ G0
  ihave G1 := (gather1 I c) $$ G1
  ihave G2 := (gather2 I c) $$ G2
  icases G0 with ⟨O0, G0⟩
  icases G1 with ⟨O1, G1⟩
  icases G2 with ⟨O2, G2⟩
  isplitl [HO]; · iexact HO
  isplitl [Hz]; · iexact Hz
  isplitl [Ha A0 A1 A2]
  · iapply (accW_join c I)
    rw [accL, bigSepL_append, bigSepL_map]
    unfold ownL
    rw [bigSepL_cons', bigSepL_cons', bigSepL_singleton]
    isplitr [Ha]
    · isplitl [A0]; · iexists _; iexact A0
      isplitl [A1]; · iexists _; iexact A1
      iexists _; iexact A2
    · iexact Ha
  isplitl [Hr]; · iexact Hr
  rw [out_parts]
  isplitl [O0 O1 O2]
  · isplitl [O0]; · iexact O0
    isplitl [O1]; · iexact O1
    iexact O2
  isplitl [G0]; · iexact G0
  isplitl [G1]; · iexact G1
  iexact G2

end Cube

end
-- ==== Proof.Launch.lean ====
/-
# The run: every device's result, its inputs unchanged, the counters at zero
-/
module

public import proofs.«01_k».proof.Proof.Deal
public import proofs.«01_k».proof.Proof.Finish
public import Idealize.ShloMosaic.Lib.Pipeline.CollectiveSegs

@[expose] public section

noncomputable section

namespace Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, the counters at zero. -/
def s₀ : MemSt nD τ sig (Elt F) := ⟨m, fun _ => 0, ρ⟩

def t₀ : Fin cfg0.N := t0_0
theorem fin_N (t : Fin cfg0.N) : t = t₀ := fin_N0 t

/-- What the devices start from: each its part of the data, as staged, and the weights. -/
def tIn (c : Dev nD) : Vec F S2048x1024 .f32 := (win0_0.blk (0 : Fin 1)).view.read (Elt F) ((s₀ m ρ).mem ((c : Thread nD τ).loc main_arg0))
def inp : In F := ⟨tIn m ρ, fun c => m ((c : Thread nD τ).loc main_arg1)⟩

def scr (c : Dev nD) : sProp 𝕄 := Pipeline.scopedRest cfg0.spec c

def start (c : Dev nD) : sProp 𝕄 :=
  iprop(G' (inp m ρ) c ∗ levAts L lv ∗ (cred (tallyAt (barCell c) () 3) ∗ bigSepL sendL fun x => cred (tallyAt (arrCell x c) () (NX x)))
    ∗ wHbm c ((inp m ρ).W c))
def Φ₀ (c : Dev nD) : sProp 𝕄 := iprop(start m ρ c ∗ scr c)
def Φ₁ (c : Dev nD) : sProp 𝕄 :=
  iprop((unscopedSems0 c ∗ wHbm c ((inp m ρ).W c)) ∗ Pipeline.ownSems0 osem c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tIn m ρ c
    | ⟨1, _⟩ => OUT (inp m ρ)
  Φ t := match t with
    | ⟨0, _⟩ => Φ₀ m ρ c
    | ⟨_ + 1, _⟩ => Φ₁ m ρ c
  q _ := fullShare
  owed t := match t with
    | ⟨0, _⟩ => barOwe c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem fetch_0 (t : Fin cfg0.N) : (cfg0.win (0 : Fin 2)).fetch t = true := by rw [fin_N t]; rfl

omit [FloatOps F] in
theorem owns_whole (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-! ## The body -/

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

/-- What the transfers' part of the launch gives a device, in the form its body takes. -/
theorem lin_open (c : Dev nD) : iprop(lin c ∗ bigSepL sendL fun x => cred (tallyAt (arrCell x c) () (NX x)))
    ⊢ (iprop(dutyTok ER (barCell (pt (km 0) c)) 0 (0 : DD) ∗ dutyTok ER (barCell (pt (km 1) c)) 0 (1 : DD) ∗ dutyTok ER (barCell (pt (km 2) c)) 0 (2 : DD)
      ∗ dutyTok ER (wCell c) 0 (0 : DD) ∗ atPos ER (barCell c) 0 (∅ : Finset DD) 0 ∗ atPos ER (wCell c) 0 (∅ : Finset DD) 0
      ∗ bigSepL sendL (toks2 (F := F) c) ∗ bigSepL waitL (todo (F := F) c 0)) : sProp 𝕄) := by
  have e3 : ∀ Φ : Fin 3 → sProp 𝕄, bigSep Finset.univ Φ = iprop(Φ 0 ∗ Φ 1 ∗ Φ 2) := fun Φ => bigSep_univ_eq_bigSepL [0, 1, 2] (by decide) (by decide) Φ
  unfold lin payToks
  rw [cells_eq c (fun g => atPos ER g 0 (∅ : Finset DD) 0), e3, bigSep_univ_eq_bigSepL sendL sendL_univ sendL_nodup]
  iintro ⟨⟨⟨Hb, Hw, Hl⟩, ⟨H0, H1, H2⟩, Htw, Ht⟩, Hc⟩
  isplitl [H0]; · iexact H0
  isplitl [H1]; · iexact H1
  isplitl [H2]; · iexact H2
  isplitl [Htw]; · iexact Htw
  isplitl [Hb]; · iexact Hb
  isplitl [Hw]; · iexact Hw
  isplitl [Ht]; · iexact Ht
  iapply (todo_intro (F := F) c)
  isplitl [Hl] <;> iassumption

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (tIn m ρ c) ∗ stg c cc0_stg1_0 (OUT (inp m ρ)))

set_option maxHeartbeats 1000000 in
/-- The end of the body: what the last wait leaves makes what the launch asks back. -/
theorem body_end (c : Dev nD) (fo : Vec F S2048x1024 .bf16) : iprop(St (inp m ρ) c 42 84 ∗ mid (inp m ρ) c fo) ⊢ bodyPost m ρ c := by
  unfold mid bodyPost Φ₁ scr
  rw [scopedRest0_eq, own0_eq, un0_eq]
  iintro ⟨HS, HzB, Hzw, Ht, A0, A1, A2, Hwv, Hwh, Hwb⟩
  ihave H := (finish (inp m ρ) c) $$ [HS A0 A1 A2]
  · isplitl [HS]; · iexact HS
    isplitl [A0]; · iexact A0
    isplitl [A1] <;> iassumption
  icases H with ⟨⟨%W, HO⟩, Hz, ⟨%fa, Ha⟩, ⟨%fr, Hr⟩, Hout⟩
  isplitl [HzB Hwh Hzw Hz Ha Hr Hwv Hwb]
  · isplitl [HzB Hwh]
    · isplitl [HzB] <;> iassumption
    isplitl [Hzw Hz]
    · isplitl [Hzw] <;> iassumption
    isplitl [Ha]; · iexists fa; unfold accW; iexact Ha
    isplitl [Hwv]; · iexists ((inp m ρ).W c); unfold wVm; iexact Hwv
    isplitl [Hwb]; · iexists (wb (inp m ρ) c); unfold wbW; iexact Hwb
    iexists fr; unfold rcvW; iexact Hr
  unfold Dat.owesAt Pipeline.owesWithin
  rw [show (dats m ρ 0 c).owed t₀.succ = 0 from rfl]
  isplitl [HO]
  · iexists W
    isplitr; · ipureintro; exact fun _ _ => Or.inl trivial
    iexact HO
  isplitl [Ht]
  · iexists (tIn m ρ c); isplitr; · (ipureintro; rfl)
    unfold tW; iexact Ht
  iexists (OUT (inp m ρ)); isplitr; · (ipureintro; rfl)
  unfold outW; iexact Hout

set_option maxHeartbeats 1000000 in
theorem body_sound (c : Dev nD) :
    bodyPre m ρ c ⊢ WP (F := F) c (cc0_body (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (fun _ => bodyPost m ρ c) := by
  unfold bodyPre Φ₀ start G' scr
  rw [scopedRest0_eq]
  iintro ⟨⟨⟨⟨%K, HR, HL⟩, Hlev, ⟨Hcb, Hcs⟩, Hwh⟩, ⟨%fa, Ha⟩, ⟨%fw, Hw⟩, ⟨%fb, Hb⟩, ⟨%fr, Hr⟩⟩, Ho, ⟨%d0, %g0, %hg0, Hx⟩, ⟨%d1, %g1, %hg1, Hout⟩⟩
  have hx : g0 = tIn m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = barOwe c from rfl]
  ihave H := (lin_open (F := F) c) $$ [HL Hcs]
  · isplitl [HL] <;> iassumption
  icases H with ⟨H0, H1, H2, Htw, Hpb, Hpw, Ht2, Htd⟩
  iapply (run_body (inp m ρ) K c fa g1 fw fb fr W (Q := fun _ => bodyPost m ρ c)) $$ [HR Hlev HO H0 H1 H2 Htw Hcb Hpb Hpw Ht2 Htd Hx Ha Hw Hb Hr Hout Hwh]
  · isplitl [HR Hlev]
    · unfold Ctx
      isplitl [HR] <;> iassumption
    isplitl [HO]; · iexact HO
    isplitl [H0]; · iexact H0
    isplitl [H1]; · iexact H1
    isplitl [H2]; · iexact H2
    isplitl [Htw]; · iexact Htw
    isplitl [Hcb]; · iexact Hcb
    isplitl [Hpb]; · iexact Hpb
    isplitl [Hpw]; · iexact Hpw
    isplitl [Ht2]; · iexact Ht2
    isplitl [Htd]; · iexact Htd
    isplitl [Hx]; · unfold tW; iexact Hx
    isplitl [Ha]; · unfold accW; iexact Ha
    isplitl [Hw]; · unfold wVm; iexact Hw
    isplitl [Hb]; · unfold wbW; iexact Hb
    isplitl [Hr]; · unfold rcvW; iexact Hr
    isplitl [Hout]; · unfold outW; iexact Hout
    iexact Hwh
  iintro HS HM
  iapply (body_end m ρ c g1)
  isplitl [HS] <;> iassumption

set_option maxRecDepth 100000 in
/-- The body meets what the launch asks of it, on every device. -/
theorem body_obligation (c : Dev nD) : BodyObligation (dats (F := F) m ρ 0 c) (defs₀ (F := F)) 𝒱₀ () Set.univ := fun t => by
  rw [fin_N t]
  rw [bigSep_W, bigSep_W]
  simp only [owns_whole]
  have h := body_sound m ρ c
  unfold WP at h
  exact h

/-! ## The launch's conditions -/

theorem osem_scoped : ∀ j : Fin 85, (osem j).isScoped .tc = true := by decide +kernel
theorem osem_inj : Function.Injective osem := fun j k h => by
  unfold osem at h
  have e := congrArg Fin.val (SemLoc.dma.inj h)
  exact Fin.ext (Nat.add_right_cancel e)
theorem osem_disj : ∀ (j : Fin 85) (w : Fin 2) (s : Fin (cfg0.spec w).nbuf), osem j ≠ .dma ((cfg0.spec w).sem s) := by decide +kernel
theorem ownSemFacts : Pipeline.OwnSemFacts cfg0.spec osem := ⟨osem_scoped, osem_inj, osem_disj⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred barOwe c ∗ prngReg c (ρ c) ∗ G' (inp m ρ) c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start
  isplitl
  · isplitl [HG]; · iexact HG
    isplitl [Hlev]; · iexact Hlev
    isplitl [Hc]; · iexact Hc
    unfold wHbm; iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ scr
  iintro ⟨Hs, -, Hr⟩
  isplitl [Hs] <;> iassumption

theorem phi1_exit (c : Dev nD) :
    (dats m ρ 0 c).Φ (Fin.last cfg0.N) ⊢ iprop((unscopedSems0 c ∗ wHbm c ((inp m ρ).W c)) ∗ Pipeline.ownSems0 osem c ∗ Pipeline.scopedRest cfg0.spec c) := by
  rw [show (dats m ρ 0 c).Φ (Fin.last cfg0.N) = Φ₁ m ρ c from rfl]
  unfold Φ₁ scr
  exact BIBase.Entails.rfl

theorem barOwe_pos {c : Dev nD} {g : GSem nD τ sig} {u : Unit} (h : 0 < barOwe c g u) : (∃ x, g = arrCell x (dv x c)) ∨ ∃ d, g = barCell d := by
  have e : barOwe c g u = owe c sendL g u + tallyAt (barCell (pt (km 2) c)) () 1 g u
    + tallyAt (barCell (pt (km 1) c)) () 1 g u + tallyAt (barCell (pt (km 0) c)) () 1 g u := rfl
  by_contra hn
  rw [not_or, not_exists, not_exists] at hn
  rw [e, tallyAt_apply, tallyAt_apply, tallyAt_apply, if_neg (fun h => hn.2 _ h.1), if_neg (fun h => hn.2 _ h.1), if_neg (fun h => hn.2 _ h.1)] at h
  obtain ⟨x, -, hx⟩ := owe_pos (c := c) (l := sendL) (g := g) (u := u) h
  exact hn.1 x hx

theorem mayWait_stage (c : Dev nD) (q : DmaSem sig) (hq : role q = .no) (O : CellTallies nD τ sig Unit) (hO : O = barOwe c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases barOwe_pos hg with ⟨x, rfl⟩ | ⟨d, rfl⟩ <;> exact Finset.mem_singleton_self _)
      (fun p hp => by rw [Finset.mem_singleton.mp hp]; dsimp only [lv]; rw [hq])
      (fun g u hg => by
        rcases barOwe_pos hg with ⟨x, rfl⟩ | ⟨d, rfl⟩
        · rw [lv_arr]; unfold lvx; omega
        · rw [lv_bar]; exact Nat.one_pos)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The final states: the windows' arrays, the weights, the counters. -/
def Fin' (r : PUnit × MemSt nD τ sig (Elt F)) : Prop :=
  (∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)) ∧ r.2.sem = fun _ => 0

set_option maxRecDepth 100000 in
theorem run_main : θ_run defs (onTc (τ := τ) (main (F := F))) (s₀ m ρ) (Fin' m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := barOwe) (howed₀ := fun _ => rfl) (howedN := fun _ => rfl)
    (L := L) (lv := lv) (hL := L_of_ne) (hwaits := waits m ρ)
    (G := G (inp m ρ)) (G' := G' (inp m ρ)) (u₀ := u₀)
    (hu₀ := by
      unfold u₀
      iintro Hu
      ihave H := (ownU_pair _ _) $$ Hu
      icases H with ⟨HP, HX⟩
      imod (fund_cube (inp m ρ)) $$ HX with HG
      imodintro
      isplitl [HP] <;> iassumption)
    (hglob := glob (inp m ρ))
    (hA := fun _ _ => rfl) (hpf := fun _ k => k.elim0)
    (X := start m ρ) (Y := fun c => iprop(unscopedSems0 c ∗ wHbm c ((inp m ρ).W c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Hw⟩, -, HSI⟩
      unfold wHbm
      ihave %hw := (SI_pointsTo_agree) $$ [HSI Hw]
      · isplitl [HSI] <;> iassumption
      imod (Pipeline.unscopedSems0_read (X := unscopedSems0 c) (c := c) fupd_intro s') $$ [Hu HSI] with ⟨%hu, HSI⟩
      · isplitl [Hu] <;> iassumption
      imodintro
      isplitr
      · ipureintro
        exact ⟨hu, funext fun i => hw i (Finset.mem_univ _)⟩
      iexact HSI)
    (hQ := fun _ h hs => ⟨fun c => ⟨(h c).1, (h c).2.2.2⟩, sem_eq_zero hs fun c => (h c).2.2.1⟩)

/-- The data's array after the run holds what it held; -/
theorem finalA_in (c : Dev nD) : finalA m ρ c (0 : Fin 2) = m ((c : Thread nD τ).loc main_arg0) :=
  (dats (F := F) m ρ 0 c).arrAt_in (0 : Fin 2) rfl _

end Cube

end
-- ==== Proof.Result.lean ====
/-
# The run read at the kernel's arguments and its result
-/
module

public import proofs.«01_k».proof.Proof.Launch
public import Idealize.ShloMosaic.Lib.Pipeline.Value

@[expose] public section

noncomputable section

namespace Cube

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem zero_off0 : (fun a => (win0_0.index (0 : Fin 1)) a * main_arg0.ty.shape.size a) = fun _ => 0 := funext fun a => by fin_cases a <;> decide
theorem zero_off1 : (fun a => (win0_1.index (0 : Fin 1)) a * main_v1.ty.shape.size a) = fun _ => 0 := funext fun a => by fin_cases a <;> decide

/-- The data a device stages is its whole argument. -/
theorem tIn_eq (c : Dev nD) : tIn m ρ c = m ((c : Thread nD τ).loc main_arg0) :=
  Memref.read_access_unit_zero (Elt F) main_arg0 zero_off0 (fun a => by fin_cases a <;> decide) _

/-- The result's array after the run holds what the body left in its staging buffer. -/
theorem finalA_out (c : Dev nD) : finalA m ρ c (1 : Fin 2) = OUT (inp m ρ) := by
  have h : (win0_1.blk (0 : Fin 1)).view.read (Elt F) (finalA m ρ c (1 : Fin 2)) = OUT (inp m ρ) := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 zero_off1 (fun a => by fin_cases a <;> decide) _).symm.trans h

/-- Every device ends with the result, its arguments unchanged, and every counter at zero. -/
theorem run_result : θ_run defs (onTc (τ := τ) (main (F := F))) ⟨m, fun _ => 0, ρ⟩ (fun r => (∀ c : Dev nD,
      r.2.mem ((c : Thread nD τ).loc main_v1) = OUT (inp m ρ)
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => ⟨((h.1 c).1 (1 : Fin 2)).trans (finalA_out m ρ c),
    ((h.1 c).1 (0 : Fin 2)).trans (finalA_in m ρ c), (h.1 c).2⟩, h.2⟩) (run_main m ρ)

end Cube

end
-- ==== Proof.Frames.lean ====
/-
# The frames of the three programs
-/
module

public import proofs.«01_k».proof.Defs
public import proofs.«01_k».proof.Proof.Result
public import proofs.«01_k».proof.Proof.Gen.Kernel
public import proofs.«01_k».proof.Proof.Gen.ReferenceIdeal.Run

@[expose] public section

noncomputable section

namespace Cube

open Idealize.ShloMosaic Idealize.SL.Sem

theorem frame_ideal : Cert.quiescent_KernelIdeal := fun m ρ _ =>
  (θ_run Cert.KernelIdeal.defs _ _).mono (fun _ h => ⟨fun c => (h.1 c).2, h.2⟩) (run_result (F := Ideal) m ρ)

theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_result m ρ)

/-- The kernel and its idealization are one text: their bodies, label by label, -/
theorem defs₀_eq : (Cert.Kernel.defs₀ (F := Bits)) = Cert.KernelIdeal.defs₀ (F := Bits) := by
  unfold Cert.Kernel.defs₀ Cert.KernelIdeal.defs₀
  refine congrArg Defs.onTc ?_
  funext l a
  rcases l with ⟨_ | _, h⟩
  · obtain ⟨t, s⟩ := a
    show Cert.Kernel.cc0_body _ _ _ _ _ _ _ _ _ _ _ _ _ _ _ _ _ _ _ = Cert.KernelIdeal.cc0_body _ _ _ _ _ _ _ _ _ _ _ _ _ _ _ _ _ _ _
    rfl
  · exact absurd h (Nat.not_lt.2 (Nat.le_add_left _ _))
/-- and so their tables. -/
theorem defs_eq : (Cert.Kernel.defs (F := Bits)) = Cert.KernelIdeal.defs (F := Bits) :=
  congrArg (Pipeline.defs Cert.KernelIdeal.pcfgs) defs₀_eq

theorem frame_kernel : Cert.quiescent_Kernel := fun m ρ _ => by
  rw [defs_eq]
  exact frame_any (F := Bits) m ρ

/-- The reference has one device and no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cube

end
-- ==== Proof.RefValue.lean ====
/-
# The reference's value

The reference adds the eight blocks of rows of its first operand and multiplies the sum by the second.
-/
module

public import proofs.«01_k».proof.Proof.Gen.ReferenceIdeal.Run
public import Idealize.ShloMosaic.Lib.Pointwise

@[expose] public section

noncomputable section

namespace Cube

open Cert.ReferenceIdeal Cert.ReferenceIdeal.Gen
open Idealize.ShloMosaic

/-- The reference's result as a function of its two operands. -/
def REF (t : FVec Ideal S16384x1024 .f32) (w : FVec Ideal S1024x1024 .f32) : FVec Ideal S2048x1024 .bf16 :=
  truncf .bf16 (Host.dotGeneral dot_S2048x1024_S1024x1024_S2048x1024_1_0_0_1_n_n none
    (Host.reduceAdd (shapeCast _ t shapeCasts_S16384x1024_S8x2048x1024) (constant S_ .f32 0x00000000#32) reducesTo_S8x2048x1024_S2048x1024_d0 h_S_) w) bitsLt_bf16_f32

theorem REF_apply (t : FVec Ideal S16384x1024 .f32) (w : FVec Ideal S1024x1024 .f32) (a : Fin 2048) (b : Fin 1024) :
    (REF t w (ix2 a b) : EReal) =
      ∑ k : Fin 1024, (∑ d : Fin 8, (t (ix2 ⟨d.val * 2048 + a.val, by omega⟩ k) : EReal)) * (w (ix2 k b) : EReal) := by
  unfold REF
  pointwise

end Cube

end
-- ==== Proof.Values.lean ====
/-
# What the kernel computes

Over the reals a cast is the identity, so the three scatter stages add up the summands of the eight devices, in the order in
which a pipeline meets them. A device's band of the result is then its rows of that sum times the weights, and so is the
reference's result, whose summands are the blocks of the whole operand.
-/
module

public import proofs.«01_k».proof.Defs
public import proofs.«01_k».proof.Proof.Result
public import proofs.«01_k».proof.Proof.RefValue
public import Idealize.ShloMosaic.Lib.Layout

@[expose] public section

noncomputable section

namespace Cube

open Cert.KernelIdeal
open Idealize.ShloMosaic Idealize.SL.Sem

/-! ## The sum over the cube -/

/-- The devices in the order in which their summands reach device `c` in pipeline `p`. -/
def cub (p : Fin 3) (c : Dev nD) : Fin 8 → Fin 8 :=
  let q := pt (ms p 2) c
  ![c, pt (ms p 0) c, pt (ms p 1) c, pt (ms p 0) (pt (ms p 1) c),
    q, pt (ms p 0) q, pt (ms p 1) q, pt (ms p 0) (pt (ms p 1) q)]

/-- Every device is met once. -/
theorem cub_inj : ∀ p c a b, cub p c a = cub p c b → a = b := by decide +kernel

theorem sum_cub (p : Fin 3) (c : Dev nD) (f : Fin 8 → EReal) : ∑ k, f (cub p c k) = ∑ d, f d :=
  (Equiv.ofBijective (cub p c) (Finite.injective_iff_bijective.1 fun a b h => cub_inj p c a b h)).sum_comp f

variable (I : In Ideal)

theorem V0_apply (c : Dev nD) (i : S2048x1024.Idx) : V0 I c i = I.T c i := rfl
theorem V1_apply (p : Fin 3) (c : Dev nD) (i : S2048x1024.Idx) :
    (V1 I p c i : EReal) = (I.T c i : EReal) + (I.T (pt (ms p 0) c) i : EReal) := rfl
theorem V2_apply (p : Fin 3) (c : Dev nD) (i : S2048x1024.Idx) :
    (V2 I p c i : EReal) = (V1 I p c i : EReal) + (V1 I p (pt (ms p 1) c) i : EReal) := rfl
theorem V3_step (p : Fin 3) (c : Dev nD) (i : S2048x1024.Idx) :
    (V3 I p c i : EReal) = (V2 I p c i : EReal) + (V2 I p (pt (ms p 2) c) i : EReal) := rfl

/-- After the third stage a row holds the sum over all devices. -/
theorem V3_apply (p : Fin 3) (c : Dev nD) (i : S2048x1024.Idx) :
    (V3 I p c i : EReal) = ∑ d : Fin 8, (I.T d i : EReal) := by
  rw [← sum_cub p c (fun d => (I.T d i : EReal)), Fin.sum_univ_eight, V3_step, V2_apply, V2_apply, V1_apply, V1_apply, V1_apply, V1_apply]
  simp only [add_assoc]
  rfl

/-! ## The bands of the product -/

theorem O0_apply (c : Dev nD) (a : Fin 96) (b : Fin 1024) :
    (O0 I c (ix2 a b) : EReal) = ∑ k : Fin 1024, (∑ d : Fin 8, (I.T d (at2 (row 0 0 c + a.val) k) : EReal)) * (I.W c (ix2 k b) : EReal) := by
  unfold O0
  pointwise
  refine Finset.sum_congr rfl fun k _ => ?_
  rw [← V3_apply I 0 c]
  rfl

theorem O12_apply (p : Fin 3) (c : Dev nD) (a : Fin 80) (b : Fin 1024) :
    (O12 I p c (ix2 a b) : EReal) = ∑ k : Fin 1024, (∑ d : Fin 8, (I.T d (at2 (row p 0 c + a.val) k) : EReal)) * (I.W c (ix2 k b) : EReal) := by
  unfold O12
  pointwise
  refine Finset.sum_congr rfl fun k _ => ?_
  rw [← V3_apply I p c]
  rfl

/-! ## The whole result -/

/-- The row of a chunk's band, from the chunk's owner. -/
theorem at2_own (p : Fin 3) (a : Fin 2048) (k : Fin 1024) (w : ℕ) (hw : roff p + w = a.val % 256) :
    at2 (row p 0 (lg ⟨a.val / 256, by omega⟩) + w) k = ix2 a k := by
  have hc : ∀ q : Fin 8, ch (lg q) 0 = q := by decide
  have e : row p 0 (lg ⟨a.val / 256, by omega⟩) + w = a.val := by
    unfold row
    rw [hc]
    show a.val / 256 * 256 + roff p + w = a.val
    omega
  rw [e]
  exact at2_self (ix2 a k)

theorem OUT_apply (w : Vec Ideal S1024x1024 .f32) (hW : ∀ c, I.W c = w) (a : Fin 2048) (b : Fin 1024) :
    (OUT I (ix2 a b) : EReal) = ∑ k : Fin 1024, (∑ d : Fin 8, (I.T d (ix2 a k) : EReal)) * (w (ix2 k b) : EReal) := by
  unfold OUT
  dsimp only
  have h0 : ((ix2 a b : S2048x1024.Idx) 0).val = a.val := rfl
  split_ifs with h h'
  · refine (O0_apply I _ ⟨a.val % 256, h⟩ b).trans ?_
    simp only [hW]
    refine Finset.sum_congr rfl fun k _ => ?_
    have := at2_own 0 a k (a.val % 256) (Nat.zero_add _)
    exact congrArg (fun i => (∑ d : Fin 8, (I.T d i : EReal)) * (w (ix2 k b) : EReal)) this
  · have h1 : ¬ a.val % 256 < 96 := h
    have h2 : a.val % 256 < 176 := h'
    refine (O12_apply I 1 _ ⟨a.val % 256 - 96, by omega⟩ b).trans ?_
    simp only [hW]
    refine Finset.sum_congr rfl fun k _ => ?_
    have := at2_own 1 a k (a.val % 256 - 96) (by show 96 + _ = _; omega)
    exact congrArg (fun i => (∑ d : Fin 8, (I.T d i : EReal)) * (w (ix2 k b) : EReal)) this
  · have h1 : ¬ a.val % 256 < 176 := h'
    refine (O12_apply I 2 _ ⟨a.val % 256 - 176, by omega⟩ b).trans ?_
    simp only [hW]
    refine Finset.sum_congr rfl fun k _ => ?_
    have := at2_own 2 a k (a.val % 256 - 176) (by show 176 + _ = _; omega)
    exact congrArg (fun i => (∑ d : Fin 8, (I.T d i : EReal)) * (w (ix2 k b) : EReal)) this

/-! ## The two agree -/

theorem OUT_eq_REF (t : FVec Ideal Cert.ReferenceIdeal.S16384x1024 .f32) (w : FVec Ideal Cert.ReferenceIdeal.S1024x1024 .f32)
    (hT : ∀ c, I.T c = Layout.block ⟨2, ![2048, 1024]⟩ ⟨2, ![16384, 1024]⟩ 0 8 c t) (hW : ∀ c, I.W c = w) :
    OUT I = REF t w := by
  funext i
  obtain ⟨a, b, rfl⟩ : ∃ (a : Fin 2048) (b : Fin 1024), i = ix2 a b := ⟨i 0, i 1, eq_ix2 i⟩
  refine (OUT_apply I w hW a b).trans ((REF_apply t w a b).trans ?_).symm
  refine Finset.sum_congr rfl fun k _ => ?_
  refine congrArg (· * (w (ix2 k b) : EReal)) (Finset.sum_congr rfl fun d _ => ?_)
  rw [hT]
  refine congrArg t ?_
  funext x
  fin_cases x <;> rfl

/-- The kernel, from the blocks of the reference's operands, ends with the reference's result on every device. -/
theorem algebraic : Cert.algebraic_KernelIdeal_ReferenceIdeal := by
  intro m ρ m' ρ' _ hin
  refine ⟨REF (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · have e := OUT_eq_REF (inp (F := Ideal) m ρ) _ _ (fun c => (tIn_eq m ρ c).trans (hin c).1) (fun c => (hin c).2)
    exact (θ_run Cert.KernelIdeal.defs _ _).mono (fun r h c => ⟨((h.1 c).1).trans e, (h.1 c).2⟩) (run_result (F := Ideal) m ρ)
  · exact (θ_run Cert.ReferenceIdeal.defs _ _).mono (fun r h => h 0) (Cert.ReferenceIdeal.Value.run (F := Ideal) m' ρ')

end Cube

end
-- ==== Proof.lean ====
/-
# The claims about the all-reduce-then-matmul kernel

The frames are in `Frames`, the value in `Values`; no rewrite rule is used, so `preserves` says nothing more.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Values

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cube.frame_kernel, Cube.frame_ideal, Cube.frame_ref, trivial, Cube.algebraic⟩

end Cert.Proof

end
